-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.1 = (fun _ => 1#1)
    ∧ (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.1 = (fun _ => 1#1)
    ∧ (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2.2 = (fun _ => 1#1)

def Pre_Kernel2 [hPre_routed : Cert.Pre_routed.Facts] (m : (ℓ : Loc Cert.Kernel2.nD Cert.Kernel2.τ Cert.Kernel2.sig) → Buf (Elt Bits) ℓ) : Prop :=
  ∀ c : Dev Cert.Kernel2.nD,
    (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).1 = (fun _ => 1#1)
    ∧ (Cert.Pre_routed.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))).2 = (fun _ => 1#1)

def Pre_Kernel2Ideal [hPre_routed : Cert.Pre_routed.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_routed.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_routed [hPre_routed : Cert.Pre_routed.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_routed.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] [hPre_routed : Cert.Pre_routed.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_routed [hReference2Ideal : Cert.Reference2Ideal.Facts] [hPre_routed : Cert.Pre_routed.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_routed m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def preserves_Kernel_KernelIdeal : Prop :=
  True

def algebraic_KernelIdeal_ReferenceIdeal_pre_finite_weights [hKernelIdeal : Cert.KernelIdeal.Facts] [hReferenceIdeal : Cert.ReferenceIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_weights m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14_0)) (v1 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14_0) = v0 c
          ∧ r.2.mem ((c.tc : Thread Cert.KernelIdeal.nD Cert.KernelIdeal.τ).loc Cert.KernelIdeal.main_v14_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] [hPre_routed : Cert.Pre_routed.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v63)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v63) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v72) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def preserves_Kernel4_Kernel4Ideal : Prop :=
  True

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hKernel4 : Cert.Kernel4.Facts) (hKernel4Ideal : Cert.Kernel4Ideal.Facts) (hPre_finite_weights : Cert.Pre_finite_weights.Facts) (hPre_routed : Cert.Pre_routed.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ quiescent_Kernel2 (hKernel2 := hKernel2) (hPre_routed := hPre_routed)
    ∧ quiescent_Kernel2Ideal (hKernel2Ideal := hKernel2Ideal) (hPre_routed := hPre_routed)
    ∧ quiescent_Reference2Ideal (hReference2Ideal := hReference2Ideal)
    ∧ quiescent_Reference2Ideal_pre_routed (hReference2Ideal := hReference2Ideal) (hPre_routed := hPre_routed)
    ∧ quiescent_Kernel3 (hKernel3 := hKernel3)
    ∧ quiescent_Kernel3Ideal (hKernel3Ideal := hKernel3Ideal)
    ∧ quiescent_Kernel4 (hKernel4 := hKernel4)
    ∧ quiescent_Kernel4Ideal (hKernel4Ideal := hKernel4Ideal)
    ∧ preserves_Kernel_KernelIdeal
    ∧ algebraic_KernelIdeal_ReferenceIdeal_pre_finite_weights (hKernelIdeal := hKernelIdeal) (hReferenceIdeal := hReferenceIdeal) (hPre_finite_weights := hPre_finite_weights)
    ∧ preserves_Kernel2_Kernel2Ideal
    ∧ algebraic_Kernel2Ideal_Reference2Ideal (hKernel2Ideal := hKernel2Ideal) (hReference2Ideal := hReference2Ideal) (hPre_routed := hPre_routed)
    ∧ preserves_Kernel3_Kernel3Ideal
    ∧ preserves_Kernel4_Kernel4Ideal
-- ==== Pre_finite_weights.lean ====
abbrev S4x4096x2048 : Shape := ⟨3, ![4, 4096, 2048]⟩
abbrev S1x2048 : Shape := ⟨2, ![1, 2048]⟩
abbrev S1x2048x11312 : Shape := ⟨3, ![1, 2048, 11312]⟩
abbrev S2048x11312 : Shape := ⟨2, ![2048, 11312]⟩
abbrev S2048 : Shape := ⟨1, ![2048]⟩
abbrev S_ : Shape := ⟨0, ![]⟩
abbrev S2048x32 : Shape := ⟨2, ![2048, 32]⟩
abbrev S2048x16 : Shape := ⟨2, ![2048, 16]⟩

class Facts : Prop where
  shapeCasts_S1x2048x11312_S2048x11312 : S1x2048x11312.ShapeCasts S2048x11312
  shapeCasts_S1x2048_S2048 : S1x2048.ShapeCasts S2048
  bcast_S_S2048 : S_.BroadcastsInDim S2048 (![] : Fin 0 → Fin S2048.rank)
  slices_S2048x11312_S2048x32_0_5120 : S2048x11312.Slices ![0, 5120] S2048x32
  bcast_S_S2048x32 : S_.BroadcastsInDim S2048x32 (![] : Fin 0 → Fin S2048x32.rank)
  slices_S2048x11312_S2048x16_0_11296 : S2048x11312.Slices ![0, 11296] S2048x16
  bcast_S_S2048x16 : S_.BroadcastsInDim S2048x16 (![] : Fin 0 → Fin S2048x16.rank)

variable [Facts]

def fn {F : FTy → Type} [FloatOps F] (main_arg0 : FVec F S4x4096x2048 .f32) (main_arg1 : FVec F S1x2048 .f32) (main_arg2 : FVec F S1x2048x11312 .f32) : IVec S2048 1 × IVec S2048x32 1 × IVec S2048x16 1 :=
  let main_v0 : FVec F S2048x11312 .f32 := shapeCast S2048x11312 main_arg2 shapeCasts_S1x2048x11312_S2048x11312
  let main_v1 : FVec F S2048 .f32 := shapeCast S2048 main_arg1 shapeCasts_S1x2048_S2048
  let main_v2 : FVec F S2048 .f32 := subf main_v1 main_v1
  let main_cst : FVec F S_ .f32 := constant S_ .f32 0x00000000#32
  let main_v3 : FVec F S2048 .f32 := broadcastInDim S2048 ![] bcast_S_S2048 main_cst
  let main_v4 : IVec S2048 1 := cmpf .oeq main_v2 main_v3
  let main_v5 : FVec F S2048x32 .f32 := (extractStridedSlice S2048x32 ![0, 5120] · slices_S2048x11312_S2048x32_0_5120) main_v0
  let main_v6 : FVec F S2048x32 .f32 := subf main_v5 main_v5
  let main_cst_0 : FVec F S_ .f32 := constant S_ .f32 0x00000000#32
  let main_v7 : FVec F S2048x32 .f32 := broadcastInDim S2048x32 ![] bcast_S_S2048x32 main_cst_0
  let main_v8 : IVec S2048x32 1 := cmpf .oeq main_v6 main_v7
  let main_v9 : FVec F S2048x16 .f32 := (extractStridedSlice S2048x16 ![0, 11296] · slices_S2048x11312_S2048x16_0_11296) main_v0
  let main_v10 : FVec F S2048x16 .f32 := subf main_v9 main_v9
  let main_cst_1 : FVec F S_ .f32 := constant S_ .f32 0x00000000#32
  let main_v11 : FVec F S2048x16 .f32 := broadcastInDim S2048x16 ![] bcast_S_S2048x16 main_cst_1
  let main_v12 : IVec S2048x16 1 := cmpf .oeq main_v10 main_v11
  (main_v4, main_v8, main_v12)
-- ==== Pre_routed.lean ====
abbrev S32 : Shape := ⟨1, ![32]⟩
abbrev S89856x2048 : Shape := ⟨2, ![89856, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S_ : Shape := ⟨0, ![]⟩

class Facts : Prop where
  bcast_S_S32 : S_.BroadcastsInDim S32 (![] : Fin 0 → Fin S32.rank)
  reducesTo_S32_S_d0 : S32.ReducesTo [0] S_
  h_S_ : 0 < S_.numel

variable [Facts]

def fn {F : FTy → Type} [FloatOps F] (main_arg0 : IVec S32 32) (main_arg1 : FVec F S89856x2048 .bf16) (main_arg2 : FVec F S1x32x2048x4096 .f32) (main_arg3 : FVec F S1x32x4096 .f32) (main_arg4 : FVec F S1x32x2048x2048 .f32) (main_arg5 : FVec F S1x32x2048 .f32) : IVec S32 1 × IVec S_ 1 :=
  let main_c : IVec S_ 32 := constantI S_ 32 0#32
  let main_v0 : IVec S32 32 := broadcastInDim S32 ![] bcast_S_S32 main_c
  let main_v1 : IVec S32 1 := cmpi .sge main_arg0 main_v0
  let main_c_0 : IVec S_ 32 := constantI S_ 32 65536#32
  let main_v2 : IVec S32 32 := broadcastInDim S32 ![] bcast_S_S32 main_c_0
  let main_v3 : IVec S32 1 := cmpi .sle main_arg0 main_v2
  let main_v4 : IVec S32 1 := andi main_v1 main_v3
  let main_c_1 : IVec S_ 32 := constantI S_ 32 0#32
  let main_v5 : IVec S_ 32 := (fun x v => Host.reduce IntOp.addi x v reducesTo_S32_S_d0 h_S_) main_arg0 main_c_1
  let main_c_2 : IVec S_ 32 := constantI S_ 32 1#32
  let main_v6 : IVec S_ 1 := cmpi .sge main_v5 main_c_2
  (main_v4, main_v6)
-- ==== Kernel.lean ====
abbrev S4x4096x2048 : Shape := ⟨3, ![4, 4096, 2048]⟩
abbrev S1x2048 : Shape := ⟨2, ![1, 2048]⟩
abbrev S1x2048x11312 : Shape := ⟨3, ![1, 2048, 11312]⟩
abbrev S11 : Shape := ⟨1, ![11]⟩
abbrev S16384x2048 : Shape := ⟨2, ![16384, 2048]⟩
abbrev S2048x11312 : Shape := ⟨2, ![2048, 11312]⟩
abbrev S11312x2048 : Shape := ⟨2, ![11312, 2048]⟩
abbrev S32x2048 : Shape := ⟨2, ![32, 2048]⟩
abbrev S16x2048 : Shape := ⟨2, ![16, 2048]⟩
abbrev S_ : Shape := ⟨0, ![]⟩
abbrev S80x2048 : Shape := ⟨2, ![80, 2048]⟩
abbrev S128x2048 : Shape := ⟨2, ![128, 2048]⟩
abbrev S2048 : Shape := ⟨1, ![2048]⟩
abbrev S16384x11264 : Shape := ⟨2, ![16384, 11264]⟩
abbrev S16384x128 : Shape := ⟨2, ![16384, 128]⟩
abbrev S1024x2048 : Shape := ⟨2, ![1024, 2048]⟩
abbrev S1 : Shape := ⟨1, ![1]⟩
abbrev S1024x1024 : Shape := ⟨2, ![1024, 1024]⟩
abbrev S1024x128 : Shape := ⟨2, ![1024, 128]⟩
abbrev S1024 : Shape := ⟨1, ![1024]⟩
abbrev S1024x1 : Shape := ⟨2, ![1024, 1]⟩

abbrev nBuf : Space → Nat
  | .hbm => 20
  | .vmem => 12
  | .smem => 1
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11312, .f32⟩
  | .hbm, ⟨3, _⟩ => ⟨S16384x2048, .f32⟩
  | .hbm, ⟨4, _⟩ => ⟨S2048x11312, .f32⟩
  | .hbm, ⟨5, _⟩ => ⟨S11312x2048, .f32⟩
  | .hbm, ⟨6, _⟩ => ⟨S32x2048, .f32⟩
  | .hbm, ⟨7, _⟩ => ⟨S16x2048, .f32⟩
  | .hbm, ⟨8, _⟩ => ⟨S_, .f32⟩
  | .hbm, ⟨9, _⟩ => ⟨S80x2048, .f32⟩
  | .hbm, ⟨10, _⟩ => ⟨S128x2048, .f32⟩
  | .hbm, ⟨11, _⟩ => ⟨S128x2048, .bf16⟩
  | .hbm, ⟨12, _⟩ => ⟨S128x2048, .f32⟩
  | .hbm, ⟨13, _⟩ => ⟨S128x2048, .f32⟩
  | .hbm, ⟨14, _⟩ => ⟨S128x2048, .bf16⟩
  | .hbm, ⟨15, _⟩ => ⟨S2048, .f32⟩
  | .hbm, ⟨16, _⟩ => ⟨S1x2048, .f32⟩
  | .hbm, ⟨17, _⟩ => ⟨S11312x2048, .bf16⟩
  | .hbm, ⟨18, _⟩ => ⟨S16384x11264, .bf16⟩
  | .hbm, ⟨19, _⟩ => ⟨S16384x128, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | .local _ .vmem, ⟨5, _⟩ => ⟨S128x2048, .bf16⟩
  | .local _ .vmem, ⟨6, _⟩ => ⟨S128x2048, .bf16⟩
  | .local _ .vmem, ⟨7, _⟩ => ⟨S1024x1024, .bf16⟩
  | .local _ .vmem, ⟨8, _⟩ => ⟨S1024x1024, .bf16⟩
  | .local _ .vmem, ⟨9, _⟩ => ⟨S1024x128, .f32⟩
  | .local _ .vmem, ⟨10, _⟩ => ⟨S1024x128, .f32⟩
  | .local _ .vmem, ⟨11, _⟩ => ⟨S1024x2048, .bf16⟩
  | .local _ .smem, ⟨0, _⟩ => ⟨S11, .i32⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14_0 : Ref sig .tc := ⟨.hbm, 18, rfl⟩
abbrev main_v14_1 : Ref sig .tc := ⟨.hbm, 19, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![16, 11], ![false, false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_mult1 (pf : pre0.Contents (Elt F)) (i : grid0.Coords) : BitVec 32 :=
  let arg1 : BitVec 32 := BitVec.ofNat 32 (i 1).val
  let v0 : Index := Scalar.indexCast arg1
  let v1 : BitVec 32 := pf.atD 0 ![v0.toNat]
  v1

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (k0_off1_inb : ∀ i : grid0.Coords, ∀ a, (k0_off1 i) a + S1.size a ≤ S11.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S11) ![v0.toNat] S1.size (k0_off1_inb i)) numel1_S1
  let v2 : BitVec 32 := v1
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S4x4096x2048 : Shape := ⟨3, ![4, 4096, 2048]⟩
abbrev S1x2048 : Shape := ⟨2, ![1, 2048]⟩
abbrev S1x2048x11312 : Shape := ⟨3, ![1, 2048, 11312]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S2048x11312 : Shape := ⟨2, ![2048, 11312]⟩
abbrev S4x4096x11312 : Shape := ⟨3, ![4, 4096, 11312]⟩
abbrev S4x4096x3072 : Shape := ⟨3, ![4, 4096, 3072]⟩
abbrev S4x4096x32 : Shape := ⟨3, ![4, 4096, 32]⟩
abbrev S4x4096x1024 : Shape := ⟨3, ![4, 4096, 1024]⟩
abbrev S4x4096x16 : Shape := ⟨3, ![4, 4096, 16]⟩
abbrev S4x4096x11264 : Shape := ⟨3, ![4, 4096, 11264]⟩
abbrev S4x4096x80 : Shape := ⟨3, ![4, 4096, 80]⟩
abbrev S4x4096x128 : Shape := ⟨3, ![4, 4096, 128]⟩
abbrev S16384x11264 : Shape := ⟨2, ![16384, 11264]⟩
abbrev S16384x128 : Shape := ⟨2, ![16384, 128]⟩

abbrev nBuf : Space → Nat
  | .hbm => 39
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S1x2048, .f32⟩
  | .hbm, ⟨2, _⟩ => ⟨S1x2048x11312, .f32⟩
  | .hbm, ⟨3, _⟩ => ⟨S2048, .f32⟩
  | .hbm, ⟨4, _⟩ => ⟨S4x4096x2048, .f32⟩
  | .hbm, ⟨5, _⟩ => ⟨S_, .f32⟩
  | .hbm, ⟨6, _⟩ => ⟨S4x4096, .f32⟩
  | .hbm, ⟨7, _⟩ => ⟨S4x4096x1, .f32⟩
  | .hbm, ⟨8, _⟩ => ⟨S_, .f32⟩
  | .hbm, ⟨9, _⟩ => ⟨S4x4096x1, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S4x4096x1, .f32⟩
  | .hbm, ⟨15, _⟩ => ⟨S4x4096x2048, .f32⟩
  | .hbm, ⟨16, _⟩ => ⟨S4x4096x2048, .f32⟩
  | .hbm, ⟨17, _⟩ => ⟨S1x1x2048, .f32⟩
  | .hbm, ⟨18, _⟩ => ⟨S4x4096x2048, .f32⟩
  | .hbm, ⟨19, _⟩ => ⟨S4x4096x2048, .f32⟩
  | .hbm, ⟨20, _⟩ => ⟨S2048x11312, .f32⟩
  | .hbm, ⟨21, _⟩ => ⟨S4x4096x11312, .f32⟩
  | .hbm, ⟨22, _⟩ => ⟨S4x4096x2048, .f32⟩
  | .hbm, ⟨23, _⟩ => ⟨S4x4096x3072, .f32⟩
  | .hbm, ⟨24, _⟩ => ⟨S4x4096x32, .f32⟩
  | .hbm, ⟨25, _⟩ => ⟨S4x4096x1024, .f32⟩
  | .hbm, ⟨26, _⟩ => ⟨S4x4096x1024, .f32⟩
  | .hbm, ⟨27, _⟩ => ⟨S4x4096x2048, .f32⟩
  | .hbm, ⟨28, _⟩ => ⟨S4x4096x2048, .f32⟩
  | .hbm, ⟨29, _⟩ => ⟨S4x4096x16, .f32⟩
  | .hbm, ⟨30, _⟩ => ⟨S4x4096x2048, .f32⟩
  | .hbm, ⟨31, _⟩ => ⟨S4x4096x1024, .f32⟩
  | .hbm, ⟨32, _⟩ => ⟨S4x4096x11264, .f32⟩
  | .hbm, ⟨33, _⟩ => ⟨S_, .f32⟩
  | .hbm, ⟨34, _⟩ => ⟨S4x4096x80, .f32⟩
  | .hbm, ⟨35, _⟩ => ⟨S4x4096x128, .f32⟩
  | .hbm, ⟨36, _⟩ => ⟨S16384x11264, .f32⟩
  | .hbm, ⟨37, _⟩ => ⟨S16384x11264, .bf16⟩
  | .hbm, ⟨38, _⟩ => ⟨S16384x128, .f32⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_cst_2 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩

abbrev nD : Nat := 1
abbrev τ : Topo := Topo.v7x

variable {F : FTy → Type} [FloatOps F]
-- ==== Kernel2.lean ====
abbrev S32 : Shape := ⟨1, ![32]⟩
abbrev S89856x2048 : Shape := ⟨2, ![89856, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S_ : Shape := ⟨0, ![]⟩
abbrev S117 : Shape := ⟨1, ![117]⟩
abbrev S1 : Shape := ⟨1, ![1]⟩
abbrev S1x32 : Shape := ⟨2, ![1, 32]⟩
abbrev S117x1 : Shape := ⟨2, ![117, 1]⟩
abbrev S117x32 : Shape := ⟨2, ![117, 32]⟩
abbrev S116 : Shape := ⟨1, ![116]⟩
abbrev S32x2048x4096 : Shape := ⟨3, ![32, 2048, 4096]⟩
abbrev S32x2048x2048 : Shape := ⟨3, ![32, 2048, 2048]⟩
abbrev S32x4096 : Shape := ⟨2, ![32, 4096]⟩
abbrev S32x1x4096 : Shape := ⟨3, ![32, 1, 4096]⟩
abbrev S32x2048 : Shape := ⟨2, ![32, 2048]⟩
abbrev S32x1x2048 : Shape := ⟨3, ![32, 1, 2048]⟩
abbrev S768x2048 : Shape := ⟨2, ![768, 2048]⟩
abbrev S1x2048x512 : Shape := ⟨3, ![1, 2048, 512]⟩
abbrev S1x512x2048 : Shape := ⟨3, ![1, 512, 2048]⟩
abbrev S1x1x512 : Shape := ⟨3, ![1, 1, 512]⟩
abbrev S1x1x2048 : Shape := ⟨3, ![1, 1, 2048]⟩
abbrev S4x768x512 : Shape := ⟨3, ![4, 768, 512]⟩
abbrev S2048x512 : Shape := ⟨2, ![2048, 512]⟩
abbrev S2048x2048 : Shape := ⟨2, ![2048, 2048]⟩
abbrev S256x1024 : Shape := ⟨2, ![256, 1024]⟩
abbrev S512x2048 : Shape := ⟨2, ![512, 2048]⟩
abbrev S256x2048 : Shape := ⟨2, ![256, 2048]⟩
abbrev S256x512 : Shape := ⟨2, ![256, 512]⟩
abbrev S1x512 : Shape := ⟨2, ![1, 512]⟩
abbrev S1x256x512 : Shape := ⟨3, ![1, 256, 512]⟩
abbrev S1x2048 : Shape := ⟨2, ![1, 2048]⟩

abbrev nBuf : Space → Nat
  | .hbm => 125
  | .vmem => 21
  | .smem => 4
  | _ => 0

abbrev bufTy : (tb : Table) → Fin (tcTables nBuf tb) → BufTy
  | .hbm, ⟨0, _⟩ => ⟨S32, .i32⟩
  | .hbm, ⟨1, _⟩ => ⟨S89856x2048, .bf16⟩
  | .hbm, ⟨2, _⟩ => ⟨S1x32x2048x4096, .f32⟩
  | .hbm, ⟨3, _⟩ => ⟨S1x32x4096, .f32⟩
  | .hbm, ⟨4, _⟩ => ⟨S1x32x2048x2048, .f32⟩
  | .hbm, ⟨5, _⟩ => ⟨S1x32x2048, .f32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S_, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S32, .i32⟩
  | .hbm, ⟨17, _⟩ => ⟨S_, .i32⟩
  | .hbm, ⟨18, _⟩ => ⟨S32, .i32⟩
  | .hbm, ⟨19, _⟩ => ⟨S32, .i1⟩
  | .hbm, ⟨20, _⟩ => ⟨S32, .i32⟩
  | .hbm, ⟨21, _⟩ => ⟨S32, .i32⟩
  | .hbm, ⟨22, _⟩ => ⟨S_, .i32⟩
  | .hbm, ⟨23, _⟩ => ⟨S32, .i32⟩
  | .hbm, ⟨24, _⟩ => ⟨S32, .i1⟩
  | .hbm, ⟨25, _⟩ => ⟨S32, .i1⟩
  | .hbm, ⟨26, _⟩ => ⟨S_, .i32⟩
  | .hbm, ⟨27, _⟩ => ⟨S32, .i32⟩
  | .hbm, ⟨28, _⟩ => ⟨S32, .i32⟩
  | .hbm, ⟨29, _⟩ => ⟨S32, .i32⟩
  | .hbm, ⟨30, _⟩ => ⟨S_, .i32⟩
  | .hbm, ⟨31, _⟩ => ⟨S_, .i32⟩
  | .hbm, ⟨32, _⟩ => ⟨S32, .i32⟩
  | .hbm, ⟨33, _⟩ => ⟨S32, .i32⟩
  | .hbm, ⟨34, _⟩ => ⟨S117, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S117, .i32⟩
  | .hbm, ⟨40, _⟩ => ⟨S1x32, .i32⟩
  | .hbm, ⟨41, _⟩ => ⟨S117x1, .i32⟩
  | .hbm, ⟨42, _⟩ => ⟨S117x32, .i32⟩
  | .hbm, ⟨43, _⟩ => ⟨S117x32, .i32⟩
  | .hbm, ⟨44, _⟩ => ⟨S117x32, .i1⟩
  | .hbm, ⟨45, _⟩ => ⟨S117x32, .i32⟩
  | .hbm, ⟨46, _⟩ => ⟨S_, .i32⟩
  | .hbm, ⟨47, _⟩ => ⟨S117, .i32⟩
  | .hbm, ⟨48, _⟩ => ⟨S_, .i32⟩
  | .hbm, ⟨49, _⟩ => ⟨S117, .i32⟩
  | .hbm, ⟨50, _⟩ => ⟨S_, .i32⟩
  | .hbm, ⟨51, _⟩ => ⟨S117, .i32⟩
  | .hbm, ⟨52, _⟩ => ⟨S117, .i1⟩
  | .hbm, ⟨53, _⟩ => ⟨S_, .i32⟩
  | .hbm, ⟨54, _⟩ => ⟨S117, .i32⟩
  | .hbm, ⟨55, _⟩ => ⟨S117, .i32⟩
  | .hbm, ⟨56, _⟩ => ⟨S117, .i32⟩
  | .hbm, ⟨57, _⟩ => ⟨S117x1, .i32⟩
  | .hbm, ⟨58, _⟩ => ⟨S117, .i32⟩
  | .hbm, ⟨59, _⟩ => ⟨S_, .i32⟩
  | .hbm, ⟨60, _⟩ => ⟨S117, .i32⟩
  | .hbm, ⟨61, _⟩ => ⟨S117, .i1⟩
  | .hbm, ⟨62, _⟩ => ⟨S_, .i32⟩
  | .hbm, ⟨63, _⟩ => ⟨S117, .i32⟩
  | .hbm, ⟨64, _⟩ => ⟨S117, .i32⟩
  | .hbm, ⟨65, _⟩ => ⟨S117, .i32⟩
  | .hbm, ⟨66, _⟩ => ⟨S117x1, .i32⟩
  | .hbm, ⟨67, _⟩ => ⟨S117, .i32⟩
  | .hbm, ⟨68, _⟩ => ⟨S117, .i32⟩
  | .hbm, ⟨69, _⟩ => ⟨S_, .i32⟩
  | .hbm, ⟨70, _⟩ => ⟨S117, .i32⟩
  | .hbm, ⟨71, _⟩ => ⟨S117, .i32⟩
  | .hbm, ⟨72, _⟩ => ⟨S117, .i32⟩
  | .hbm, ⟨73, _⟩ => ⟨S117, .i32⟩
  | .hbm, ⟨74, _⟩ => ⟨S117, .i1⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S117, .i32⟩
  | .hbm, ⟨79, _⟩ => ⟨S117, .i32⟩
  | .hbm, ⟨80, _⟩ => ⟨S_, .i32⟩
  | .hbm, ⟨81, _⟩ => ⟨S117, .i32⟩
  | .hbm, ⟨82, _⟩ => ⟨S117, .i32⟩
  | .hbm, ⟨83, _⟩ => ⟨S_, .i32⟩
  | .hbm, ⟨84, _⟩ => ⟨S117, .i32⟩
  | .hbm, ⟨85, _⟩ => ⟨S117, .i32⟩
  | .hbm, ⟨86, _⟩ => ⟨S_, .i32⟩
  | .hbm, ⟨87, _⟩ => ⟨S117, .i32⟩
  | .hbm, ⟨88, _⟩ => ⟨S117, .i32⟩
  | .hbm, ⟨89, _⟩ => ⟨S_, .i32⟩
  | .hbm, ⟨90, _⟩ => ⟨S_, .i32⟩
  | .hbm, ⟨91, _⟩ => ⟨S117, .i32⟩
  | .hbm, ⟨92, _⟩ => ⟨S117, .i32⟩
  | .hbm, ⟨93, _⟩ => ⟨S117, .i32⟩
  | .hbm, ⟨94, _⟩ => ⟨S_, .i32⟩
  | .hbm, ⟨95, _⟩ => ⟨S117, .i32⟩
  | .hbm, ⟨96, _⟩ => ⟨S117, .i1⟩
  | .hbm, ⟨97, _⟩ => ⟨S117, .i32⟩
  | .hbm, ⟨98, _⟩ => ⟨S117, .i32⟩
  | .hbm, ⟨99, _⟩ => ⟨S_, .i32⟩
  | .hbm, ⟨100, _⟩ => ⟨S117, .i32⟩
  | .hbm, ⟨101, _⟩ => ⟨S117, .i1⟩
  | .hbm, ⟨102, _⟩ => ⟨S117, .i1⟩
  | .hbm, ⟨103, _⟩ => ⟨S_, .i32⟩
  | .hbm, ⟨104, _⟩ => ⟨S117, .i32⟩
  | .hbm, ⟨105, _⟩ => ⟨S117, .i32⟩
  | .hbm, ⟨106, _⟩ => ⟨S117, .i32⟩
  | .hbm, ⟨107, _⟩ => ⟨S_, .i32⟩
  | .hbm, ⟨108, _⟩ => ⟨S_, .i32⟩
  | .hbm, ⟨109, _⟩ => ⟨S117, .i32⟩
  | .hbm, ⟨110, _⟩ => ⟨S_, .i32⟩
  | .hbm, ⟨111, _⟩ => ⟨S1, .i32⟩
  | .hbm, ⟨112, _⟩ => ⟨S116, .i32⟩
  | .hbm, ⟨113, _⟩ => ⟨S117, .i32⟩
  | .hbm, ⟨114, _⟩ => ⟨S117, .i1⟩
  | .hbm, ⟨115, _⟩ => ⟨S117, .i32⟩
  | .hbm, ⟨116, _⟩ => ⟨S117, .i1⟩
  | .hbm, ⟨117, _⟩ => ⟨S117, .i1⟩
  | .hbm, ⟨118, _⟩ => ⟨S32x2048x4096, .f32⟩
  | .hbm, ⟨119, _⟩ => ⟨S32x2048x2048, .f32⟩
  | .hbm, ⟨120, _⟩ => ⟨S32x4096, .f32⟩
  | .hbm, ⟨121, _⟩ => ⟨S32x1x4096, .f32⟩
  | .hbm, ⟨122, _⟩ => ⟨S32x2048, .f32⟩
  | .hbm, ⟨123, _⟩ => ⟨S32x1x2048, .f32⟩
  | .hbm, ⟨124, _⟩ => ⟨S89856x2048, .bf16⟩
  | .local _ .vmem, ⟨0, _⟩ => ⟨S768x2048, .bf16⟩
  | .local _ .vmem, ⟨1, _⟩ => ⟨S768x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x512x2048, .f32⟩
  | .local _ .vmem, ⟨7, _⟩ => ⟨S1x512x2048, .f32⟩
  | .local _ .vmem, ⟨8, _⟩ => ⟨S1x1x512, .f32⟩
  | .local _ .vmem, ⟨9, _⟩ => ⟨S1x1x512, .f32⟩
  | .local _ .vmem, ⟨10, _⟩ => ⟨S1x1x512, .f32⟩
  | .local _ .vmem, ⟨11, _⟩ => ⟨S1x1x512, .f32⟩
  | .local _ .vmem, ⟨12, _⟩ => ⟨S1x1x2048, .f32⟩
  | .local _ .vmem, ⟨13, _⟩ => ⟨S1x1x2048, .f32⟩
  | .local _ .vmem, ⟨14, _⟩ => ⟨S768x2048, .bf16⟩
  | .local _ .vmem, ⟨15, _⟩ => ⟨S768x2048, .bf16⟩
  | .local _ .vmem, ⟨16, _⟩ => ⟨S768x2048, .bf16⟩
  | .local _ .vmem, ⟨17, _⟩ => ⟨S4x768x512, .bf16⟩
  | .local _ .vmem, ⟨18, _⟩ => ⟨S2048x512, .bf16⟩
  | .local _ .vmem, ⟨19, _⟩ => ⟨S2048x512, .bf16⟩
  | .local _ .vmem, ⟨20, _⟩ => ⟨S2048x2048, .bf16⟩
  | .local _ .smem, ⟨0, _⟩ => ⟨S117, .i32⟩
  | .local _ .smem, ⟨1, _⟩ => ⟨S117, .i32⟩
  | .local _ .smem, ⟨2, _⟩ => ⟨S117, .i32⟩
  | .local _ .smem, ⟨3, _⟩ => ⟨S117, .i32⟩
  | _, _ => ⟨S32, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_call1_call0_c : Ref sig .tc := ⟨.hbm, 30, rfl⟩
abbrev main_call1_call0_v0 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_c_2 : Ref sig .tc := ⟨.hbm, 37, rfl⟩
abbrev main_v10 : Ref sig .tc := ⟨.hbm, 38, rfl⟩
abbrev main_v11 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_c_3 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v22 : Ref sig .tc := ⟨.hbm, 51, rfl⟩
abbrev main_v23 : Ref sig .tc := ⟨.hbm, 52, rfl⟩
abbrev main_c_6 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_c_7 : Ref sig .tc := ⟨.hbm, 59, rfl⟩
abbrev main_v29 : Ref sig .tc := ⟨.hbm, 60, rfl⟩
abbrev main_v30 : Ref sig .tc := ⟨.hbm, 61, rfl⟩
abbrev main_c_8 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_c_9 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_c_10 : Ref sig .tc := ⟨.hbm, 75, rfl⟩
abbrev main_c_11 : Ref sig .tc := ⟨.hbm, 76, rfl⟩
abbrev main_call2_v0 : Ref sig .tc := ⟨.hbm, 77, rfl⟩
abbrev main_call2_v1 : Ref sig .tc := ⟨.hbm, 78, rfl⟩
abbrev main_call2_v2 : Ref sig .tc := ⟨.hbm, 79, rfl⟩
abbrev main_call2_v3 : Ref sig .tc := ⟨.hbm, 80, rfl⟩
abbrev main_call2_v4 : Ref sig .tc := ⟨.hbm, 81, rfl⟩
abbrev main_v42 : Ref sig .tc := ⟨.hbm, 82, rfl⟩
abbrev main_c_12 : Ref sig .tc := ⟨.hbm, 83, rfl⟩
abbrev main_v43 : Ref sig .tc := ⟨.hbm, 84, rfl⟩
abbrev main_v44 : Ref sig .tc := ⟨.hbm, 85, rfl⟩
abbrev main_c_13 : Ref sig .tc := ⟨.hbm, 86, rfl⟩
abbrev main_v45 : Ref sig .tc := ⟨.hbm, 87, rfl⟩
abbrev main_v46 : Ref sig .tc := ⟨.hbm, 88, rfl⟩
abbrev main_c_14 : Ref sig .tc := ⟨.hbm, 89, rfl⟩
abbrev main_call3_v0 : Ref sig .tc := ⟨.hbm, 90, rfl⟩
abbrev main_call3_v1 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_v6 : Ref sig .tc := ⟨.hbm, 96, rfl⟩
abbrev main_call3_v7 : Ref sig .tc := ⟨.hbm, 97, rfl⟩
abbrev main_call3_v8 : Ref sig .tc := ⟨.hbm, 98, rfl⟩
abbrev main_call3_c : Ref sig .tc := ⟨.hbm, 99, rfl⟩
abbrev main_call3_v9 : Ref sig .tc := ⟨.hbm, 100, rfl⟩
abbrev main_call3_v10 : Ref sig .tc := ⟨.hbm, 101, rfl⟩
abbrev main_call3_v11 : Ref sig .tc := ⟨.hbm, 102, rfl⟩
abbrev main_call3_c_0 : Ref sig .tc := ⟨.hbm, 103, rfl⟩
abbrev main_call3_v12 : Ref sig .tc := ⟨.hbm, 104, rfl⟩
abbrev main_call3_v13 : Ref sig .tc := ⟨.hbm, 105, rfl⟩
abbrev main_v47 : Ref sig .tc := ⟨.hbm, 106, rfl⟩
abbrev main_c_15 : Ref sig .tc := ⟨.hbm, 107, rfl⟩
abbrev main_call4_v0 : Ref sig .tc := ⟨.hbm, 108, rfl⟩
abbrev main_call4_v1 : Ref sig .tc := ⟨.hbm, 109, rfl⟩
abbrev main_c_16 : Ref sig .tc := ⟨.hbm, 110, rfl⟩
abbrev main_v49 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_v55 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v21 : Ref sig .tc := ⟨.smem, 0, rfl⟩
abbrev main_v48 : Ref sig .tc := ⟨.smem, 1, rfl⟩
abbrev main_v12 : Ref sig .tc := ⟨.smem, 2, rfl⟩
abbrev main_v56 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![117, 4], ![false, false]⟩

abbrev pre0 : Pipeline.Prefetch sig := ⟨4, ![main_v21.idx, main_v48.idx, main_v12.idx, main_v56.idx], fun | 0 => main_v21.names | 1 => main_v48.names | 2 => main_v12.names | 3 => main_v56.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v35 : Index := Scalar.indexCast arg0
  ![v35.toNat]
def k0_mult1 (i : grid0.Coords) : BitVec 32 :=
  let arg1 : BitVec 32 := BitVec.ofNat 32 (i 1).val
  let c512_i32 : BitVec 32 := 512#32
  let v154 : BitVec 32 := Scalar.muli arg1 c512_i32
  v154
def k0_off3 (i : grid0.Coords) : Fin 2 → Nat :=
  let arg1 : BitVec 32 := BitVec.ofNat 32 (i 1).val
  let c512_i32 : BitVec 32 := 512#32
  let v154 : BitVec 32 := Scalar.muli arg1 c512_i32
  let v155 : BitVec 32 := v154
  let v156 : Index := Scalar.indexCast v155
  let c0_92 : Index := 0#32
  ![v156.toNat, 0]
def k0_off4 (i : grid0.Coords) : Fin 3 → Nat :=
  let arg1 : BitVec 32 := BitVec.ofNat 32 (i 1).val
  let v73 : Index := Scalar.indexCast arg1
  let c0_41 : Index := 0#32
  let c0_42 : Index := 0#32
  ![v73.toNat, 0, 0]
def k0_off5 (i : grid0.Coords) : Fin 3 → Nat :=
  let arg1 : BitVec 32 := BitVec.ofNat 32 (i 1).val
  let v110 : Index := Scalar.indexCast arg1
  let c256_64 : Index := 256#32
  let c0_65 : Index := 0#32
  ![v110.toNat, 256, 0]
def k0_off6 (i : grid0.Coords) : Fin 3 → Nat :=
  let arg1 : BitVec 32 := BitVec.ofNat 32 (i 1).val
  let v147 : Index := Scalar.indexCast arg1
  let c512_87 : Index := 512#32
  let c0_88 : Index := 0#32
  ![v147.toNat, 512, 0]
def k0_off7 (i : grid0.Coords) : Fin 1 → Nat :=
  let arg0 : BitVec 32 := BitVec.ofNat 32 (i 0).val
  let v35 : Index := Scalar.indexCast arg0
  ![v35.toNat]
def k0_mult2 (i : grid0.Coords) : BitVec 32 :=
  let arg1 : BitVec 32 := BitVec.ofNat 32 (i 1).val
  let c512_i32 : BitVec 32 := 512#32
  let v80 : BitVec 32 := Scalar.muli arg1 c512_i32
  v80
def k0_off8 (i : grid0.Coords) : Fin 2 → Nat :=
  let arg1 : BitVec 32 := BitVec.ofNat 32 (i 1).val
  let c512_i32 : BitVec 32 := 512#32
  let v80 : BitVec 32 := Scalar.muli arg1 c512_i32
  let v81 : BitVec 32 := v80
  let v82 : Index := Scalar.indexCast v81
  let c0_46 : Index := 0#32
  ![v82.toNat, 0]
def k0_off9 (i : grid0.Coords) : Fin 3 → Nat :=
  let arg1 : BitVec 32 := BitVec.ofNat 32 (i 1).val
  let v73 : Index := Scalar.indexCast arg1
  let c0_41 : Index := 0#32
  let c0_42 : Index := 0#32
  ![v73.toNat, 0, 0]
def k0_off10 (i : grid0.Coords) : Fin 3 → Nat :=
  let arg1 : BitVec 32 := BitVec.ofNat 32 (i 1).val
  let v56 : Index := Scalar.indexCast arg1
  let c256_28 : Index := 256#32
  let c0_29 : Index := 0#32
  ![v56.toNat, 256, 0]
def k0_cond7 (i : grid0.Coords) : BitVec 1 :=
  let arg1 : BitVec 32 := BitVec.ofNat 32 (i 1).val
  let c3_i32_7 : BitVec 32 := 3#32
  let v20 : BitVec 1 := Scalar.cmpi .eq arg1 c3_i32_7
  let v21 : BitVec 32 := Scalar.extui v20
  let c0_i32_8 : BitVec 32 := 0#32
  let v22 : BitVec 1 := Scalar.cmpi .ne v21 c0_i32_8
  v22

def k0_cond8 (v1 : BitVec 32) : BitVec 1 :=
  let c3_i32 : BitVec 32 := 3#32
  let v2 : BitVec 1 := Scalar.cmpi .eq v1 c3_i32
  let v23 : BitVec 32 := Scalar.extui v2
  let c0_i32_9 : BitVec 32 := 0#32
  let v24 : BitVec 1 := Scalar.cmpi .ne v23 c0_i32_9
  v24

def k0_cond9 (v1 : BitVec 32) : BitVec 1 :=
  let c0_i32_10 : BitVec 32 := 0#32
  let v25 : BitVec 1 := Scalar.cmpi .sgt v1 c0_i32_10
  let c3_i32 : BitVec 32 := 3#32
  let v2 : BitVec 1 := Scalar.cmpi .eq v1 c3_i32
  let true_11 : BitVec 1 := 1#1
  let v26 : BitVec 1 := Scalar.xori v2 true_11
  let v27 : BitVec 1 := Scalar.andi v25 v26
  let v28 : BitVec 32 := Scalar.extui v27
  let c0_i32_12 : BitVec 32 := 0#32
  let v29 : BitVec 1 := Scalar.cmpi .ne v28 c0_i32_12
  v29

def k0_cond10 (v1 : BitVec 32) : BitVec 1 :=
  let c0_i32_13 : BitVec 32 := 0#32
  let v30 : BitVec 1 := Scalar.cmpi .sle v1 c0_i32_13
  let v31 : BitVec 32 := Scalar.extui v30
  let c0_i32_14 : BitVec 32 := 0#32
  let v32 : BitVec 1 := Scalar.cmpi .ne v31 c0_i32_14
  v32

def k0_cond11 (v1 : BitVec 32) : BitVec 1 :=
  let c1_i32_15 : BitVec 32 := 1#32
  let v33 : BitVec 1 := Scalar.cmpi .sgt v1 c1_i32_15
  let c3_i32 : BitVec 32 := 3#32
  let v2 : BitVec 1 := Scalar.cmpi .eq v1 c3_i32
  let true_16 : BitVec 1 := 1#1
  let v34 : BitVec 1 := Scalar.xori v2 true_16
  let v35 : BitVec 1 := Scalar.andi v33 v34
  let v36 : BitVec 32 := Scalar.extui v35
  let c0_i32_17 : BitVec 32 := 0#32
  let v37 : BitVec 1 := Scalar.cmpi .ne v36 c0_i32_17
  v37

def k0_cond12 (v1 : BitVec 32) : BitVec 1 :=
  let c1_i32_18 : BitVec 32 := 1#32
  let v38 : BitVec 1 := Scalar.cmpi .sle v1 c1_i32_18
  let v39 : BitVec 32 := Scalar.extui v38
  let c0_i32_19 : BitVec 32 := 0#32
  let v40 : BitVec 1 := Scalar.cmpi .ne v39 c0_i32_19
  v40

def k0_cond13 (v1 : BitVec 32) : BitVec 1 :=
  let c2_i32 : BitVec 32 := 2#32
  let v41 : BitVec 1 := Scalar.cmpi .sgt v1 c2_i32
  let c3_i32 : BitVec 32 := 3#32
  let v2 : BitVec 1 := Scalar.cmpi .eq v1 c3_i32
  let true_20 : BitVec 1 := 1#1
  let v42 : BitVec 1 := Scalar.xori v2 true_20
  let v43 : BitVec 1 := Scalar.andi v41 v42
  let v44 : BitVec 32 := Scalar.extui v43
  let c0_i32_21 : BitVec 32 := 0#32
  let v45 : BitVec 1 := Scalar.cmpi .ne v44 c0_i32_21
  v45

def k0_cond14 (v1 : BitVec 32) : BitVec 1 :=
  let c2_i32_22 : BitVec 32 := 2#32
  let v46 : BitVec 1 := Scalar.cmpi .sle v1 c2_i32_22
  let v47 : BitVec 32 := Scalar.extui v46
  let c0_i32_23 : BitVec 32 := 0#32
  let v48 : BitVec 1 := Scalar.cmpi .ne v47 c0_i32_23
  v48

def cc0_transform_0 (k0_off1_inb : ∀ i : grid0.Coords, ∀ a, (k0_off1 i) a + S1.size a ≤ S117.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let v0 : Index := Scalar.indexCast arg0
  let v1 : BitVec 32 := pf.at 2 (Rect.unit (s := S117) ![v0.toNat] S1.size (k0_off1_inb i)) numel1_S1
  let c0_i32 : BitVec 32 := 0#32
  let c0_i32_0 : BitVec 32 := 0#32
  ![v1.toNat, c0_i32.toNat]

def cc0_transform_1 (k0_off1_inb : ∀ i : grid0.Coords, ∀ a, (k0_off1 i) a + S1.size a ≤ S117.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S117) ![v0.toNat] S1.size (k0_off1_inb i)) numel1_S1
  let v2 : Index := Scalar.indexCast arg0
  let v3 : BitVec 32 := pf.at 1 (Rect.unit (s := S117) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  ![v1.toNat, c0_i32_0.toNat, v5.toNat]

def cc0_transform_2 (k0_off1_inb : ∀ i : grid0.Coords, ∀ a, (k0_off1 i) a + S1.size a ≤ S117.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S117) ![v0.toNat] S1.size (k0_off1_inb i)) numel1_S1
  let v2 : Index := Scalar.indexCast arg0
  let v3 : BitVec 32 := pf.at 1 (Rect.unit (s := S117) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi v5 c4_i32
  let c0_i32_0 : BitVec 32 := 0#32
  let c0_i32_1 : BitVec 32 := 0#32
  ![v1.toNat, c0_i32_0.toNat, v6.toNat]

def cc0_transform_3 (k0_off1_inb : ∀ i : grid0.Coords, ∀ a, (k0_off1 i) a + S1.size a ≤ S117.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S117) ![v0.toNat] S1.size (k0_off1_inb i)) numel1_S1
  let v2 : Index := Scalar.indexCast arg0
  let v3 : BitVec 32 := pf.at 1 (Rect.unit (s := S117) ![v2.toNat] S1.size (k0_off1_inb i)) numel1_S1
  let c0_i32 : BitVec 32 := 0#32
  let v4 : BitVec 1 := Scalar.cmpi .sgt v3 c0_i32
  let v5 : Index := Scalar.indexCast arg0
  let v6 : BitVec 32 := pf.at 3 (Rect.unit (s := S117) ![v5.toNat] S1.size (k0_off1_inb i)) numel1_S1
  let c0_i32_0 : BitVec 32 := 0#32
  let v7 : BitVec 1 := Scalar.cmpi .eq v6 c0_i32_0
  let v8 : BitVec 1 := Scalar.andi v4 v7
  let c3_i32 : BitVec 32 := 3#32
  let v9 : BitVec 32 := Scalar.select v8 arg1 c3_i32
  let c0_i32_1 : BitVec 32 := 0#32
  let c0_i32_2 : BitVec 32 := 0#32
  ![v1.toNat, v9.toNat, c0_i32_1.toNat]

def cc0_transform_4 (k0_off1_inb : ∀ i : grid0.Coords, ∀ a, (k0_off1 i) a + S1.size a ≤ S117.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S117) ![v0.toNat] S1.size (k0_off1_inb i)) numel1_S1
  let v2 : Index := Scalar.indexCast arg0
  let v3 : BitVec 32 := pf.at 1 (Rect.unit (s := S117) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c0_i32_0 : BitVec 32 := 0#32
  let c0_i32_1 : BitVec 32 := 0#32
  ![v1.toNat, c0_i32_0.toNat, v5.toNat]

def cc0_transform_5 (k0_off1_inb : ∀ i : grid0.Coords, ∀ a, (k0_off1 i) a + S1.size a ≤ S117.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S117) ![v0.toNat] S1.size (k0_off1_inb i)) numel1_S1
  let v2 : Index := Scalar.indexCast arg0
  let v3 : BitVec 32 := pf.at 1 (Rect.unit (s := S117) ![v2.toNat] S1.size (k0_off1_inb i)) numel1_S1
  let c0_i32 : BitVec 32 := 0#32
  let v4 : BitVec 1 := Scalar.cmpi .sgt v3 c0_i32
  let c3_i32 : BitVec 32 := 3#32
  let v5 : BitVec 32 := Scalar.select v4 arg1 c3_i32
  let c4_i32 : BitVec 32 := 4#32
  let v6 : BitVec 32 := Scalar.addi v5 c4_i32
  let c0_i32_0 : BitVec 32 := 0#32
  let c0_i32_1 : BitVec 32 := 0#32
  ![v1.toNat, c0_i32_0.toNat, v6.toNat]

def cc0_transform_6 (k0_off1_inb : ∀ i : grid0.Coords, ∀ a, (k0_off1 i) a + S1.size a ≤ S117.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S117) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S768x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S768x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== Reference2Ideal.lean ====
abbrev S32 : Shape := ⟨1, ![32]⟩
abbrev S89856x2048 : Shape := ⟨2, ![89856, 2048]⟩
abbrev S1x32x2048x4096 : Shape := ⟨4, ![1, 32, 2048, 4096]⟩
abbrev S1x32x4096 : Shape := ⟨3, ![1, 32, 4096]⟩
abbrev S1x32x2048x2048 : Shape := ⟨4, ![1, 32, 2048, 2048]⟩
abbrev S1x32x2048 : Shape := ⟨3, ![1, 32, 2048]⟩
abbrev S_ : Shape := ⟨0, ![]⟩
abbrev S117 : Shape := ⟨1, ![117]⟩
abbrev S1x32 : Shape := ⟨2, ![1, 32]⟩
abbrev S117x1 : Shape := ⟨2, ![117, 1]⟩
abbrev S117x32 : Shape := ⟨2, ![117, 32]⟩
abbrev S117x768x2048 : Shape := ⟨3, ![117, 768, 2048]⟩
abbrev S32x2048x4096 : Shape := ⟨3, ![32, 2048, 4096]⟩
abbrev S117x2048x4096 : Shape := ⟨3, ![117, 2048, 4096]⟩
abbrev S117x768x4096 : Shape := ⟨3, ![117, 768, 4096]⟩
abbrev S32x4096 : Shape := ⟨2, ![32, 4096]⟩
abbrev S117x4096 : Shape := ⟨2, ![117, 4096]⟩
abbrev S117x1x4096 : Shape := ⟨3, ![117, 1, 4096]⟩
abbrev S32x2048x2048 : Shape := ⟨3, ![32, 2048, 2048]⟩
abbrev S117x2048x2048 : Shape := ⟨3, ![117, 2048, 2048]⟩
abbrev S32x2048 : Shape := ⟨2, ![32, 2048]⟩
abbrev S117x2048 : Shape := ⟨2, ![117, 2048]⟩
abbrev S117x1x2048 : Shape := ⟨3, ![117, 1, 2048]⟩
abbrev S768 : Shape := ⟨1, ![768]⟩
abbrev S1x768 : Shape := ⟨2, ![1, 768]⟩
abbrev S117x768 : Shape := ⟨2, ![117, 768]⟩
abbrev S117x768x1 : Shape := ⟨3, ![117, 768, 1]⟩

abbrev nBuf : Space → Nat
  | .hbm => 144
  | .vmem => 0
  | .smem => 0
  | _ => 0

abbrev hbmTy0_0 (i : Nat) : BufTy := match i % 128 with
  | 0 => ⟨S32, .i32⟩
  | 1 => ⟨S89856x2048, .bf16⟩
  | 2 => ⟨S1x32x2048x4096, .f32⟩
  | 3 => ⟨S1x32x4096, .f32⟩
  | 4 => ⟨S1x32x2048x2048, .f32⟩
  | 5 => ⟨S1x32x2048, .f32⟩
  | 6 => ⟨S_, .i32⟩
  | 7 => ⟨S32, .i32⟩
  | 8 => ⟨S32, .i32⟩
  | 9 => ⟨S_, .i32⟩
  | 10 => ⟨S32, .i32⟩
  | 11 => ⟨S32, .i32⟩
  | 12 => ⟨S_, .i32⟩
  | 13 => ⟨S_, .i32⟩
  | 14 => ⟨S32, .i32⟩
  | 15 => ⟨S32, .i32⟩
  | 16 => ⟨S32, .i32⟩
  | 17 => ⟨S_, .i32⟩
  | 18 => ⟨S32, .i32⟩
  | 19 => ⟨S32, .i1⟩
  | 20 => ⟨S32, .i32⟩
  | 21 => ⟨S32, .i32⟩
  | 22 => ⟨S_, .i32⟩
  | 23 => ⟨S32, .i32⟩
  | 24 => ⟨S32, .i1⟩
  | 25 => ⟨S32, .i1⟩
  | 26 => ⟨S_, .i32⟩
  | 27 => ⟨S32, .i32⟩
  | 28 => ⟨S32, .i32⟩
  | 29 => ⟨S32, .i32⟩
  | 30 => ⟨S_, .i32⟩
  | 31 => ⟨S32, .i32⟩
  | 32 => ⟨S32, .i32⟩
  | 33 => ⟨S_, .i32⟩
  | 34 => ⟨S_, .i32⟩
  | 35 => ⟨S32, .i32⟩
  | 36 => ⟨S32, .i32⟩
  | 37 => ⟨S117, .i32⟩
  | 38 => ⟨S_, .i32⟩
  | 39 => ⟨S117, .i32⟩
  | 40 => ⟨S117, .i32⟩
  | 41 => ⟨S1x32, .i32⟩
  | 42 => ⟨S117x1, .i32⟩
  | 43 => ⟨S117x32, .i32⟩
  | 44 => ⟨S117x32, .i32⟩
  | 45 => ⟨S117x32, .i1⟩
  | 46 => ⟨S117x32, .i32⟩
  | 47 => ⟨S_, .i32⟩
  | 48 => ⟨S117, .i32⟩
  | 49 => ⟨S_, .i32⟩
  | 50 => ⟨S117, .i32⟩
  | 51 => ⟨S117, .i32⟩
  | 52 => ⟨S89856x2048, .f32⟩
  | 53 => ⟨S117x768x2048, .f32⟩
  | 54 => ⟨S32x2048x4096, .f32⟩
  | 55 => ⟨S117x1, .i32⟩
  | 56 => ⟨S117x2048x4096, .f32⟩
  | 57 => ⟨S117x768x4096, .f32⟩
  | 58 => ⟨S32x4096, .f32⟩
  | 59 => ⟨S117x1, .i32⟩
  | 60 => ⟨S117x4096, .f32⟩
  | 61 => ⟨S117x1x4096, .f32⟩
  | 62 => ⟨S117x768x4096, .f32⟩
  | 63 => ⟨S117x768x4096, .f32⟩
  | 64 => ⟨S117x768x2048, .f32⟩
  | 65 => ⟨S_, .f32⟩
  | 66 => ⟨S117x768x2048, .f32⟩
  | 67 => ⟨S117x768x2048, .f32⟩
  | 68 => ⟨S117x768x2048, .f32⟩
  | 69 => ⟨S_, .f32⟩
  | 70 => ⟨S_, .f32⟩
  | 71 => ⟨S_, .f32⟩
  | 72 => ⟨S117x768x2048, .f32⟩
  | 73 => ⟨S117x768x2048, .f32⟩
  | 74 => ⟨S_, .f32⟩
  | 75 => ⟨S117x768x2048, .f32⟩
  | 76 => ⟨S117x768x2048, .f32⟩
  | 77 => ⟨S_, .f32⟩
  | 78 => ⟨S117x768x2048, .f32⟩
  | 79 => ⟨S117x768x2048, .f32⟩
  | 80 => ⟨S117x768x2048, .f32⟩
  | 81 => ⟨S_, .f32⟩
  | 82 => ⟨S117x768x2048, .f32⟩
  | 83 => ⟨S117x768x2048, .f32⟩
  | 84 => ⟨S117x768x2048, .f32⟩
  | 85 => ⟨S117x768x2048, .f32⟩
  | 86 => ⟨S_, .f32⟩
  | 87 => ⟨S117x768x2048, .f32⟩
  | 88 => ⟨S117x768x2048, .f32⟩
  | 89 => ⟨S_, .f32⟩
  | 90 => ⟨S117x768x2048, .f32⟩
  | 91 => ⟨S117x768x2048, .f32⟩
  | 92 => ⟨S117x768x2048, .f32⟩
  | 93 => ⟨S32x2048x2048, .f32⟩
  | 94 => ⟨S117x1, .i32⟩
  | 95 => ⟨S117x2048x2048, .f32⟩
  | 96 => ⟨S117x768x2048, .f32⟩
  | 97 => ⟨S32x2048, .f32⟩
  | 98 => ⟨S117x1, .i32⟩
  | 99 => ⟨S117x2048, .f32⟩
  | 100 => ⟨S117x1x2048, .f32⟩
  | 101 => ⟨S117x768x2048, .f32⟩
  | 102 => ⟨S117x768x2048, .f32⟩
  | 103 => ⟨S117x1, .i32⟩
  | 104 => ⟨S117, .i32⟩
  | 105 => ⟨S117x1, .i32⟩
  | 106 => ⟨S117, .i32⟩
  | 107 => ⟨S117, .i32⟩
  | 108 => ⟨S117, .i32⟩
  | 109 => ⟨S768, .i32⟩
  | 110 => ⟨S1x768, .i32⟩
  | 111 => ⟨S_, .i32⟩
  | 112 => ⟨S_, .i32⟩
  | 113 => ⟨S1x768, .i32⟩
  | 114 => ⟨S1x768, .i32⟩
  | 115 => ⟨S1x768, .i32⟩
  | 116 => ⟨S_, .i32⟩
  | 117 => ⟨S1x768, .i32⟩
  | 118 => ⟨S1x768, .i1⟩
  | 119 => ⟨S1x768, .i32⟩
  | 120 => ⟨S1x768, .i32⟩
  | 121 => ⟨S_, .i32⟩
  | 122 => ⟨S1x768, .i32⟩
  | 123 => ⟨S1x768, .i1⟩
  | 124 => ⟨S1x768, .i1⟩
  | 125 => ⟨S_, .i32⟩
  | 126 => ⟨S1x768, .i32⟩
  | 127 => ⟨S1x768, .i32⟩
  | _ => ⟨S32, .i32⟩

abbrev hbmTy0_1 (i : Nat) : BufTy := match i % 128 with
  | 0 => ⟨S1x768, .i32⟩
  | 1 => ⟨S_, .i32⟩
  | 2 => ⟨S1x768, .i32⟩
  | 3 => ⟨S1x768, .i32⟩
  | 4 => ⟨S117x1, .i32⟩
  | 5 => ⟨S117x768, .i32⟩
  | 6 => ⟨S117x768, .i32⟩
  | 7 => ⟨S117x768, .i1⟩
  | 8 => ⟨S117x768x1, .i1⟩
  | 9 => ⟨S_, .f32⟩
  | 10 => ⟨S_, .f32⟩
  | 11 => ⟨S117x768x2048, .i1⟩
  | 12 => ⟨S117x768x2048, .f32⟩
  | 13 => ⟨S117x768x2048, .f32⟩
  | 14 => ⟨S89856x2048, .f32⟩
  | 15 => ⟨S89856x2048, .bf16⟩
  | _ => ⟨S32, .i32⟩

abbrev hbmTy (i : Nat) : BufTy := match i / 128 with
  | 0 => hbmTy0_0 i
  | 1 => hbmTy0_1 i
  | _ => ⟨S32, .i32⟩

abbrev bufTy : (tb : Table) → Fin (tcTables nBuf tb) → BufTy
  | .hbm, ⟨i, _⟩ => hbmTy i
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_c_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_c : Ref sig .tc := ⟨.hbm, 22, rfl⟩
abbrev main_call0_v9 : Ref sig .tc := ⟨.hbm, 23, rfl⟩
abbrev main_call0_v10 : Ref sig .tc := ⟨.hbm, 24, rfl⟩
abbrev main_call0_v11 : Ref sig .tc := ⟨.hbm, 25, rfl⟩
abbrev main_call0_c_0 : Ref sig .tc := ⟨.hbm, 26, rfl⟩
abbrev main_call0_v12 : Ref sig .tc := ⟨.hbm, 27, rfl⟩
abbrev main_call0_v13 : Ref sig .tc := ⟨.hbm, 28, rfl⟩
abbrev main_v4 : Ref sig .tc := ⟨.hbm, 29, rfl⟩
abbrev main_c_2 : Ref sig .tc := ⟨.hbm, 30, rfl⟩
abbrev main_v5 : Ref sig .tc := ⟨.hbm, 31, rfl⟩
abbrev main_v6 : Ref sig .tc := ⟨.hbm, 32, rfl⟩
abbrev main_call1_call0_c : Ref sig .tc := ⟨.hbm, 33, rfl⟩
abbrev main_call1_call0_v0 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_c_3 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_c_5 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_call2_v0 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_call3_v0 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_cst : Ref sig .tc := ⟨.hbm, 65, rfl⟩
abbrev main_v32 : Ref sig .tc := ⟨.hbm, 66, rfl⟩
abbrev main_v33 : Ref sig .tc := ⟨.hbm, 67, rfl⟩
abbrev main_v34 : Ref sig .tc := ⟨.hbm, 68, rfl⟩
abbrev main_cst_6 : Ref sig .tc := ⟨.hbm, 69, rfl⟩
abbrev main_cst_7 : Ref sig .tc := ⟨.hbm, 70, rfl⟩
abbrev main_call4_v0 : Ref sig .tc := ⟨.hbm, 71, rfl⟩
abbrev main_call4_v1 : Ref sig .tc := ⟨.hbm, 72, rfl⟩
abbrev main_call4_v2 : Ref sig .tc := ⟨.hbm, 73, rfl⟩
abbrev main_call4_v3 : Ref sig .tc := ⟨.hbm, 74, rfl⟩
abbrev main_call4_v4 : Ref sig .tc := ⟨.hbm, 75, rfl⟩
abbrev main_v35 : Ref sig .tc := ⟨.hbm, 76, rfl⟩
abbrev main_cst_8 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_cst_9 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_10 : Ref sig .tc := ⟨.hbm, 86, rfl⟩
abbrev main_v43 : Ref sig .tc := ⟨.hbm, 87, rfl⟩
abbrev main_v44 : Ref sig .tc := ⟨.hbm, 88, rfl⟩
abbrev main_cst_11 : Ref sig .tc := ⟨.hbm, 89, rfl⟩
abbrev main_v45 : Ref sig .tc := ⟨.hbm, 90, rfl⟩
abbrev main_v46 : Ref sig .tc := ⟨.hbm, 91, rfl⟩
abbrev main_v47 : Ref sig .tc := ⟨.hbm, 92, rfl⟩
abbrev main_v48 : Ref sig .tc := ⟨.hbm, 93, rfl⟩
abbrev main_call5_v0 : Ref sig .tc := ⟨.hbm, 94, rfl⟩
abbrev main_v49 : Ref sig .tc := ⟨.hbm, 95, rfl⟩
abbrev main_v50 : Ref sig .tc := ⟨.hbm, 96, rfl⟩
abbrev main_v51 : Ref sig .tc := ⟨.hbm, 97, rfl⟩
abbrev main_call6_v0 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_call7_v0 : Ref sig .tc := ⟨.hbm, 103, rfl⟩
abbrev main_v56 : Ref sig .tc := ⟨.hbm, 104, rfl⟩
abbrev main_call8_v0 : Ref sig .tc := ⟨.hbm, 105, rfl⟩
abbrev main_v57 : Ref sig .tc := ⟨.hbm, 106, rfl⟩
abbrev main_v58 : Ref sig .tc := ⟨.hbm, 107, rfl⟩
abbrev main_v59 : Ref sig .tc := ⟨.hbm, 108, rfl⟩
abbrev main_v60 : Ref sig .tc := ⟨.hbm, 109, rfl⟩
abbrev main_v61 : Ref sig .tc := ⟨.hbm, 110, rfl⟩
abbrev main_c_12 : Ref sig .tc := ⟨.hbm, 111, rfl⟩
abbrev main_call9_v0 : Ref sig .tc := ⟨.hbm, 112, rfl⟩
abbrev main_call9_v1 : Ref sig .tc := ⟨.hbm, 113, rfl⟩
abbrev main_call9_v2 : Ref sig .tc := ⟨.hbm, 114, rfl⟩
abbrev main_call9_v3 : Ref sig .tc := ⟨.hbm, 115, rfl⟩
abbrev main_call9_v4 : Ref sig .tc := ⟨.hbm, 116, rfl⟩
abbrev main_call9_v5 : Ref sig .tc := ⟨.hbm, 117, rfl⟩
abbrev main_call9_v6 : Ref sig .tc := ⟨.hbm, 118, rfl⟩
abbrev main_call9_v7 : Ref sig .tc := ⟨.hbm, 119, rfl⟩
abbrev main_call9_v8 : Ref sig .tc := ⟨.hbm, 120, rfl⟩
abbrev main_call9_c : Ref sig .tc := ⟨.hbm, 121, rfl⟩
abbrev main_call9_v9 : Ref sig .tc := ⟨.hbm, 122, rfl⟩
abbrev main_call9_v10 : Ref sig .tc := ⟨.hbm, 123, rfl⟩
abbrev main_call9_v11 : Ref sig .tc := ⟨.hbm, 124, rfl⟩
abbrev main_call9_c_0 : Ref sig .tc := ⟨.hbm, 125, rfl⟩
abbrev main_call9_v12 : Ref sig .tc := ⟨.hbm, 126, rfl⟩
abbrev main_call9_v13 : Ref sig .tc := ⟨.hbm, 127, rfl⟩
abbrev main_v62 : Ref sig .tc := ⟨.hbm, 128, rfl⟩
abbrev main_c_13 : Ref sig .tc := ⟨.hbm, 129, rfl⟩
abbrev main_v63 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_v69 : Ref sig .tc := ⟨.hbm, 136, rfl⟩
abbrev main_cst_14 : Ref sig .tc := ⟨.hbm, 137, rfl⟩
abbrev main_call10_v0 : Ref sig .tc := ⟨.hbm, 138, rfl⟩
abbrev main_call10_v1 : Ref sig .tc := ⟨.hbm, 139, rfl⟩
abbrev main_call10_v2 : Ref sig .tc := ⟨.hbm, 140, rfl⟩
abbrev main_v70 : Ref sig .tc := ⟨.hbm, 141, rfl⟩
abbrev main_v71 : Ref sig .tc := ⟨.hbm, 142, rfl⟩
abbrev main_v72 : Ref sig .tc := ⟨.hbm, 143, rfl⟩

abbrev nD : Nat := 1
abbrev τ : Topo := Topo.v7x

variable {F : FTy → Type} [FloatOps F]
-- ==== Kernel3.lean ====
abbrev S16384x11264 : Shape := ⟨2, ![16384, 11264]⟩
abbrev S16384x128 : Shape := ⟨2, ![16384, 128]⟩
abbrev S1x4x3072 : Shape := ⟨3, ![1, 4, 3072]⟩
abbrev S1x3072 : Shape := ⟨2, ![1, 3072]⟩
abbrev S1x32 : Shape := ⟨2, ![1, 32]⟩
abbrev S1x2048 : Shape := ⟨2, ![1, 2048]⟩
abbrev S4x3072 : Shape := ⟨2, ![4, 3072]⟩
abbrev S3072 : Shape := ⟨1, ![3072]⟩
abbrev S32 : Shape := ⟨1, ![32]⟩
abbrev S2048 : Shape := ⟨1, ![2048]⟩
abbrev S_ : Shape := ⟨0, ![]⟩
abbrev S128x128 : Shape := ⟨2, ![128, 128]⟩
abbrev S128 : Shape := ⟨1, ![128]⟩
abbrev S128x1 : Shape := ⟨2, ![128, 1]⟩
abbrev S128x2048 : Shape := ⟨2, ![128, 2048]⟩
abbrev S256x2048 : Shape := ⟨2, ![256, 2048]⟩
abbrev S1x128 : Shape := ⟨2, ![1, 128]⟩
abbrev S32x64 : Shape := ⟨2, ![32, 64]⟩
abbrev S1x128x1 : Shape := ⟨3, ![1, 128, 1]⟩
abbrev S256 : Shape := ⟨1, ![256]⟩
abbrev S1x1x256 : Shape := ⟨3, ![1, 1, 256]⟩
abbrev S3 : Shape := ⟨1, ![3]⟩
abbrev S3x1x1 : Shape := ⟨3, ![3, 1, 1]⟩
abbrev S3x128x1 : Shape := ⟨3, ![3, 128, 1]⟩
abbrev S3x128x256 : Shape := ⟨3, ![3, 128, 256]⟩
abbrev S16384x2048 : Shape := ⟨2, ![16384, 2048]⟩
abbrev S128x1024 : Shape := ⟨2, ![128, 1024]⟩
abbrev S256x3072 : Shape := ⟨2, ![256, 3072]⟩
abbrev S128x3072 : Shape := ⟨2, ![128, 3072]⟩
abbrev S4x128x512 : Shape := ⟨3, ![4, 128, 512]⟩
abbrev S1x512 : Shape := ⟨2, ![1, 512]⟩
abbrev S128x512 : Shape := ⟨2, ![128, 512]⟩
abbrev S1x128x256 : Shape := ⟨3, ![1, 128, 256]⟩
abbrev S128x256 : Shape := ⟨2, ![128, 256]⟩
abbrev S256x512 : Shape := ⟨2, ![256, 512]⟩
abbrev S8x128 : Shape := ⟨2, ![8, 128]⟩
abbrev S8x256 : Shape := ⟨2, ![8, 256]⟩
abbrev S1x128x512 : Shape := ⟨3, ![1, 128, 512]⟩
abbrev S256x128 : Shape := ⟨2, ![256, 128]⟩
abbrev S8x512 : Shape := ⟨2, ![8, 512]⟩

abbrev nBuf : Space → Nat
  | .hbm => 86
  | .vmem => 25
  | .smem => 0
  | _ => 0

abbrev bufTy : (tb : Table) → Fin (tcTables nBuf tb) → BufTy
  | .hbm, ⟨0, _⟩ => ⟨S16384x11264, .bf16⟩
  | .hbm, ⟨1, _⟩ => ⟨S16384x128, .f32⟩
  | .hbm, ⟨2, _⟩ => ⟨S1x4x3072, .f32⟩
  | .hbm, ⟨3, _⟩ => ⟨S1x3072, .f32⟩
  | .hbm, ⟨4, _⟩ => ⟨S1x32, .f32⟩
  | .hbm, ⟨5, _⟩ => ⟨S1x32, .f32⟩
  | .hbm, ⟨6, _⟩ => ⟨S1x32, .f32⟩
  | .hbm, ⟨7, _⟩ => ⟨S1x2048, .f32⟩
  | .hbm, ⟨8, _⟩ => ⟨S4x3072, .f32⟩
  | .hbm, ⟨9, _⟩ => ⟨S3072, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S2048, .f32⟩
  | .hbm, ⟨14, _⟩ => ⟨S_, .f32⟩
  | .hbm, ⟨15, _⟩ => ⟨S128x128, .f32⟩
  | .hbm, ⟨16, _⟩ => ⟨S128x128, .i32⟩
  | .hbm, ⟨17, _⟩ => ⟨S_, .i32⟩
  | .hbm, ⟨18, _⟩ => ⟨S128x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S_, .f32⟩
  | .hbm, ⟨23, _⟩ => ⟨S128x128, .f32⟩
  | .hbm, ⟨24, _⟩ => ⟨S128x128, .f32⟩
  | .hbm, ⟨25, _⟩ => ⟨S128x128, .bf16⟩
  | .hbm, ⟨26, _⟩ => ⟨S2048, .i32⟩
  | .hbm, ⟨27, _⟩ => ⟨S_, .i32⟩
  | .hbm, ⟨28, _⟩ => ⟨S_, .i32⟩
  | .hbm, ⟨29, _⟩ => ⟨S2048, .i32⟩
  | .hbm, ⟨30, _⟩ => ⟨S2048, .i32⟩
  | .hbm, ⟨31, _⟩ => ⟨S2048, .i32⟩
  | .hbm, ⟨32, _⟩ => ⟨S_, .i32⟩
  | .hbm, ⟨33, _⟩ => ⟨S2048, .i32⟩
  | .hbm, ⟨34, _⟩ => ⟨S2048, .i1⟩
  | .hbm, ⟨35, _⟩ => ⟨S2048, .i32⟩
  | .hbm, ⟨36, _⟩ => ⟨S2048, .i32⟩
  | .hbm, ⟨37, _⟩ => ⟨S_, .i32⟩
  | .hbm, ⟨38, _⟩ => ⟨S2048, .i32⟩
  | .hbm, ⟨39, _⟩ => ⟨S2048, .i1⟩
  | .hbm, ⟨40, _⟩ => ⟨S2048, .i1⟩
  | .hbm, ⟨41, _⟩ => ⟨S_, .i32⟩
  | .hbm, ⟨42, _⟩ => ⟨S2048, .i32⟩
  | .hbm, ⟨43, _⟩ => ⟨S2048, .i32⟩
  | .hbm, ⟨44, _⟩ => ⟨S2048, .i32⟩
  | .hbm, ⟨45, _⟩ => ⟨S128, .i32⟩
  | .hbm, ⟨46, _⟩ => ⟨S128x1, .i32⟩
  | .hbm, ⟨47, _⟩ => ⟨S1x2048, .i32⟩
  | .hbm, ⟨48, _⟩ => ⟨S128x2048, .i32⟩
  | .hbm, ⟨49, _⟩ => ⟨S128x2048, .i32⟩
  | .hbm, ⟨50, _⟩ => ⟨S128x2048, .i1⟩
  | .hbm, ⟨51, _⟩ => ⟨S128x2048, .bf16⟩
  | .hbm, ⟨52, _⟩ => ⟨S256x2048, .bf16⟩
  | .hbm, ⟨53, _⟩ => ⟨S1x3072, .f32⟩
  | .hbm, ⟨54, _⟩ => ⟨S1x32, .f32⟩
  | .hbm, ⟨55, _⟩ => ⟨S_, .i32⟩
  | .hbm, ⟨56, _⟩ => ⟨S_, .f32⟩
  | .hbm, ⟨57, _⟩ => ⟨S1x128, .f32⟩
  | .hbm, ⟨58, _⟩ => ⟨S1x32, .f32⟩
  | .hbm, ⟨59, _⟩ => ⟨S_, .i32⟩
  | .hbm, ⟨60, _⟩ => ⟨S_, .f32⟩
  | .hbm, ⟨61, _⟩ => ⟨S1x128, .f32⟩
  | .hbm, ⟨62, _⟩ => ⟨S32x64, .f32⟩
  | .hbm, ⟨63, _⟩ => ⟨S2048, .f32⟩
  | .hbm, ⟨64, _⟩ => ⟨S1x2048, .f32⟩
  | .hbm, ⟨65, _⟩ => ⟨S1x2048, .f32⟩
  | .hbm, ⟨66, _⟩ => ⟨S128, .i32⟩
  | .hbm, ⟨67, _⟩ => ⟨S1x128x1, .i32⟩
  | .hbm, ⟨68, _⟩ => ⟨S256, .i32⟩
  | .hbm, ⟨69, _⟩ => ⟨S1x1x256, .i32⟩
  | .hbm, ⟨70, _⟩ => ⟨S3, .i32⟩
  | .hbm, ⟨71, _⟩ => ⟨S_, .i32⟩
  | .hbm, ⟨72, _⟩ => ⟨S3, .i32⟩
  | .hbm, ⟨73, _⟩ => ⟨S3, .i32⟩
  | .hbm, ⟨74, _⟩ => ⟨S3x1x1, .i32⟩
  | .hbm, ⟨75, _⟩ => ⟨S_, .i32⟩
  | .hbm, ⟨76, _⟩ => ⟨S1x128x1, .i32⟩
  | .hbm, ⟨77, _⟩ => ⟨S1x128x1, .i32⟩
  | .hbm, ⟨78, _⟩ => ⟨S3x128x1, .i32⟩
  | .hbm, ⟨79, _⟩ => ⟨S3x128x1, .i32⟩
  | .hbm, ⟨80, _⟩ => ⟨S3x128x1, .i32⟩
  | .hbm, ⟨81, _⟩ => ⟨S3x128x256, .i32⟩
  | .hbm, ⟨82, _⟩ => ⟨S3x128x256, .i32⟩
  | .hbm, ⟨83, _⟩ => ⟨S3x128x256, .i1⟩
  | .hbm, ⟨84, _⟩ => ⟨S3x128x256, .bf16⟩
  | .hbm, ⟨85, _⟩ => ⟨S16384x2048, .bf16⟩
  | .local _ .vmem, ⟨0, _⟩ => ⟨S128x2048, .bf16⟩
  | .local _ .vmem, ⟨1, _⟩ => ⟨S128x2048, .bf16⟩
  | .local _ .vmem, ⟨2, _⟩ => ⟨S128x2048, .bf16⟩
  | .local _ .vmem, ⟨3, _⟩ => ⟨S128x2048, .bf16⟩
  | .local _ .vmem, ⟨4, _⟩ => ⟨S128x1024, .bf16⟩
  | .local _ .vmem, ⟨5, _⟩ => ⟨S128x1024, .bf16⟩
  | .local _ .vmem, ⟨6, _⟩ => ⟨S128x128, .f32⟩
  | .local _ .vmem, ⟨7, _⟩ => ⟨S128x128, .f32⟩
  | .local _ .vmem, ⟨8, _⟩ => ⟨S4x3072, .f32⟩
  | .local _ .vmem, ⟨9, _⟩ => ⟨S1x3072, .f32⟩
  | .local _ .vmem, ⟨10, _⟩ => ⟨S1x128, .f32⟩
  | .local _ .vmem, ⟨11, _⟩ => ⟨S1x128, .f32⟩
  | .local _ .vmem, ⟨12, _⟩ => ⟨S1x2048, .f32⟩
  | .local _ .vmem, ⟨13, _⟩ => ⟨S1x2048, .f32⟩
  | .local _ .vmem, ⟨14, _⟩ => ⟨S256x2048, .bf16⟩
  | .local _ .vmem, ⟨15, _⟩ => ⟨S128x128, .bf16⟩
  | .local _ .vmem, ⟨16, _⟩ => ⟨S3x128x256, .bf16⟩
  | .local _ .vmem, ⟨17, _⟩ => ⟨S128x2048, .bf16⟩
  | .local _ .vmem, ⟨18, _⟩ => ⟨S128x2048, .bf16⟩
  | .local _ .vmem, ⟨19, _⟩ => ⟨S256x3072, .bf16⟩
  | .local _ .vmem, ⟨20, _⟩ => ⟨S128x3072, .f32⟩
  | .local _ .vmem, ⟨21, _⟩ => ⟨S128x2048, .f32⟩
  | .local _ .vmem, ⟨22, _⟩ => ⟨S128x2048, .bf16⟩
  | .local _ .vmem, ⟨23, _⟩ => ⟨S128x2048, .f32⟩
  | .local _ .vmem, ⟨24, _⟩ => ⟨S4x128x512, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_call0_v0 : Ref sig .tc := ⟨.hbm, 16, rfl⟩
abbrev main_call0_c : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_cst : Ref sig .tc := ⟨.hbm, 22, rfl⟩
abbrev main_call0_v5 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_v7 : Ref sig .tc := ⟨.hbm, 35, rfl⟩
abbrev main_call1_v8 : Ref sig .tc := ⟨.hbm, 36, rfl⟩
abbrev main_call1_c : Ref sig .tc := ⟨.hbm, 37, rfl⟩
abbrev main_call1_v9 : Ref sig .tc := ⟨.hbm, 38, rfl⟩
abbrev main_call1_v10 : Ref sig .tc := ⟨.hbm, 39, rfl⟩
abbrev main_call1_v11 : Ref sig .tc := ⟨.hbm, 40, rfl⟩
abbrev main_call1_c_0 : Ref sig .tc := ⟨.hbm, 41, rfl⟩
abbrev main_call1_v12 : Ref sig .tc := ⟨.hbm, 42, rfl⟩
abbrev main_call1_v13 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_c_0 : Ref sig .tc := ⟨.hbm, 55, rfl⟩
abbrev main_call2_v0 : Ref sig .tc := ⟨.hbm, 56, rfl⟩
abbrev main_v21 : Ref sig .tc := ⟨.hbm, 57, rfl⟩
abbrev main_v22 : Ref sig .tc := ⟨.hbm, 58, rfl⟩
abbrev main_c_1 : Ref sig .tc := ⟨.hbm, 59, rfl⟩
abbrev main_call3_v0 : Ref sig .tc := ⟨.hbm, 60, rfl⟩
abbrev main_v23 : Ref sig .tc := ⟨.hbm, 61, rfl⟩
abbrev main_v24 : Ref sig .tc := ⟨.hbm, 62, rfl⟩
abbrev main_v25 : Ref sig .tc := ⟨.hbm, 63, rfl⟩
abbrev main_v26 : Ref sig .tc := ⟨.hbm, 64, rfl⟩
abbrev main_v27 : Ref sig .tc := ⟨.hbm, 65, rfl⟩
abbrev main_v28 : Ref sig .tc := ⟨.hbm, 66, rfl⟩
abbrev main_v29 : Ref sig .tc := ⟨.hbm, 67, rfl⟩
abbrev main_v30 : Ref sig .tc := ⟨.hbm, 68, rfl⟩
abbrev main_v31 : Ref sig .tc := ⟨.hbm, 69, rfl⟩
abbrev main_v32 : Ref sig .tc := ⟨.hbm, 70, rfl⟩
abbrev main_c_2 : Ref sig .tc := ⟨.hbm, 71, rfl⟩
abbrev main_v33 : Ref sig .tc := ⟨.hbm, 72, rfl⟩
abbrev main_v34 : Ref sig .tc := ⟨.hbm, 73, rfl⟩
abbrev main_v35 : Ref sig .tc := ⟨.hbm, 74, rfl⟩
abbrev main_c_3 : Ref sig .tc := ⟨.hbm, 75, rfl⟩
abbrev main_v36 : Ref sig .tc := ⟨.hbm, 76, rfl⟩
abbrev main_v37 : Ref sig .tc := ⟨.hbm, 77, rfl⟩
abbrev main_v38 : Ref sig .tc := ⟨.hbm, 78, rfl⟩
abbrev main_v39 : Ref sig .tc := ⟨.hbm, 79, rfl⟩
abbrev main_v40 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c1_i32 : BitVec 32 := 1#32
  let c0_i32 : BitVec 32 := 0#32
  ![v1.toNat, c1_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x2048 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S128x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S3x128x256 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S128x2048 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel4.lean ====
abbrev S16384x11264 : Shape := ⟨2, ![16384, 11264]⟩
abbrev S16384x128 : Shape := ⟨2, ![16384, 128]⟩
abbrev S1x16x1024 : Shape := ⟨3, ![1, 16, 1024]⟩
abbrev S1x1024 : Shape := ⟨2, ![1, 1024]⟩
abbrev S1x512 : Shape := ⟨2, ![1, 512]⟩
abbrev S16x1024 : Shape := ⟨2, ![16, 1024]⟩
abbrev S1024 : Shape := ⟨1, ![1024]⟩
abbrev S512 : Shape := ⟨1, ![512]⟩
abbrev S_ : Shape := ⟨0, ![]⟩
abbrev S128x128 : Shape := ⟨2, ![128, 128]⟩
abbrev S128x1024 : Shape := ⟨2, ![128, 1024]⟩
abbrev S1 : Shape := ⟨1, ![1]⟩
abbrev S16384x2048 : Shape := ⟨2, ![16384, 2048]⟩
abbrev S128x2048 : Shape := ⟨2, ![128, 2048]⟩
abbrev S4x512x256 : Shape := ⟨3, ![4, 512, 256]⟩
abbrev S16x128 : Shape := ⟨2, ![16, 128]⟩
abbrev S128x256 : Shape := ⟨2, ![128, 256]⟩
abbrev S1x256 : Shape := ⟨2, ![1, 256]⟩
abbrev S128x512 : Shape := ⟨2, ![128, 512]⟩
abbrev S16x256 : Shape := ⟨2, ![16, 256]⟩
abbrev S112x256 : Shape := ⟨2, ![112, 256]⟩
abbrev S32x256 : Shape := ⟨2, ![32, 256]⟩
abbrev S96x256 : Shape := ⟨2, ![96, 256]⟩
abbrev S48x256 : Shape := ⟨2, ![48, 256]⟩
abbrev S80x256 : Shape := ⟨2, ![80, 256]⟩
abbrev S64x256 : Shape := ⟨2, ![64, 256]⟩
abbrev S1x512x256 : Shape := ⟨3, ![1, 512, 256]⟩
abbrev S512x256 : Shape := ⟨2, ![512, 256]⟩
abbrev S512x128 : Shape := ⟨2, ![512, 128]⟩
abbrev S128 : Shape := ⟨1, ![128]⟩
abbrev S128x1 : Shape := ⟨2, ![128, 1]⟩

abbrev nBuf : Space → Nat
  | .hbm => 32
  | .vmem => 20
  | .smem => 0
  | _ => 0

abbrev bufTy : (tb : Table) → Fin (tcTables nBuf tb) → BufTy
  | .hbm, ⟨0, _⟩ => ⟨S16384x11264, .bf16⟩
  | .hbm, ⟨1, _⟩ => ⟨S16384x128, .f32⟩
  | .hbm, ⟨2, _⟩ => ⟨S1x16x1024, .f32⟩
  | .hbm, ⟨3, _⟩ => ⟨S1x1024, .f32⟩
  | .hbm, ⟨4, _⟩ => ⟨S1x512, .f32⟩
  | .hbm, ⟨5, _⟩ => ⟨S16x1024, .f32⟩
  | .hbm, ⟨6, _⟩ => ⟨S1024, .f32⟩
  | .hbm, ⟨7, _⟩ => ⟨S512, .f32⟩
  | .hbm, ⟨8, _⟩ => ⟨S_, .f32⟩
  | .hbm, ⟨9, _⟩ => ⟨S128x128, .f32⟩
  | .hbm, ⟨10, _⟩ => ⟨S128x128, .i32⟩
  | .hbm, ⟨11, _⟩ => ⟨S_, .i32⟩
  | .hbm, ⟨12, _⟩ => ⟨S128x128, .i32⟩
  | .hbm, ⟨13, _⟩ => ⟨S128x128, .i32⟩
  | .hbm, ⟨14, _⟩ => ⟨S128x128, .i32⟩
  | .hbm, ⟨15, _⟩ => ⟨S128x128, .i1⟩
  | .hbm, ⟨16, _⟩ => ⟨S_, .f32⟩
  | .hbm, ⟨17, _⟩ => ⟨S128x128, .f32⟩
  | .hbm, ⟨18, _⟩ => ⟨S128x128, .f32⟩
  | .hbm, ⟨19, _⟩ => ⟨S128x128, .bf16⟩
  | .hbm, ⟨20, _⟩ => ⟨S_, .f32⟩
  | .hbm, ⟨21, _⟩ => ⟨S128x1024, .f32⟩
  | .hbm, ⟨22, _⟩ => ⟨S_, .i32⟩
  | .hbm, ⟨23, _⟩ => ⟨S1, .i32⟩
  | .hbm, ⟨24, _⟩ => ⟨S128x1024, .f32⟩
  | .hbm, ⟨25, _⟩ => ⟨S128x1024, .bf16⟩
  | .hbm, ⟨26, _⟩ => ⟨S128x1024, .f32⟩
  | .hbm, ⟨27, _⟩ => ⟨S128x1024, .f32⟩
  | .hbm, ⟨28, _⟩ => ⟨S128x1024, .bf16⟩
  | .hbm, ⟨29, _⟩ => ⟨S1x1024, .f32⟩
  | .hbm, ⟨30, _⟩ => ⟨S1x512, .f32⟩
  | .hbm, ⟨31, _⟩ => ⟨S16384x2048, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x2048, .bf16⟩
  | .local _ .vmem, ⟨5, _⟩ => ⟨S128x2048, .bf16⟩
  | .local _ .vmem, ⟨6, _⟩ => ⟨S128x2048, .bf16⟩
  | .local _ .vmem, ⟨7, _⟩ => ⟨S128x2048, .bf16⟩
  | .local _ .vmem, ⟨8, _⟩ => ⟨S128x128, .f32⟩
  | .local _ .vmem, ⟨9, _⟩ => ⟨S128x128, .f32⟩
  | .local _ .vmem, ⟨10, _⟩ => ⟨S128x1024, .bf16⟩
  | .local _ .vmem, ⟨11, _⟩ => ⟨S128x1024, .bf16⟩
  | .local _ .vmem, ⟨12, _⟩ => ⟨S1x1024, .f32⟩
  | .local _ .vmem, ⟨13, _⟩ => ⟨S1x512, .f32⟩
  | .local _ .vmem, ⟨14, _⟩ => ⟨S128x128, .bf16⟩
  | .local _ .vmem, ⟨15, _⟩ => ⟨S128x2048, .bf16⟩
  | .local _ .vmem, ⟨16, _⟩ => ⟨S128x2048, .bf16⟩
  | .local _ .vmem, ⟨17, _⟩ => ⟨S128x1024, .f32⟩
  | .local _ .vmem, ⟨18, _⟩ => ⟨S128x128, .f32⟩
  | .local _ .vmem, ⟨19, _⟩ => ⟨S4x512x256, .f32⟩
  | _, _ => ⟨S16384x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_cst : Ref sig .tc := ⟨.hbm, 16, rfl⟩
abbrev main_call0_v5 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_c : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c9_i32 : BitVec 32 := 9#32
  let c0_i32 : BitVec 32 := 0#32
  ![v1.toNat, c9_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c10_i32 : BitVec 32 := 10#32
  let c0_i32 : BitVec 32 := 0#32
  ![v1.toNat, c10_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c2_i32 : BitVec 32 := 2#32
  let c0_i32 : BitVec 32 := 0#32
  ![v1.toNat, c2_i32.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c3_i32 : BitVec 32 := 3#32
  let c0_i32 : BitVec 32 := 0#32
  ![v1.toNat, c3_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S128x2048 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.InProj.Kit.lean ====
/- The set-up of the input projection's launch: the host operations before the call, the table of column
   offsets as the call reads it, the windows' blocks, where the body's branch is taken, and the memrefs the
   body is handed at a grid point. Everything is stated over any interpretation `F` of the floats. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Pipeline.Kit
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## Where the windows are fetched and written back -/

/-- Window 0 (operand 1 (%0)) is fetched at the points ≡ 0 (mod 11), at any contents of the tables (its index map reads none). -/
theorem fetch0_0 (a : (pcfg0 (F := F)).Adm) : ∀ t : Fin (cfg0 a).N, ((cfg0 a).win 0).fetch t = true ↔ t.val % 11 = 0 :=
  (fun t => Pipeline.Window.fetchOf_reads cc0_transform_0 reads0_0 hreads0_0 0 (by decide) (by decide) (Pipeline.Window.sep_of_coord cc0_transform_0 0 0 (fun _ => rfl) (by decide)) (P := 11) (by decide) t : ∀ t : Fin grid0.N, Pipeline.Window.fetchOf grid0 false cc0_transform_0 t = true ↔ t.val % 11 = 0)
/-- Window 1 (operand 2 (%12)) is fetched at the first point only, at any contents of the tables (its index map reads none). -/
theorem fetch0_1 (a : (pcfg0 (F := F)).Adm) : ∀ t : Fin (cfg0 a).N, ((cfg0 a).win 1).fetch t = true ↔ t.val % 176 = 0 :=
  (fun t => Pipeline.Window.fetchOf_const cc0_transform_1 (fun _ _ => rfl) (n := 176) (by decide) t : ∀ t : Fin grid0.N, Pipeline.Window.fetchOf grid0 false cc0_transform_1 t = true ↔ t.val % 176 = 0)
-- window 2 has no such fact: its index map reads the table
/-- Window 3 (operand 4 (%7)) is fetched at the first point only, at any contents of the tables (its index map reads none). -/
theorem fetch0_3 (a : (pcfg0 (F := F)).Adm) : ∀ t : Fin (cfg0 a).N, ((cfg0 a).win 3).fetch t = true ↔ t.val % 176 = 0 :=
  (fun t => Pipeline.Window.fetchOf_const cc0_transform_3 (fun _ _ => rfl) (n := 176) (by decide) t : ∀ t : Fin grid0.N, Pipeline.Window.fetchOf grid0 false cc0_transform_3 t = true ↔ t.val % 176 = 0)
/-- Window 4 (operand 5 (%10)) is fetched at the first point only, at any contents of the tables (its index map reads none). -/
theorem fetch0_4 (a : (pcfg0 (F := F)).Adm) : ∀ t : Fin (cfg0 a).N, ((cfg0 a).win 4).fetch t = true ↔ t.val % 176 = 0 :=
  (fun t => Pipeline.Window.fetchOf_const cc0_transform_4 (fun _ _ => rfl) (n := 176) (by decide) t : ∀ t : Fin grid0.N, Pipeline.Window.fetchOf grid0 false cc0_transform_4 t = true ↔ t.val % 176 = 0)
/-- Window 5 (result 0 (%14#0)) is written back at every point, at any contents of the tables (its index map reads none). -/
theorem flush0_5 (a : (pcfg0 (F := F)).Adm) : ∀ t : Fin (cfg0 a).N, ((cfg0 a).win 5).flush t = true :=
  (fun t => (Pipeline.Window.flushOf_reads cc0_transform_5 reads0_5 hreads0_5 1 (by decide) (by decide) (Pipeline.Window.sep_of_coord cc0_transform_5 1 1 (fun _ => rfl) (by decide)) (P := 1) (m := 0) (by decide) rfl t).mpr (Nat.mod_one _) : ∀ t : Fin grid0.N, Pipeline.Window.flushOf grid0 true cc0_transform_5 t = true)
/-- Window 6 (result 1 (%14#1)) is written back at the points ≡ 10 (mod 11), at any contents of the tables (its index map reads none). -/
theorem flush0_6 (a : (pcfg0 (F := F)).Adm) : ∀ t : Fin (cfg0 a).N, ((cfg0 a).win 6).flush t = true ↔ t.val % 11 = 10 :=
  (fun t => Pipeline.Window.flushOf_reads cc0_transform_6 reads0_6 hreads0_6 0 (by decide) (by decide) (Pipeline.Window.sep_of_coord cc0_transform_6 0 0 (fun _ => rfl) (by decide)) (P := 11) (m := 10) (by decide) rfl t : ∀ t : Fin grid0.N, Pipeline.Window.flushOf grid0 true cc0_transform_6 t = true ↔ t.val % 11 = 10)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)

/-- The kernel body at point `t`, on what the pipeline calls it with. -/
abbrev bodyAt0 (a : (pcfg0 (F := F)).Adm) (t : Fin (cfg0 a).N) : Prog (TpuEff nD τ sig (Elt F) Λ₀ .tc) PUnit :=
  cc0_in_proj (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (Memref.whole cc0_scratch0) (Memref.isWhole_whole _)

variable (m : (ℓ : Loc nD τ sig) → Buf (Elt F) ℓ) (ρ : Dev nD → PrngReg)

/-! ## @main up to the region -/

/-- Core `c`'s buffers when the region is entered: after the host operations `hostOps0`. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point. -/
abbrev Ok : Prop := ok0 (F := F) (tbl m)
/-- The tables' contents as ADMISSIBLE contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S11 .i32 := Memref.whole main_c
abbrev htbM0_0 : tbM0_0.IsWhole := Memref.isWhole_whole _

/-- A table memref's buffer on core `c`: its contents type, and it held at HALF the full share at `f`; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's staging buffer holds its block at every point, fetched there or not, for proof data whose array is
    the one the region finds and whose body leaves the block in place: where it is not fetched the block has not moved. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds its block at every point, fetched there or not, for proof data whose array is
    the one the region finds and whose body leaves the block in place: where it is not fetched the block has not moved. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds its block at every point, fetched there or not, for proof data whose array is
    the one the region finds and whose body leaves the block in place: where it is not fetched the block has not moved. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds its block at every point, fetched there or not, for proof data whose array is
    the one the region finds and whose body leaves the block in place: where it is not fetched the block has not moved. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds its block at every point, fetched there or not, for proof data whose array is
    the one the region finds and whose body leaves the block in place: where it is not fetched the block has not moved. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- The frame claim's post from a run that says what the region leaves: each argument array is one no window stages, and no
    host operation writes it. -/
theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

/-! ## The body's branch conditions -/

/-- The condition of the body's `scf.if` 0, from the grid coordinates. -/
abbrev cond0_0 (i : grid0.Coords) : Prop := k0_cond1 i = 1#1
/-- It holds at the points ≡ 0 (mod 11). -/
theorem hcond0_0 : ∀ t : Fin grid0.N, cond0_0 (grid0.coords t) ↔ t.val % 11 = 0 :=
  (fun t => by
    have ht : t.val < 176 := Nat.lt_of_lt_of_eq t.isLt N_0
    have e0 : (grid0.coords t 0).val = t.val / 11 % 16 := Pipeline.Grid.coords_val t 0 (by decide) rfl
    have e1 : (grid0.coords t 1).val = t.val / 1 % 11 := Pipeline.Grid.coords_val t 1 (by decide) rfl
    simp only [cond0_0, k0_cond1, e0, e1]
    word_cmp
   : ∀ t : Fin grid0.N, cond0_0 (grid0.coords t) ↔ t.val % 11 = 0)

/-! ## Where the windows are idle -/

/-- Window 0 is never idle (an input). -/
theorem liveAt0_0 (hO : Ok m) : ∀ t : Fin (cfgM m hO).N, (cfgM m hO).idle 0 (grid0.coords t) = false :=
  (fun _ => rfl : ∀ t : Fin grid0.N, idle0 0 (grid0.coords t) = false)
/-- Window 1 is never idle (an input). -/
theorem liveAt0_1 (hO : Ok m) : ∀ t : Fin (cfgM m hO).N, (cfgM m hO).idle 1 (grid0.coords t) = false :=
  (fun _ => rfl : ∀ t : Fin grid0.N, idle0 1 (grid0.coords t) = false)
/-- Window 2 is never idle (an input). -/
theorem liveAt0_2 (hO : Ok m) : ∀ t : Fin (cfgM m hO).N, (cfgM m hO).idle 2 (grid0.coords t) = false :=
  (fun _ => rfl : ∀ t : Fin grid0.N, idle0 2 (grid0.coords t) = false)
/-- Window 3 is never idle (an input). -/
theorem liveAt0_3 (hO : Ok m) : ∀ t : Fin (cfgM m hO).N, (cfgM m hO).idle 3 (grid0.coords t) = false :=
  (fun _ => rfl : ∀ t : Fin grid0.N, idle0 3 (grid0.coords t) = false)
/-- Window 4 is never idle (an input). -/
theorem liveAt0_4 (hO : Ok m) : ∀ t : Fin (cfgM m hO).N, (cfgM m hO).idle 4 (grid0.coords t) = false :=
  (fun _ => rfl : ∀ t : Fin grid0.N, idle0 4 (grid0.coords t) = false)
/-! ## The memrefs the body is handed -/

/-- Each window's current staging memref at point `t`, spelled as the pipeline passes it (`bodyAt0`), and its wholeness. -/
abbrev ms0_0 (hO : Ok m) (t : Fin (cfgM m hO).N) : Memref sig .tc .vmem S1024x2048 .f32 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1024x2048 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S128x2048 .bf16 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S128x2048 .bf16 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1024x1024 .bf16 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1024x128 .f32 := spec0_6.stage ((cfgM m hO).slots t 6)
abbrev hs0_6 (hO : Ok m) (t : Fin (cfgM m hO).N) : (ms0_6 m hO t).IsWhole := hstage0_6 (((cfgM m hO).slots t 6).cast nbuf0_6)
/-- The scratch operands: whole scoped buffers of the kernel's own, passed beside the windows. -/
abbrev scM0_0 : Memref sig .tc .vmem S1024x2048 .bf16 := Memref.whole cc0_scratch0

/-- The region's invariant with the scratch buffer as a memref owned at some contents. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.InProj

end
-- ==== Proof.InProj.Body.lean ====
/- What the body of the input projection leaves in its buffers, in each of its two cases. -/
module

public import proofs.«01_k».proof.Proof.InProj.Kit
public import Idealize.ShloMosaic.Lib.VecWindow

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- At the first column block of a row block the body normalises the rows it is handed, keeps them in the scratch
    buffer, stores the block of narrow columns, and stores the first block of `u`. -/
theorem run_first (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .bf16) (harg5 : arg5.IsWhole) (arg6 : Memref sig .tc .vmem S128x2048 .bf16) (harg6 : arg6.IsWhole) (arg7 : Memref sig .tc .vmem S128x2048 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : cond0_0 i)
    (x0 : Vec F S1024x2048 .f32) (x1 : Vec F S1x2048 .f32) (x2 : Vec F S1024x2048 .bf16) (x3 : Vec F S128x2048 .bf16) (x4 : Vec F S128x2048 .bf16) (xt0 : TbBuf0 (F := F) c tbM0_0)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ (∃ d, owns (c : Thread nD τ) arg9 fullShare d) ∗ (∃ d, owns (c : Thread nD τ) arg10 fullShare d) ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 (k0_pay2 x0 x1) x2) ∗ owns (c : Thread nD τ) arg9 fullShare (k0_pay3 x0 x1 x3 x3 x4) ∗ owns (c : Thread nD τ) arg10 fullShare (k0_pay2 x0 x1) ∗ tbPt0 c tbM0_0 xt0) -∗ K ⟨⟩))
      ⊢ wp frame (wpE (defs₀ (F := F)) Variants.none c none) E (cc0_in_proj i tbM0_0 htbM0_0 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, HT0, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [View.read_writes_full]
    repeat first | rw [View.readCov_full] | rw [View.readAt_full, Memref.IsWhole.read_unread]
  isplitl [H6]
  · iexists _; isplitr
    swap; · iexact H6
    ipureintro
    sl_unfold_run_names
    rw [View.read_writes_full]
    repeat first | rw [View.readCov_full] | rw [View.readAt_full, Memref.IsWhole.read_unread]
  isplitl [HS0]
  · iexists _; isplitr
    swap; · iexact HS0
    ipureintro
    sl_unfold_run_names
    rw [View.read_writes_full]
    repeat first | rw [View.readCov_full] | rw [View.readAt_full, Memref.IsWhole.read_unread]
  iexact HT0

set_option maxHeartbeats 1000000 in
/-- At a later column block of the same row block the body stores the product of the rows it kept with that
    block's weights, and leaves the scratch buffer and the block of narrow columns as they were. -/
theorem run_later (c : Dev nD) (i : grid0.Coords) (arg3 : Memref sig .tc .vmem S1024x2048 .f32) (harg3 : arg3.IsWhole) (arg4 : Memref sig .tc .vmem S1x2048 .f32) (harg4 : arg4.IsWhole) (arg5 : Memref sig .tc .vmem S1024x2048 .bf16) (harg5 : arg5.IsWhole) (arg6 : Memref sig .tc .vmem S128x2048 .bf16) (harg6 : arg6.IsWhole) (arg7 : Memref sig .tc .vmem S128x2048 .bf16) (harg7 : arg7.IsWhole) (arg8 : Memref sig .tc .vmem S1024x1024 .bf16) (harg8 : arg8.IsWhole) (arg9 : Memref sig .tc .vmem S1024x128 .f32) (harg9 : arg9.IsWhole) (arg10 : Memref sig .tc .vmem S1024x2048 .bf16) (harg10 : arg10.IsWhole) (hc0 : ¬cond0_0 i)
    (x0 : Vec F S1024x2048 .f32) (x1 : Vec F S1x2048 .f32) (x2 : Vec F S1024x2048 .bf16) (x3 : Vec F S128x2048 .bf16) (x4 : Vec F S128x2048 .bf16) (xt0 : TbBuf0 (F := F) c tbM0_0) (x6 : Vec F S1024x128 .f32) (xs : Vec F S1024x2048 .bf16)
    (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d) ∗ owns (c : Thread nD τ) arg9 fullShare x6 ∗ owns (c : Thread nD τ) arg10 fullShare xs ∗ tbPt0 c tbM0_0 xt0
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare (k0_pay4 xs x2) ∗ owns (c : Thread nD τ) arg9 fullShare x6 ∗ owns (c : Thread nD τ) arg10 fullShare xs ∗ tbPt0 c tbM0_0 xt0) -∗ K ⟨⟩))
      ⊢ wp frame (wpE (defs₀ (F := F)) Variants.none c none) E (cc0_in_proj i tbM0_0 htbM0_0 arg3 harg3 arg4 harg4 arg5 harg5 arg6 harg6 arg7 harg7 arg8 harg8 arg9 harg9 arg10 harg10) K := by
  simp only [cc0_in_proj_eq_skeleton]; unfold cc0_in_proj_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, HT0, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0
  sl_exec (disch := first | sl_exact hc0)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    sl_unfold_run_names
    rw [View.read_writes_full]
    repeat first | rw [View.readCov_full] | rw [View.readAt_full, Memref.IsWhole.read_unread]
  isplitl [H6]
  · iexists _; isplitr; · ipureintro; exact harg9.read_unread _
    iexact H6
  isplitl [HS0]
  · iexists _; isplitr; · ipureintro; exact harg10.read_unread _
    iexact HS0
  iexact HT0

end Cert.KernelIdeal.InProj

end
-- ==== Proof.InProj.Launch.lean ====
/- The run of the input projection, with what every buffer holds at each grid point named: the staged rows of a row
   block stay in the scratch buffer from its first column block to its last, and so does the block of narrow columns
   in its staging buffer, which is written back after the last one. -/
module

public import proofs.«01_k».proof.Proof.InProj.Body
public import Idealize.ShloMosaic.Lib.Pipeline.TableIdle

@[expose] public section

set_option maxRecDepth 16384

noncomputable section

namespace Cert.KernelIdeal.InProj

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold after a point -/

/-- The point of the first column block of `t`'s row block. -/
def firstPt (hO : Ok m) (t : Fin (cfgM m hO).N) : Fin (cfgM m hO).N := ⟨11 * (t.val / 11), by have := t.isLt; omega⟩

theorem firstPt_of_first (hO : Ok m) (t : Fin (cfgM m hO).N) (h : t.val % 11 = 0) : firstPt m hO t = t :=
  Fin.ext (by simp only [firstPt]; omega)

theorem firstPt_of_later (hO : Ok m) (t t' : Fin (cfgM m hO).N) (h : ¬t.val % 11 = 0) (h' : t'.val = t.val - 1) :
    firstPt m hO t = firstPt m hO t' := Fin.ext (by simp only [firstPt]; omega)

/-- The normalised rows of `t`'s row block, as the scratch buffer keeps them. -/
def keptRows (hO : Ok m) (c : Dev nD) (t : Fin (cfgM m hO).N) : Vec F S1024x2048 .bf16 :=
  k0_pay2 (iblk m hO c 0 (firstPt m hO t)) (iblk m hO c 1 (firstPt m hO t))
/-- The block of `u` that point `t` stores. -/
def wideBlock (hO : Ok m) (c : Dev nD) (t : Fin (cfgM m hO).N) : Vec F S1024x1024 .bf16 :=
  k0_pay4 (keptRows m hO c t) (iblk m hO c 2 t)
/-- The block of narrow columns of `t`'s row block. -/
def narrowBlock (hO : Ok m) (c : Dev nD) (t : Fin (cfgM m hO).N) : Vec F S1024x128 .f32 :=
  k0_pay3 (iblk m hO c 0 (firstPt m hO t)) (iblk m hO c 1 (firstPt m hO t)) (iblk m hO c 3 (firstPt m hO t))
    (iblk m hO c 3 (firstPt m hO t)) (iblk m hO c 4 (firstPt m hO t))

/-- What the region carries from point to point: the scratch buffer, from the first point on at the rows the last
    point kept. -/
def Carried (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(owns (c : Thread nD τ) scM0_0 fullShare (keptRows m hO c ⟨n, hn⟩) ∗ (∃ r, prngReg c r)) ∗ Pipeline.ΦT pre0 (tbl m) c)

theorem Carried_zero (hO : Ok m) (c : Dev nD) (n : ℕ) (h : n ≤ (cfgM m hO).N) (hz : n = 0) :
    Carried m hO c n h = iprop(Pipeline.ΦA spec0 c ∗ Pipeline.ΦT pre0 (tbl m) c) := by
  subst hz; rfl

theorem Carried_succ (hO : Ok m) (c : Dev nD) (t : Fin (cfgM m hO).N) :
    Carried m hO c (t.val + 1) t.isLt
      = iprop(iprop(owns (c : Thread nD τ) scM0_0 fullShare (keptRows m hO c t) ∗ (∃ r, prngReg c r)) ∗ Pipeline.ΦT pre0 (tbl m) c) := rfl

theorem Carried_pos (hO : Ok m) (c : Dev nD) (n : ℕ) (h : n ≤ (cfgM m hO).N) (hz : n ≠ 0) :
    Carried m hO c n h = iprop(iprop(owns (c : Thread nD τ) scM0_0 fullShare (keptRows m hO c ⟨n - 1, by omega⟩) ∗ (∃ r, prngReg c r)) ∗ Pipeline.ΦT pre0 (tbl m) c) := by
  cases n with
  | zero => exact absurd rfl hz
  | succ n => rfl

/-- The proof data of the call. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => wideBlock m hO c t
    | ⟨6, _⟩ => narrowBlock m hO c t
  Φ t := Carried m hO c t.val (Nat.le_of_lt_succ t.isLt)
  q _ := fullShare
  owed _ := 0

theorem A_eq (hO : Ok m) (c : Dev nD) (w : Fin (cfgM m hO).W) : (dats m hO 0 c).A w = V m c (Pipeline.arrRef spec0 w) := by
  dsimp only [dats]

theorem Phi_castSucc (hO : Ok m) (c : Dev nD) (t : Fin (cfgM m hO).N) :
    (dats m hO 0 c).Φ t.castSucc = Carried m hO c t.val (Nat.le_of_lt t.isLt) := by
  dsimp only [dats]; exact Pipeline.Dat.Φ_castSucc (Carried m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = wideBlock m hO c t := by dsimp only [dats]; try rfl
theorem after0_6 (hO : Ok m) (c : Dev nD) (t : Fin (cfgM m hO).N) : (dats m hO 0 c).after 6 t = narrowBlock m hO c t := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d

/-- The body stores nothing into the narrow block's buffer except at the first column block of a row block. -/
theorem idle0_6 (hO : Ok m) (t : Fin (cfgM m hO).N) : (cfgM m hO).idle 6 (grid0.coords t) = !decide (t.val % 11 = 0) := by
  show (!(k0_cond1 (grid0.coords t) == 1#1)) = _
  congr 1
  exact decide_eq_decide.mpr (hcond0_0 t)

/-- The narrow block's buffer is fresh exactly at the first column block of a row block. -/
theorem fresh0_6 (hO : Ok m) (n : ℕ) (h : n ≤ (cfgM m hO).N) : (cfgM m hO).fresh 6 n = decide (n % 11 = 0) := by
  refine (cfgM m hO).fresh_tab 6 (fun n => decide (n % 11 = 0)) rfl (fun t => ?_) n h
  rw [show (cfgM m hO).idle 6 ((cfgM m hO).grid.coords t) = _ from idle0_6 m hO t]
  by_cases hf : t.val % 11 = 10
  · rw [(flush0_6 (adm m hO) t).mpr hf, Bool.true_or]
    exact decide_eq_true (by omega)
  · rw [Bool.eq_false_iff.mpr (mt (flush0_6 (adm m hO) t).mp hf), Bool.false_or]
    by_cases h0 : t.val % 11 = 0
    · rw [decide_eq_true h0]; exact decide_eq_false (by omega)
    · rw [decide_eq_false h0]; exact decide_eq_false (by omega)

/-- At a later column block of a row block the narrow block's buffer holds that row block's narrow columns. -/
theorem before0_6 (hO : Ok m) (c : Dev nD) (t : Fin (cfgM m hO).N) (h : ¬t.val % 11 = 0) (d) :
    (dats m hO 0 c).before 6 t d = narrowBlock m hO c t := by
  have step : ∀ (t : Fin (cfgM m hO).N) (h : ¬t.val % 11 = 0), narrowBlock m hO c t = narrowBlock m hO c ⟨t.val - 1, by omega⟩ := fun t h => by
    unfold narrowBlock; rw [firstPt_of_later m hO t ⟨t.val - 1, by omega⟩ h rfl]
  rw [Pipeline.Dat.before_out_traj (dats m hO 0 c) 6 rfl (fun _ _ => rfl) (fun t ht hi hfr => ?_) t.val t rfl d,
    fresh0_6 m hO t.val (Nat.le_of_lt t.isLt), decide_eq_false h, if_neg Bool.false_ne_true, after0_6]
  · exact (step t h).symm
  · rw [fresh0_6 m hO t.val (Nat.le_of_lt t.isLt)] at hfr
    rw [after0_6, after0_6]; exact step t (of_decide_eq_false hfr)

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t)

/-- A window that is written to at `t`, or written back there, is left at what the proof data say. -/
theorem leaves_of (hO : Ok m) (c : Dev nD) (t : Fin (cfgM m hO).N) (w : Fin (cfgM m hO).W) (h : (cfgM m hO).idle w ((cfgM m hO).grid.coords t) = false ∨ ((cfgM m hO).win w).flush t = true) :
    (dats m hO 0 c).leavesExact w t = owns (c : Thread nD τ) (((cfgM m hO).win w).stage ((cfgM m hO).slots t w)) fullShare ((dats m hO 0 c).after w t) := by
  rcases h with h | h
  · unfold Dat.leavesExact
    rw [h]
  · unfold Dat.leavesExact
    rw [h]
    cases (cfgM m hO).idle w ((cfgM m hO).grid.coords t) <;> rfl

theorem leaves0_0 (hO : Ok m) (c : Dev nD) (t : Fin (cfgM m hO).N) : (dats m hO 0 c).leavesExact 0 t = owns (c : Thread nD τ) (ms0_0 m hO t) fullShare (iblk m hO c 0 t) :=
  leaves_of m hO c t 0 (.inl rfl)
theorem leaves0_1 (hO : Ok m) (c : Dev nD) (t : Fin (cfgM m hO).N) : (dats m hO 0 c).leavesExact 1 t = owns (c : Thread nD τ) (ms0_1 m hO t) fullShare (iblk m hO c 1 t) :=
  leaves_of m hO c t 1 (.inl rfl)
theorem leaves0_2 (hO : Ok m) (c : Dev nD) (t : Fin (cfgM m hO).N) : (dats m hO 0 c).leavesExact 2 t = owns (c : Thread nD τ) (ms0_2 m hO t) fullShare (iblk m hO c 2 t) :=
  leaves_of m hO c t 2 (.inl rfl)
theorem leaves0_3 (hO : Ok m) (c : Dev nD) (t : Fin (cfgM m hO).N) : (dats m hO 0 c).leavesExact 3 t = owns (c : Thread nD τ) (ms0_3 m hO t) fullShare (iblk m hO c 3 t) :=
  leaves_of m hO c t 3 (.inl rfl)
theorem leaves0_4 (hO : Ok m) (c : Dev nD) (t : Fin (cfgM m hO).N) : (dats m hO 0 c).leavesExact 4 t = owns (c : Thread nD τ) (ms0_4 m hO t) fullShare (iblk m hO c 4 t) :=
  leaves_of m hO c t 4 (.inl rfl)
theorem leaves0_5 (hO : Ok m) (c : Dev nD) (t : Fin (cfgM m hO).N) : (dats m hO 0 c).leavesExact 5 t = owns (c : Thread nD τ) (ms0_5 m hO t) fullShare (wideBlock m hO c t) :=
  leaves_of m hO c t 5 (.inl rfl)

/-- So is the narrow block's buffer at every point. -/
theorem narrow_left (hO : Ok m) (c : Dev nD) (t : Fin (cfgM m hO).N) :
    owns (c : Thread nD τ) (ms0_6 m hO t) fullShare (narrowBlock m hO c t) ⊢ (dats m hO 0 c).leavesExact 6 t := by
  by_cases h0 : t.val % 11 = 0
  · exact .of_eq (leaves_of m hO c t 6 (.inl ((idle0_6 m hO t).trans (by rw [decide_eq_true h0]; rfl)))).symm
  · by_cases hf : t.val % 11 = 10
    · exact .of_eq (leaves_of m hO c t 6 (.inr ((flush0_6 (adm m hO) t).mpr hf))).symm
    · rw [Pipeline.Dat.leavesExact_idle (dats m hO 0 c) 6 t (by rw [show (cfgM m hO).idle 6 ((cfgM m hO).grid.coords t) = _ from idle0_6 m hO t, decide_eq_false h0]; rfl)
        (Bool.eq_false_iff.mpr (mt (flush0_6 (adm m hO) t).mp hf))]
      iintro H
      iexists fun _ => default
      rw [before0_6 m hO c t h0]
      iexact H

set_option maxHeartbeats 6400000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4]
  rw [show (dats m hO 0 c).owesAt () t.succ = (dats m hO 0 c).owesAt () t.castSucc from rfl,
    leaves0_0, leaves0_1, leaves0_2, leaves0_3, leaves0_4, leaves0_5]
  rw [show (dats m hO 0 c).Φ t.succ = Carried m hO c (t.val + 1) t.isLt from rfl, Carried_succ, PhiT0_eq]
  by_cases h0 : t.val % 11 = 0
  · have hfirst := firstPt_of_first m hO t h0
    have hk : keptRows m hO c t = k0_pay2 (iblk m hO c 0 t) (iblk m hO c 1 t) := by unfold keptRows; rw [hfirst]
    have hw : wideBlock m hO c t = k0_pay4 (k0_pay2 (iblk m hO c 0 t) (iblk m hO c 1 t)) (iblk m hO c 2 t) := by unfold wideBlock; rw [hk]
    have hn : narrowBlock m hO c t = k0_pay3 (iblk m hO c 0 t) (iblk m hO c 1 t) (iblk m hO c 3 t) (iblk m hO c 3 t) (iblk m hO c 4 t) := by
      unfold narrowBlock; rw [hfirst]
    have hN := narrow_left m hO c t
    rw [hn] at hN
    rw [hk, hw]
    have hΦ : Carried m hO c t.val (Nat.le_of_lt t.isLt)
        ⊢ iprop(iprop((∃ d, owns (c : Thread nD τ) scM0_0 fullShare d) ∗ (∃ r, prngReg c r)) ∗ tbPt0 c tbM0_0 (tbl m 0)) := by
      by_cases hz : t.val = 0
      · rw [Carried_zero m hO c _ _ hz, PhiT0_eq, PhiA0_eq]
      · rw [Carried_pos m hO c _ _ hz, PhiT0_eq]
        iintro ⟨⟨HS0, Hg⟩, HT0⟩
        isplitl [HS0 Hg]
        · isplitl [HS0]
          · iexists _; iexact HS0
          iexact Hg
        iexact HT0
    rw [Phi_castSucc m hO c t]
    iintro ⟨HΦ, Ho, ⟨%d0, H0⟩, ⟨%d1, H1⟩, ⟨%d2, H2⟩, ⟨%d3, H3⟩, ⟨%d4, H4⟩, ⟨%d5, H5⟩, ⟨%d6, H6⟩⟩
    ihave HΦ := hΦ $$ HΦ
    icases HΦ with ⟨⟨HS0, Hg⟩, HT0⟩
    iapply (run_first c (grid0.coords t) _ _ _ _ _ _ _ _ _ _ _ _ _ _ _ _ ((hcond0_0 t).mpr h0) (iblk m hO c 0 t) (iblk m hO c 1 t) (iblk m hO c 2 t) (iblk m hO c 3 t) (iblk m hO c 4 t) (tbl m 0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    isplitl [HT0]; · iexact HT0
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply hN
    iexact H6
  · have hz : t.val ≠ 0 := fun hz => h0 (by rw [hz])
    have hk : keptRows m hO c ⟨t.val - 1, by omega⟩ = keptRows m hO c t := by
      unfold keptRows; rw [firstPt_of_later m hO t ⟨t.val - 1, by omega⟩ h0 rfl]
    have hN := narrow_left m hO c t
    rw [Phi_castSucc m hO c t, Carried_pos m hO c _ _ hz, PhiT0_eq, hk]
    simp only [before0_6 m hO c t h0]
    unfold wideBlock
    iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩⟩
    iapply (run_later c (grid0.coords t) _ _ _ _ _ _ _ _ _ _ _ _ _ _ _ _ (fun h => h0 ((hcond0_0 t).mp h)) (iblk m hO c 0 t) (iblk m hO c 1 t) (iblk m hO c 2 t) (iblk m hO c 3 t) (iblk m hO c 4 t) (tbl m 0) (narrowBlock m hO c t) (keptRows m hO c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    isplitl [HT0]; · iexact HT0
    iintro ⟨H0, H1, H2, H3, H4, H5, H6, HS0, HT0⟩
    isplitl [HS0 Hg HT0]
    · isplitl [HS0 Hg]
      · isplitl [HS0]
        · iexact HS0
        iexact Hg
      iexact HT0
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply hN
    iexact H6

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

/-! ## The run -/

theorem hin (hO : Ok m) (c : Dev nD) : iprop(Pipeline.ΦA spec0 c ∗ Pipeline.ΦT pre0 (tbl m) c) ⊢ (dats m hO 0 c).Φ 0 := by
  rw [show (dats m hO 0 c).Φ 0 = Carried m hO c 0 (Nat.zero_le _) from rfl, Carried_zero m hO c 0 _ rfl]
  try exact Idealize.SL.BI.Entails.refl _

theorem hout (hO : Ok m) (c : Dev nD) : (dats m hO 0 c).Φ (Fin.last (cfgM m hO).N) ⊢ Pipeline.ΦA spec0 c := by
  have hN : (cfgM m hO).N = 176 := N_0
  rw [show (dats m hO 0 c).Φ (Fin.last (cfgM m hO).N) = Carried m hO c (cfgM m hO).N (le_refl _) from rfl,
    Carried_pos m hO c _ _ (by omega), PhiA0_eq]
  iintro ⟨⟨HS0, Hg⟩, -⟩
  isplitl [HS0]
  · iexists _; iexact HS0
  iexact Hg

set_option backward.isDefEq.respectTransparency.types false in
/-- Every execution of the program ends, with every array of the call at what the points' write-backs leave, every
    other buffer as the call found it, and every counter at zero. -/
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO) (A_eq m hO) (run_main m ρ hO)

/-- The frame: the arguments end unchanged, and every counter at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO) ((θ_run defs _ _).mono (fun _ h => h.2) (run_main_quiescent m ρ hO))

end Cert.KernelIdeal.InProj

end
-- ==== Proof.InProj.Table.lean ====
/- The table of column offsets the call prefetches, and the side conditions the call states of it: at every column block
   the 1024 rows of the transposed weights that the table names lie inside the array and start at a multiple of 16. -/
module

public import proofs.«01_k».proof.Proof.InProj.Kit

@[expose] public section

noncomputable section

namespace Cert.KernelIdeal.InProj

open Idealize.ShloMosaic Idealize.ShloMosaic.TcCoe
open Idealize.SL.Sem
open Cert.KernelIdeal Cert.KernelIdeal.Gen

variable {F : FTy → Type} [FloatOps F]

variable (m : (ℓ : Loc nD τ sig) → Buf (Elt F) ℓ)

/-- The first row of the transposed weights that column block `j` multiplies. -/
def start (j : Fin 11) : ℕ := (lit0 j).toNat

theorem start_lt (j : Fin 11) : start j + 1024 ≤ 11312 := by revert j; decide

theorem start_dvd (j : Fin 11) : (16 : ℤ) ∣ (lit0 j).toInt := by revert j; decide

theorem start_eq (j : Fin 11) : start j = if j.val < 4 then 1024 * j.val else if j.val < 8 then 1024 * j.val + 3104 else if j.val < 9 then 1024 * j.val - 4096 else 1024 * j.val - 4064 := by
  revert j; decide

/-- The table holds the eleven offsets. -/
theorem tbl_eq : tbl m 0 = fun i => lit0 (S11.rowMajor i) := by
  show StableHlo.after hostOps0 _ _ = _
  after_results_simp
  rfl

theorem coord_ofNat (j : Fin 11) : (Scalar.indexCast (BitVec.ofNat 32 j.val) : Index).toNat = j.val := by
  revert j; decide

theorem rowMajor_of (i : S11.Idx) (j : Fin 11) (h : (i 0 : ℕ) = j) : S11.rowMajor i = j :=
  Fin.ext ((Shape.rowMajor_val_one i).trans h)

/-- The window of the transposed weights is at the rows the table names. -/
theorem rows_eq (i : grid0.Coords) : cc0_transform_2 k0_off1_inb numel1_S1 (tbl m) i = ![start (i 1), 0] := by
  unfold cc0_transform_2
  dsimp only
  congr 1
  unfold start Pipeline.Prefetch.Contents.at
  rw [tbl_eq]
  refine congrArg BitVec.toNat (congrArg lit0 (rowMajor_of _ _ ?_))
  show (Scalar.indexCast (BitVec.ofNat 32 (i 1).val) : Index).toNat + 0 * 1 = _
  exact (Nat.add_zero _).trans (coord_ofNat (i 1))

theorem mult_eq (i : grid0.Coords) : k0_mult1 (tbl m) i = lit0 (i 1) := by
  unfold k0_mult1
  dsimp only
  unfold Pipeline.Prefetch.Contents.atD
  rw [tbl_eq]
  have h : ∀ a, (![(Scalar.indexCast (BitVec.ofNat 32 (i 1).val) : Index).toNat] : Fin 1 → ℕ) a + 1 ≤ S11.size a := fun a => by
    match a with
    | ⟨0, _⟩ => exact (coord_ofNat (i 1)).trans_lt (i 1).isLt
  refine (dif_pos h).trans ?_
  exact congrArg lit0 (rowMajor_of _ _ (coord_ofNat (i 1)))

/-- The side conditions hold. -/
theorem ok : Ok m := by
  refine ⟨fun i => by rw [mult_eq]; exact start_dvd (i 1), fun i => ?_⟩
  rw [rows_eq]
  have key : ∀ j : Fin 11, ∃ h : (∀ a, (![start j, 0] : Fin 2 → ℕ) a + S1024x2048.size a ≤ S11312x2048.size a), EltTy.bits .bf16 = 32 ∨ (Rect.unit (s := S11312x2048) (![start j, 0] : Fin 2 → ℕ) S1024x2048.size h).WholeWords (EltTy.packing .bf16) := by
    intro j
    refine ⟨fun a => ?_, .inr ?_⟩
    · match a with
      | ⟨0, _⟩ => exact start_lt j
      | ⟨1, _⟩ => exact Nat.le_refl _
    · revert j; decide
  exact key (i 1)

end Cert.KernelIdeal.InProj

end
-- ==== Proof.InProj.Words.lean ====
/- The frame of the program over the machine's words: its text is the idealized program's, so the run proved for that
   one over any floats is its run too. -/
module

public import proofs.«01_k».proof.Defs
public import proofs.«01_k».proof.Proof.Gen.Kernel
public import proofs.«01_k».proof.Proof.InProj.Launch
public import proofs.«01_k».proof.Proof.InProj.Table

@[expose] public section

set_option maxRecDepth 16384

namespace Cert.Proof

open Idealize.ShloMosaic Idealize.SL.Sem

set_option maxHeartbeats 1000000 in
/-- The two programs' bodies are one text: read over the machine's words they are equal. -/
theorem bodies_eq : @Cert.Kernel.defs₀ Bits _ _ = @Cert.KernelIdeal.defs₀ Bits _ _ := by
  unfold Cert.Kernel.defs₀ Cert.KernelIdeal.defs₀
  refine congrArg (Defs.onTc (Λ := Cert.KernelIdeal.Λ₀)) (funext fun l => funext fun a => ?_)
  match l, a with
  | 0, (t, s) => rfl
  | ⟨n + 1, h⟩, _ => exact absurd h (Nat.not_lt.2 (Nat.le_add_left _ _))

set_option maxHeartbeats 1000000 in
/-- So are the two programs' definitions. -/
theorem defs_eq : @Cert.Kernel.defs Bits _ _ = @Cert.KernelIdeal.defs Bits _ _ := by
  unfold Cert.Kernel.defs Cert.KernelIdeal.defs
  exact congrArg (Pipeline.defs (@Cert.KernelIdeal.pcfgs Bits _ _)) bodies_eq

set_option maxHeartbeats 1000000 in
/-- So are the two programs. -/
theorem main_eq : @Cert.Kernel.main Bits _ _ = @Cert.KernelIdeal.main Bits _ _ := rfl

/-- The frame of the program as printed is the frame of the idealized one, read over the machine's words. -/
theorem frame_words : Cert.quiescent_Kernel (hKernel := Cert.Kernel.Gen.facts) := by
  intro m g _
  rw [defs_eq, main_eq]
  exact Cert.KernelIdeal.InProj.frame (F := Bits) m g (Cert.KernelIdeal.InProj.ok m)

end Cert.Proof

end
-- ==== Proof.InProj.Spec.lean ====
/- What the two programs compute, as functions of the arrays they start from, over the extended reals: the rows normed by
   their root mean square and scaled, and a column of their product with the weights. -/
module

public import Idealize.ShloMosaic.PureOps.Ideal
public import Idealize.ShloMosaic.PureOps.Ideal.Laws
public import Idealize.ShloMosaic.Lib.Pointwise

@[expose] public section

noncomputable section

namespace Cert.InProj

open Idealize.ShloMosaic

/-- The activations, four sequences of 4096 rows of 2048. -/
abbrev Xs : Type := Vec Ideal ⟨3, ![4, 4096, 2048]⟩ .f32
/-- The norm's scales. -/
abbrev Nws : Type := Vec Ideal ⟨2, ![1, 2048]⟩ .f32
/-- The projection's weights. -/
abbrev Ws : Type := Vec Ideal ⟨3, ![1, 2048, 11312]⟩ .f32

variable (x : Xs) (nw : Nws) (w : Ws)

/-- Entry `k` of row `r` of the activations, the four sequences one after the other. -/
def row (r : Fin 16384) (k : Fin 2048) : EReal :=
  x (ix3 ⟨r.val / 4096, by have := r.isLt; omega⟩ ⟨r.val % 4096, Nat.mod_lt _ (by decide)⟩ k)

/-- The reciprocal root mean square of row `r`. -/
def scale (r : Fin 16384) : EReal :=
  Ideal.rsqrt (Ideal.div (∑ k, row x r k * row x r k) (Ideal.ofBits .f32 0x45000000#32) + Ideal.ofBits .f32 0x3727C5AC#32)

/-- Entry `k` of row `r` after the norm. -/
def normed (r : Fin 16384) (k : Fin 2048) : EReal := row x r k * scale x r * nw (ix2 0 k)

/-- Column `n` of row `r` after the projection. -/
def proj (r : Fin 16384) (n : Fin 11312) : EReal := ∑ k, normed x nw r k * w (ix3 0 k n)

/-- The column of the weights that column `q` of the wide result is: the gate and the channels in front, the values and
    their gates, then the keys' and queries' columns. -/
def col (q : Fin 11264) : Fin 11312 :=
  ⟨if q.val < 4096 then q.val else if q.val < 8192 then q.val + 3104 else if q.val < 9216 then q.val - 4096 else q.val - 4064, by
    have := q.isLt
    split_ifs <;> omega⟩

/-- Entry `k` of row `l` of the narrow result's weights: the 32 columns of the time steps, the 16 of the gates, zeros. -/
def narrowW (l : Fin 128) (k : Fin 2048) : EReal :=
  if h : l.val < 32 then w (ix3 0 k ⟨5120 + l.val, by omega⟩)
  else if h' : l.val - 32 < 16 then w (ix3 0 k ⟨11296 + (l.val - 32), by omega⟩)
  else 0

/-- Column `l` of row `r` of the narrow result. -/
def narrow (r : Fin 16384) (l : Fin 128) : EReal := ∑ k, normed x nw r k * narrowW w l k

/-! ## Where an entry subtracts from itself to zero -/

theorem sub_self_of_coe (r : ℝ) : ((r : EReal) - (r : EReal)) = 0 := by
  rw [← EReal.coe_sub, sub_self, EReal.coe_zero]

/-- An extended real that subtracts from itself to zero is real. -/
theorem exists_real {v : EReal} (h : v - v = 0) : ∃ r : ℝ, v = r := by
  induction v with
  | bot => simp at h
  | top => simp at h
  | coe r => exact ⟨r, rfl⟩

theorem coe_sum {n : ℕ} (f : Fin n → ℝ) : ((∑ k, f k : ℝ) : EReal) = ∑ k, (f k : EReal) :=
  map_sum (⟨⟨Real.toEReal, EReal.coe_zero⟩, EReal.coe_add⟩ : ℝ →+ EReal) f Finset.univ

theorem mul_self_nonneg' (v : EReal) : 0 ≤ v * v := by
  induction v with
  | bot => exact le_top
  | top => exact le_top
  | coe r => exact_mod_cast mul_self_nonneg r

theorem ofBits_2048 : Ideal.ofBits .f32 0x45000000#32 = ((2048 : ℝ) : EReal) := by
  simp [Ideal.ofBits, Ideal.ieee, -EReal.coe_mul]; norm_num

theorem ofBits_eps : Ideal.ofBits .f32 0x3727C5AC#32 = ((10995116 / 2 ^ 40 : ℝ) : EReal) := by
  simp [Ideal.ofBits, Ideal.ieee, -EReal.coe_mul]; norm_num

/-- A row with an infinite entry has scale zero: its mean square is infinite. -/
theorem scale_of_infinite (r : Fin 16384) (k : Fin 2048) (h : row x r k = ⊤ ∨ row x r k = ⊥) : scale x r = 0 := by
  have hk : row x r k * row x r k = ⊤ := by rcases h with h | h <;> rw [h] <;> rfl
  have hs : ∑ k, row x r k * row x r k = ⊤ := by
    refine top_le_iff.mp (hk ▸ Finset.single_le_sum (f := fun k => row x r k * row x r k) (fun i _ => ?_) (Finset.mem_univ k))
    exact mul_self_nonneg' _
  unfold scale
  rw [hs, ofBits_2048, ofBits_eps, Ideal.div_coe (by norm_num : (2048 : ℝ) ≠ 0), EReal.top_mul_coe_of_pos (by norm_num), EReal.top_add_coe]
  rfl

/-- A row of real entries has a real scale. -/
theorem scale_of_real (r : Fin 16384) (y : Fin 2048 → ℝ) (h : ∀ k, row x r k = y k) : ∃ s : ℝ, scale x r = s := by
  unfold scale
  simp only [h, ofBits_2048, ofBits_eps, Ideal.div_coe (by norm_num : (2048 : ℝ) ≠ 0), ← EReal.coe_mul]
  rw [← coe_sum, ← EReal.coe_mul, ← EReal.coe_add]
  have hp : 0 < (∑ k, y k * y k) * (1 / 2048 : ℝ) + 10995116 / 2 ^ 40 := by
    have : 0 ≤ ∑ k, y k * y k := Finset.sum_nonneg fun k _ => mul_self_nonneg (y k)
    positivity
  generalize (∑ k, y k * y k) * (1 / 2048 : ℝ) + 10995116 / 2 ^ 40 = q at hp
  refine ⟨(√q)⁻¹, ?_⟩
  show (if q < 0 then (⊥ : EReal) else if q = 0 then ⊤ else ((√q)⁻¹ : ℝ)) = _
  rw [if_neg hp.le.not_gt, if_neg hp.ne']

/-- Where the narrow result's columns of the weights are real, so are its weights. -/
theorem narrowW_sub_self (h₁ : ∀ (k : Fin 2048) (l : Fin 32), w (ix3 0 k ⟨5120 + l.val, by omega⟩) - w (ix3 0 k ⟨5120 + l.val, by omega⟩) = 0)
    (h₂ : ∀ (k : Fin 2048) (l : Fin 16), w (ix3 0 k ⟨11296 + l.val, by omega⟩) - w (ix3 0 k ⟨11296 + l.val, by omega⟩) = 0)
    (l : Fin 128) (k : Fin 2048) : narrowW w l k - narrowW w l k = 0 := by
  unfold narrowW
  split
  · exact h₁ k ⟨l.val, by assumption⟩
  · split
    · exact h₂ k ⟨l.val - 32, by assumption⟩
    · exact sub_zero 0

/-- Where the norm's scales are real, so is every entry after the norm. -/
theorem normed_sub_self (h : ∀ k, nw (ix2 0 k) - nw (ix2 0 k) = 0) (r : Fin 16384) (k : Fin 2048) :
    normed x nw r k - normed x nw r k = 0 := by
  unfold normed
  obtain ⟨v, hv⟩ := exists_real (h k)
  by_cases hr : ∃ k, row x r k = ⊤ ∨ row x r k = ⊥
  · obtain ⟨k', hk'⟩ := hr
    rw [scale_of_infinite x r k' hk', mul_zero, zero_mul, sub_zero]
  · push Not at hr
    have hy : ∀ k, ∃ y : ℝ, row x r k = y := fun k => ⟨(row x r k).toReal, (EReal.coe_toReal (hr k).1 (hr k).2).symm⟩
    choose y hy using hy
    obtain ⟨s, hs⟩ := scale_of_real x r y hy
    rw [hy, hs, hv, ← EReal.coe_mul, ← EReal.coe_mul]
    exact sub_self_of_coe _

end Cert.InProj

end
-- ==== Proof.InProj.Host.lean ====
/- The arrays the host prepares for the call, read at an index over the extended reals. -/
module

public import proofs.«01_k».proof.Proof.InProj.Table
public import proofs.«01_k».proof.Proof.InProj.Spec

@[expose] public section

set_option maxRecDepth 16384

noncomputable section

namespace Cert.KernelIdeal.InProj

open Idealize.ShloMosaic Idealize.ShloMosaic.TcCoe
open Idealize.SL.Sem
open Cert.KernelIdeal Cert.KernelIdeal.Gen

variable (m : (ℓ : Loc nD τ sig) → Buf (Elt Ideal) ℓ) (c : Dev nD)

/-- The activations, the norm's weights and the projection's weights in memory at the start. -/
abbrev xs : Vec Ideal S4x4096x2048 .f32 := m ((c : Thread nD τ).loc main_arg0)
abbrev nws : Vec Ideal S1x2048 .f32 := m ((c : Thread nD τ).loc main_arg1)
abbrev ws : Vec Ideal S1x2048x11312 .f32 := m ((c : Thread nD τ).loc main_arg2)

/-- The call's five float operands. -/
abbrev opX : Vec Ideal S16384x2048 .f32 := V m c main_v0
abbrev opNw : Vec Ideal S1x2048 .f32 := V m c main_v12
abbrev opWt : Vec Ideal S11312x2048 .bf16 := V m c main_v13
abbrev opHi : Vec Ideal S128x2048 .bf16 := V m c main_v7
abbrev opLo : Vec Ideal S128x2048 .bf16 := V m c main_v10

/-- The transposed weights. -/
abbrev wT : Vec Ideal S11312x2048 .f32 :=
  transpose S11312x2048 [1, 0] (shapeCast S2048x11312 (ws m c) shapeCasts_S1x2048x11312_S2048x11312) transposes_S2048x11312_S11312x2048_1_0

/-- Their 48 rows of the narrow result, filled up with rows of zeros. -/
abbrev wSmall : Vec Ideal S128x2048 .f32 :=
  concatenate S128x2048 0 [⟨S32x2048, extractStridedSlice S32x2048 ![5120, 0] (wT m c) slices_S11312x2048_S32x2048_5120_0⟩,
    ⟨S16x2048, extractStridedSlice S16x2048 ![11296, 0] (wT m c) slices_S11312x2048_S16x2048_11296_0⟩,
    ⟨S80x2048, (broadcastInDim S80x2048 ![] bcast_S_S80x2048 (constant (F := Ideal) S_ .f32 0x00000000#32 : Vec Ideal S_ .f32) : Vec Ideal S80x2048 .f32)⟩] concatenates_S32x2048_S16x2048_S80x2048_S128x2048_d0

theorem opX_eq : opX m c = shapeCast S16384x2048 (xs m c) shapeCasts_S4x4096x2048_S16384x2048 := by
  show StableHlo.after hostOps0 _ _ = _
  after_results_simp
  rfl

theorem opNw_eq : opNw m c = shapeCast S1x2048 (shapeCast S2048 (nws m c) shapeCasts_S1x2048_S2048) shapeCasts_S2048_S1x2048 := by
  show StableHlo.after hostOps0 _ _ = _
  after_results_simp
  rfl

theorem opWt_eq : opWt m c = truncf (F := Ideal) (φ := .f32) .bf16 (wT m c) bitsLt_bf16_f32 := by
  show StableHlo.after hostOps0 _ _ = _
  after_results_simp
  rfl

theorem opHi_eq : opHi m c = truncf (F := Ideal) (φ := .f32) .bf16 (wSmall m c) bitsLt_bf16_f32 := by
  show StableHlo.after hostOps0 _ _ = _
  after_results_simp
  rfl

theorem opLo_eq : opLo m c = truncf (F := Ideal) (φ := .f32) .bf16 (subf (F := Ideal) (φ := .f32) (wSmall m c) (extf (F := Ideal) .f32 (truncf (F := Ideal) (φ := .f32) .bf16 (wSmall m c) bitsLt_bf16_f32) bitsLt_bf16_f32)) bitsLt_bf16_f32 := by
  show StableHlo.after hostOps0 _ _ = _
  after_results_simp
  rfl

/-- The rows of the call's activations are the sequences' rows, one sequence after the other. -/
theorem opX_apply (j : S16384x2048.Idx) : opX m c j = InProj.row (xs m c) (j 0) (j 1) := by
  rw [opX_eq]
  pointwise
  rfl

theorem opNw_apply (j : S1x2048.Idx) : opNw m c j = nws m c j := by
  rw [opNw_eq]
  pointwise

theorem opWt_apply (j : S11312x2048.Idx) : opWt m c j = ws m c (ix3 0 (j 1) (j 0)) := by
  rw [opWt_eq]
  pointwise

theorem opHi_apply (j : S128x2048.Idx) : opHi m c j = InProj.narrowW (ws m c) (j 0) (j 1) := by
  rw [opHi_eq]
  pointwise
  rfl

/-- The second half of the narrow result's weights is what the first half leaves, over the extended reals the
    difference of a value and itself. -/
theorem opLo_apply (j : S128x2048.Idx) : opLo m c j = opHi m c j - opHi m c j := by
  rw [opLo_eq, opHi_eq]
  rfl

end Cert.KernelIdeal.InProj

end
-- ==== Proof.InProj.Payloads.lean ====
/- The values the body stores, read at an index over the extended reals. -/
module

public import proofs.«01_k».proof.Proof.Gen.KernelIdeal.Skeleton
public import Idealize.ShloMosaic.PureOps.Ideal
public import Idealize.ShloMosaic.PureOps.Ideal.Laws
public import Idealize.ShloMosaic.Lib.Pointwise

@[expose] public section

noncomputable section

namespace Cert.KernelIdeal.InProj

open Idealize.ShloMosaic
open Cert.KernelIdeal Cert.KernelIdeal.Gen

/-- The normed rows of a block. -/
theorem pay1_apply (x : Vec Ideal S1024x2048 .f32) (w : Vec Ideal S1x2048 .f32) (j : S1024x2048.Idx) :
    k0_pay1 (F := Ideal) x w j
      = x j * Ideal.rsqrt (Ideal.div (∑ k, x (ix2 (j 0) k) * x (ix2 (j 0) k)) (Ideal.ofBits .f32 0x45000000#32) + Ideal.ofBits .f32 0x3727C5AC#32) * w (ix2 0 (j 1)) := by
  unfold k0_pay1
  pointwise

theorem pay2_apply (x : Vec Ideal S1024x2048 .f32) (w : Vec Ideal S1x2048 .f32) (j : S1024x2048.Idx) :
    k0_pay2 (F := Ideal) x w j = k0_pay1 (F := Ideal) x w j := by
  unfold k0_pay2
  pointwise

/-- A block of the wide result. -/
theorem pay4_apply (n : Vec Ideal S1024x2048 .bf16) (w : Vec Ideal S1024x2048 .bf16) (j : S1024x1024.Idx) :
    k0_pay4 (F := Ideal) n w j = ∑ k, n (ix2 (j 0) k) * w (ix2 (j 1) k) := by
  unfold k0_pay4
  pointwise

/-- A block of the narrow result: the three products of the halves. -/
theorem pay3_apply (x : Vec Ideal S1024x2048 .f32) (w : Vec Ideal S1x2048 .f32) (h h' l : Vec Ideal S128x2048 .bf16) (j : S1024x128.Idx) :
    k0_pay3 (F := Ideal) x w h h' l j
      = ∑ k, k0_pay1 (F := Ideal) x w (ix2 (j 0) k) * h (ix2 (j 1) k)
        + ∑ k, (k0_pay1 (F := Ideal) x w (ix2 (j 0) k) - k0_pay1 (F := Ideal) x w (ix2 (j 0) k)) * h' (ix2 (j 1) k)
        + ∑ k, k0_pay1 (F := Ideal) x w (ix2 (j 0) k) * l (ix2 (j 1) k) := by
  unfold k0_pay3
  pointwise

end Cert.KernelIdeal.InProj

end
-- ==== Proof.InProj.Blocks.lean ====
/- The blocks the body reads at a grid point, as entries of the call's operands. -/
module

public import proofs.«01_k».proof.Proof.InProj.Launch
public import proofs.«01_k».proof.Proof.InProj.Host
public import proofs.«01_k».proof.Proof.InProj.Payloads
public import Idealize.ShloMosaic.Lib.Pipeline.Value
public import Idealize.ShloMosaic.Lib.Pipeline.ValueKit

@[expose] public section

set_option maxRecDepth 16384

noncomputable section

namespace Cert.KernelIdeal.InProj

open Idealize.ShloMosaic Idealize.ShloMosaic.TcCoe
open Idealize.SL.Sem
open Cert.KernelIdeal Cert.KernelIdeal.Gen

variable (m : (ℓ : Loc nD τ sig) → Buf (Elt Ideal) ℓ) (hO : Ok m) (c : Dev nD)

theorem coords_col : ∀ t : Fin grid0.N, (grid0.coords t 1).val = t.val % 11 := by decide +kernel

theorem index_x : ∀ t : Fin grid0.N, cc0_transform_0 (grid0.coords t) 0 = t.val / 11 := by decide +kernel

theorem index_wide : ∀ t : Fin grid0.N, cc0_transform_5 (grid0.coords t) 0 = t.val / 11 ∧ cc0_transform_5 (grid0.coords t) 1 = t.val % 11 := by decide +kernel

theorem index_narrow : ∀ t : Fin grid0.N, cc0_transform_6 (grid0.coords t) 0 = t.val / 11 ∧ cc0_transform_6 (grid0.coords t) 1 = 0 := by decide +kernel

/-- Row `a` of the grid point's block of rows. -/
def rowAt (t : Fin (cfgM m hO).N) (a : Fin 1024) : Fin 16384 :=
  ⟨1024 * (t.val / 11) + a.val, by have : t.val < 176 := t.isLt; have := a.isLt; omega⟩

/-- The grid point's block of columns. -/
def colAt (t : Fin (cfgM m hO).N) : Fin 11 := ⟨t.val % 11, Nat.mod_lt _ (by decide)⟩

/-- Column `b` of block `j` of the wide result, as a column of the weights. -/
def wideCol (j : Fin 11) (b : Fin 1024) : Fin 11312 := ⟨start j + b.val, by have := start_lt j; have := b.isLt; omega⟩

/-- The blocks the body reads at a grid point. -/
def bX (t : Fin (cfgM m hO).N) : Vec Ideal S1024x2048 .f32 := iblk m hO c 0 t
def bNw (t : Fin (cfgM m hO).N) : Vec Ideal S1x2048 .f32 := iblk m hO c 1 t
def bWt (t : Fin (cfgM m hO).N) : Vec Ideal S1024x2048 .bf16 := iblk m hO c 2 t
def bHi (t : Fin (cfgM m hO).N) : Vec Ideal S128x2048 .bf16 := iblk m hO c 3 t
def bLo (t : Fin (cfgM m hO).N) : Vec Ideal S128x2048 .bf16 := iblk m hO c 4 t

/-- The activations: the rows of the point. -/
theorem iblk_x (t : Fin (cfgM m hO).N) (a : Fin 1024) (k : Fin 2048) : bX m hO c t (ix2 a k) = opX m c (ix2 (rowAt m hO t a) k) := by
  show opX m c _ = _
  refine congrArg (opX m c) (funext fun b => Fin.ext ?_)
  match b with
  | ⟨0, _⟩ =>
    refine (Pipeline.Window.rect_emb_val_off ((cfgM m hO).win 0) t _ _).trans ?_
    show cc0_transform_0 (grid0.coords t) 0 * 1024 + a.val = 1024 * (t.val / 11) + a.val
    rw [index_x t]
    omega
  | ⟨1, _⟩ =>
    refine (Pipeline.Window.rect_emb_val_off ((cfgM m hO).win 0) t _ _).trans ?_
    show 0 * 2048 + k.val = k.val
    omega

/-- The norm's scales. -/
theorem iblk_nw (t : Fin (cfgM m hO).N) (k : Fin 2048) : bNw m hO c t (ix2 0 k) = opNw m c (ix2 0 k) := by
  show opNw m c _ = _
  refine congrArg (opNw m c) (funext fun b => Fin.ext ?_)
  match b with
  | ⟨0, _⟩ =>
    refine (Pipeline.Window.rect_emb_val_off ((cfgM m hO).win 1) t _ _).trans ?_
    show 0 * 1 + 0 = 0
    omega
  | ⟨1, _⟩ =>
    refine (Pipeline.Window.rect_emb_val_off ((cfgM m hO).win 1) t _ _).trans ?_
    show 0 * 2048 + k.val = k.val
    omega

/-- The transposed weights: the rows the table of column offsets names. -/
theorem iblk_wt (t : Fin (cfgM m hO).N) (b : Fin 1024) (k : Fin 2048) : bWt m hO c t (ix2 b k) = opWt m c (ix2 (wideCol (colAt m hO t) b) k) := by
  show opWt m c _ = _
  refine congrArg (opWt m c) (funext fun d => Fin.ext ?_)
  match d with
  | ⟨0, _⟩ =>
    refine (Pipeline.Window.rect_emb_val_off ((cfgM m hO).win 2) t _ _).trans ?_
    have e : cc0_transform_2 k0_off1_inb numel1_S1 (tbl m) (grid0.coords t) = ![start (colAt m hO t), 0] := by
      rw [rows_eq]
      exact congrArg (fun j => ![start j, 0]) (Fin.ext (coords_col t))
    show cc0_transform_2 k0_off1_inb numel1_S1 (tbl m) (grid0.coords t) 0 + b.val = start (colAt m hO t) + b.val
    rw [e]
    rfl
  | ⟨1, _⟩ =>
    refine (Pipeline.Window.rect_emb_val_off ((cfgM m hO).win 2) t _ _).trans ?_
    show 0 + k.val = k.val
    omega

/-- The first half of the narrow result's weights. -/
theorem iblk_hi (t : Fin (cfgM m hO).N) (l : Fin 128) (k : Fin 2048) : bHi m hO c t (ix2 l k) = opHi m c (ix2 l k) := by
  show opHi m c _ = _
  refine congrArg (opHi m c) (funext fun b => Fin.ext ?_)
  match b with
  | ⟨0, _⟩ =>
    refine (Pipeline.Window.rect_emb_val_off ((cfgM m hO).win 3) t _ _).trans ?_
    show 0 * 128 + l.val = l.val
    omega
  | ⟨1, _⟩ =>
    refine (Pipeline.Window.rect_emb_val_off ((cfgM m hO).win 3) t _ _).trans ?_
    show 0 * 2048 + k.val = k.val
    omega

/-- The second half of the narrow result's weights. -/
theorem iblk_lo (t : Fin (cfgM m hO).N) (l : Fin 128) (k : Fin 2048) : bLo m hO c t (ix2 l k) = opLo m c (ix2 l k) := by
  show opLo m c _ = _
  refine congrArg (opLo m c) (funext fun b => Fin.ext ?_)
  match b with
  | ⟨0, _⟩ =>
    refine (Pipeline.Window.rect_emb_val_off ((cfgM m hO).win 4) t _ _).trans ?_
    show 0 * 128 + l.val = l.val
    omega
  | ⟨1, _⟩ =>
    refine (Pipeline.Window.rect_emb_val_off ((cfgM m hO).win 4) t _ _).trans ?_
    show 0 * 2048 + k.val = k.val
    omega

theorem rowAt_firstPt (t : Fin (cfgM m hO).N) (a : Fin 1024) : rowAt m hO (firstPt m hO t) a = rowAt m hO t a :=
  Fin.ext (by show 1024 * (11 * (t.val / 11) / 11) + a.val = 1024 * (t.val / 11) + a.val; omega)

theorem bX_apply (t : Fin (cfgM m hO).N) (a : Fin 1024) (k : Fin 2048) : bX m hO c t (ix2 a k) = InProj.row (xs m c) (rowAt m hO t a) k :=
  (iblk_x m hO c t a k).trans (opX_apply m c _)

theorem bNw_apply (t : Fin (cfgM m hO).N) (k : Fin 2048) : bNw m hO c t (ix2 0 k) = nws m c (ix2 0 k) :=
  (iblk_nw m hO c t k).trans (opNw_apply m c _)

/-- The rows the body norms are the rows after the norm. -/
theorem pay1_block (t : Fin (cfgM m hO).N) (a : Fin 1024) (k : Fin 2048) :
    k0_pay1 (F := Ideal) (bX m hO c t) (bNw m hO c t) (ix2 a k) = InProj.normed (xs m c) (nws m c) (rowAt m hO t a) k := by
  rw [pay1_apply]
  show bX m hO c t (ix2 a k) * Ideal.rsqrt (Ideal.div (∑ k, bX m hO c t (ix2 a k) * bX m hO c t (ix2 a k)) _ + _) * bNw m hO c t (ix2 0 k) = _
  simp only [bX_apply, bNw_apply]
  rfl

theorem keptRows_apply (t : Fin (cfgM m hO).N) (a : Fin 1024) (k : Fin 2048) :
    keptRows m hO c t (ix2 a k) = InProj.normed (xs m c) (nws m c) (rowAt m hO t a) k := by
  show k0_pay2 (F := Ideal) (bX m hO c (firstPt m hO t)) (bNw m hO c (firstPt m hO t)) (ix2 a k) = _
  rw [pay2_apply, pay1_block, rowAt_firstPt]

/-- A point's block of the wide result. -/
theorem wideBlock_apply (t : Fin (cfgM m hO).N) (a : Fin 1024) (b : Fin 1024) :
    wideBlock m hO c t (ix2 a b) = InProj.proj (xs m c) (nws m c) (ws m c) (rowAt m hO t a) (wideCol (colAt m hO t) b) := by
  show k0_pay4 (F := Ideal) (keptRows m hO c t) (bWt m hO c t) (ix2 a b) = _
  rw [pay4_apply]
  unfold InProj.proj
  refine Finset.sum_congr rfl fun k _ => ?_
  refine congrArg₂ (· * ·) (keptRows_apply m hO c t a k) ?_
  exact (iblk_wt m hO c t b k).trans (opWt_apply m c _)

/-- A row of blocks' block of the narrow result, where every entry after the norm and every one of its weights is real:
    the second and the third product are of zeros. -/
theorem narrowBlock_apply (hn : ∀ k, nws m c (ix2 0 k) - nws m c (ix2 0 k) = 0)
    (hw : ∀ (l : Fin 128) (k : Fin 2048), InProj.narrowW (ws m c) l k - InProj.narrowW (ws m c) l k = 0)
    (t : Fin (cfgM m hO).N) (a : Fin 1024) (l : Fin 128) :
    narrowBlock m hO c t (ix2 a l) = InProj.narrow (xs m c) (nws m c) (ws m c) (rowAt m hO t a) l := by
  show k0_pay3 (F := Ideal) (bX m hO c (firstPt m hO t)) (bNw m hO c (firstPt m hO t)) (bHi m hO c (firstPt m hO t)) (bHi m hO c (firstPt m hO t)) (bLo m hO c (firstPt m hO t)) (ix2 a l) = _
  rw [pay3_apply]
  have hN : ∀ k, k0_pay1 (F := Ideal) (bX m hO c (firstPt m hO t)) (bNw m hO c (firstPt m hO t)) (ix2 a k) = InProj.normed (xs m c) (nws m c) (rowAt m hO t a) k := fun k => by
    rw [pay1_block, rowAt_firstPt]
  have hH : ∀ k, bHi m hO c (firstPt m hO t) (ix2 l k) = InProj.narrowW (ws m c) l k := fun k => (iblk_hi m hO c _ l k).trans (opHi_apply m c _)
  have hL : ∀ k, bLo m hO c (firstPt m hO t) (ix2 l k) = (0 : EReal) := fun k => by
    refine (iblk_lo m hO c _ l k).trans ((opLo_apply m c _).trans ?_)
    rw [opHi_apply]
    exact hw l k
  show (∑ k, k0_pay1 (F := Ideal) _ _ (ix2 a k) * bHi m hO c (firstPt m hO t) (ix2 l k)
      + ∑ k, (k0_pay1 (F := Ideal) _ _ (ix2 a k) - k0_pay1 (F := Ideal) _ _ (ix2 a k)) * bHi m hO c (firstPt m hO t) (ix2 l k)
      + ∑ k, k0_pay1 (F := Ideal) _ _ (ix2 a k) * bLo m hO c (firstPt m hO t) (ix2 l k) : EReal) = _
  simp only [hN, hH, hL, InProj.normed_sub_self _ _ hn, zero_mul, mul_zero, Finset.sum_const_zero, add_zero]
  rfl

end Cert.KernelIdeal.InProj

end
-- ==== Proof.InProj.Value.lean ====
/- The call's two results after the run. -/
module

public import proofs.«01_k».proof.Proof.InProj.Blocks

@[expose] public section

set_option maxRecDepth 16384

noncomputable section

namespace Cert.KernelIdeal.InProj

open Idealize.ShloMosaic Idealize.ShloMosaic.TcCoe
open Idealize.SL.Sem
open Cert.KernelIdeal Cert.KernelIdeal.Gen

variable (m : (ℓ : Loc nD τ sig) → Buf (Elt Ideal) ℓ) (hO : Ok m) (c : Dev nD)

/-- The wide result. -/
def wide : Vec Ideal S16384x11264 .bf16 := fun i => InProj.proj (xs m c) (nws m c) (ws m c) (i 0) (InProj.col (i 1))

/-- The narrow result. -/
def small : Vec Ideal S16384x128 .f32 := fun i => InProj.narrow (xs m c) (nws m c) (ws m c) (i 0) (i 1)

/-- Column `b` of a point's block of columns. -/
def resCol (t : Fin (cfgM m hO).N) (b : Fin 1024) : Fin 11264 := ⟨1024 * (t.val % 11) + b.val, by have := b.isLt; omega⟩

/-- Where an element of a point's block of the wide result lies in it. -/
theorem emb_wide (t : Fin (cfgM m hO).N) (a : Fin 1024) (b : Fin 1024) :
    (((cfgM m hO).win 5).blk t).view.emb (ix2 a b) = (ix2 (rowAt m hO t a) (resCol m hO t b) : S16384x11264.Idx) := by
  refine funext fun d => Fin.ext ?_
  match d with
  | ⟨0, _⟩ =>
    refine (Pipeline.Window.rect_emb_val_off ((cfgM m hO).win 5) t _ _).trans ?_
    show cc0_transform_5 (grid0.coords t) 0 * 1024 + a.val = 1024 * (t.val / 11) + a.val
    rw [(index_wide t).1]
    omega
  | ⟨1, _⟩ =>
    refine (Pipeline.Window.rect_emb_val_off ((cfgM m hO).win 5) t _ _).trans ?_
    show cc0_transform_5 (grid0.coords t) 1 * 1024 + b.val = 1024 * (t.val % 11) + b.val
    rw [(index_wide t).2]
    omega

/-- Where an element of a point's block of the narrow result lies in it. -/
theorem emb_narrow (t : Fin (cfgM m hO).N) (a : Fin 1024) (b : Fin 128) :
    (((cfgM m hO).win 6).blk t).view.emb (ix2 a b) = (ix2 (rowAt m hO t a) b : S16384x128.Idx) := by
  refine funext fun d => Fin.ext ?_
  match d with
  | ⟨0, _⟩ =>
    refine (Pipeline.Window.rect_emb_val_off ((cfgM m hO).win 6) t _ _).trans ?_
    show cc0_transform_6 (grid0.coords t) 0 * 1024 + a.val = 1024 * (t.val / 11) + a.val
    rw [(index_narrow t).1]
    omega
  | ⟨1, _⟩ =>
    refine (Pipeline.Window.rect_emb_val_off ((cfgM m hO).win 6) t _ _).trans ?_
    show cc0_transform_6 (grid0.coords t) 1 * 128 + b.val = b.val
    rw [(index_narrow t).2]
    omega

theorem mem_wide (t : Fin (cfgM m hO).N) (a b : Fin 1024) (p : Fin 16384) (q : Fin 11264) (hp : rowAt m hO t a = p) (hq : resCol m hO t b = q) :
    (ix2 p q : S16384x11264.Idx) ∈ (((cfgM m hO).win 5).blk t).view.set := by
  subst hp hq
  exact emb_wide m hO t a b ▸ View.emb_mem_set _ _

theorem mem_narrow (t : Fin (cfgM m hO).N) (a : Fin 1024) (l : Fin 128) (p : Fin 16384) (hp : rowAt m hO t a = p) :
    (ix2 p l : S16384x128.Idx) ∈ (((cfgM m hO).win 6).blk t).view.set := by
  subst hp
  exact emb_narrow m hO t a l ▸ View.emb_mem_set _ _

theorem wide_apply (t : Fin (cfgM m hO).N) (a b : Fin 1024) :
    wide m c (ix2 (rowAt m hO t a) (resCol m hO t b)) = InProj.proj (xs m c) (nws m c) (ws m c) (rowAt m hO t a) (wideCol (colAt m hO t) b) := by
  refine congrArg (InProj.proj (xs m c) (nws m c) (ws m c) (rowAt m hO t a)) (Fin.ext ?_)
  show (if 1024 * (t.val % 11) + b.val < 4096 then 1024 * (t.val % 11) + b.val
    else if 1024 * (t.val % 11) + b.val < 8192 then 1024 * (t.val % 11) + b.val + 3104
    else if 1024 * (t.val % 11) + b.val < 9216 then 1024 * (t.val % 11) + b.val - 4096 else 1024 * (t.val % 11) + b.val - 4064) = start (colAt m hO t) + b.val
  rw [start_eq]
  show _ = (if t.val % 11 < 4 then 1024 * (t.val % 11) else if t.val % 11 < 8 then 1024 * (t.val % 11) + 3104
    else if t.val % 11 < 9 then 1024 * (t.val % 11) - 4096 else 1024 * (t.val % 11) - 4064) + b.val
  have := b.isLt
  split_ifs <;> omega

/-- Every point writes its block of the wide result, and the blocks fill it. -/
theorem arr_wide : (dats m hO 0 c).arrAt 5 (cfgM m hO).N = wide m c := by
  refine Pipeline.Dat.arrAt_eq_of_emb _ 5 _ (fun t _ (y : S1024x1024.Idx) => ?_) fun (i : S16384x11264.Idx) => ?_
  · rw [after0_5]
    obtain ⟨a, b, rfl⟩ : ∃ a b : Fin 1024, y = (ix2 a b : S1024x1024.Idx) := ⟨y 0, y 1, eq_ix2 y⟩
    refine (wideBlock_apply m hO c t a b).trans ((wide_apply m hO c t a b).symm.trans ?_)
    exact congrArg (wide m c) (emb_wide m hO t a b).symm
  · obtain ⟨p, q, rfl⟩ : ∃ (p : Fin 16384) (q : Fin 11264), i = ix2 p q := ⟨i 0, i 1, eq_ix2 i⟩
    have hp := p.isLt
    have hq := q.isLt
    refine ⟨⟨11 * (p.val / 1024) + q.val / 1024, by show _ < 176; omega⟩, flush0_5 _ _,
      mem_wide m hO _ ⟨p.val % 1024, Nat.mod_lt _ (by decide)⟩ ⟨q.val % 1024, Nat.mod_lt _ (by decide)⟩ p q (Fin.ext ?_) (Fin.ext ?_)⟩
    · show 1024 * ((11 * (p.val / 1024) + q.val / 1024) / 11) + p.val % 1024 = p.val
      omega
    · show 1024 * ((11 * (p.val / 1024) + q.val / 1024) % 11) + q.val % 1024 = q.val
      omega

theorem small_apply (p : Fin 16384) (l : Fin 128) : small m c (ix2 p l) = InProj.narrow (xs m c) (nws m c) (ws m c) p l := rfl

/-- The last point of a row of blocks writes that row's block of the narrow result, and the blocks fill it. -/
theorem arr_narrow (hn : ∀ k, nws m c (ix2 0 k) - nws m c (ix2 0 k) = 0)
    (hw : ∀ (l : Fin 128) (k : Fin 2048), InProj.narrowW (ws m c) l k - InProj.narrowW (ws m c) l k = 0) :
    (dats m hO 0 c).arrAt 6 (cfgM m hO).N = small m c := by
  refine Pipeline.Dat.arrAt_eq_of_emb _ 6 _ (fun t _ (y : S1024x128.Idx) => ?_) fun (i : S16384x128.Idx) => ?_
  · rw [after0_6]
    obtain ⟨a, l, rfl⟩ : ∃ (a : Fin 1024) (l : Fin 128), y = (ix2 a l : S1024x128.Idx) := ⟨y 0, y 1, eq_ix2 y⟩
    refine (narrowBlock_apply m hO c hn hw t a l).trans ((small_apply m c _ l).symm.trans ?_)
    exact congrArg (small m c) (emb_narrow m hO t a l).symm
  · obtain ⟨p, l, rfl⟩ : ∃ (p : Fin 16384) (l : Fin 128), i = ix2 p l := ⟨i 0, i 1, eq_ix2 i⟩
    have hp := p.isLt
    refine ⟨⟨11 * (p.val / 1024) + 10, by show _ < 176; omega⟩, (flush0_6 _ _).mpr (by show (11 * (p.val / 1024) + 10) % 11 = 10; omega),
      mem_narrow m hO _ ⟨p.val % 1024, Nat.mod_lt _ (by decide)⟩ l p (Fin.ext ?_)⟩
    show 1024 * ((11 * (p.val / 1024) + 10) / 11) + p.val % 1024 = p.val
    omega

/-- The run: the two results, and the arguments as they were. -/
theorem run_value (ρ : Dev nD → PrngReg)
    (hn : ∀ c k, nws m c (ix2 0 k) - nws m c (ix2 0 k) = 0)
    (hw : ∀ c (l : Fin 128) (k : Fin 2048), InProj.narrowW (ws m c) l k - InProj.narrowW (ws m c) l k = 0) :
    θ_run defs (onTc (τ := τ) (main (F := Ideal))) ⟨m, fun _ => 0, ρ⟩ (fun r => ∀ c : Dev nD,
      r.2.mem ((c.tc : Thread nD τ).loc main_v14_0) = wide m c
      ∧ r.2.mem ((c.tc : Thread nD τ).loc main_v14_1) = small m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 5).trans (arr_wide m (ok m) c), ((h.1 c).1 6).trans (arr_narrow m (ok m) c (hn c) (hw c)), h.2 c⟩)
    (θ_run_and (run_main m ρ (ok m)) (unchanged m ρ (ok m)))

end Cert.KernelIdeal.InProj

end
-- ==== Proof.InProj.Reference.lean ====
/- The reference's two results at an index. -/
module

public import proofs.«01_k».proof.Proof.Gen.ReferenceIdeal.Run
public import proofs.«01_k».proof.Proof.InProj.Spec
public import Idealize.ShloMosaic.Lib.Quiescent

@[expose] public section

set_option maxRecDepth 16384

noncomputable section

namespace Cert.ReferenceIdeal.InProj

open Idealize.ShloMosaic Idealize.ShloMosaic.TcCoe
open Idealize.SL.Sem
open Cert.ReferenceIdeal Cert.ReferenceIdeal.Gen

variable (m : (ℓ : Loc nD τ sig) → Buf (Elt Ideal) ℓ) (c : Dev nD)

abbrev xs : Vec Ideal S4x4096x2048 .f32 := m ((c : Thread nD τ).loc main_arg0)
abbrev nws : Vec Ideal S1x2048 .f32 := m ((c : Thread nD τ).loc main_arg1)
abbrev ws : Vec Ideal S1x2048x11312 .f32 := m ((c : Thread nD τ).loc main_arg2)

/-- The reference's rows after the norm, its product with the weights, and its two results of that product. -/
def normedV (x : FVec Ideal S4x4096x2048 .f32) (nw : FVec Ideal S1x2048 .f32) : FVec Ideal S4x4096x2048 .f32 :=
  (mulf (mulf x (broadcastInDim S4x4096x2048 ![0, 1, 2] bcast_S4x4096x1_S4x4096x2048_0_1_2 (Host.rsqrt (addf (Host.divf (broadcastInDim S4x4096x1 ![0, 1] bcast_S4x4096_S4x4096x1_0_1 (Host.reduceAdd (mulf x x) (constant S_ .f32 0x00000000#32) reducesTo_S4x4096x2048_S4x4096_d2 h_S_)) (broadcastInDim S4x4096x1 ![] bcast_S_S4x4096x1 (constant S_ .f32 0x45000000#32))) (broadcastInDim S4x4096x1 ![] bcast_S_S4x4096x1 (constant S_ .f32 0x3727C5AC#32)))))) (broadcastInDim S4x4096x2048 ![0, 1, 2] bcast_S1x1x2048_S4x4096x2048_0_1_2 (broadcastInDim S1x1x2048 ![2] bcast_S2048_S1x1x2048_2 (shapeCast _ nw shapeCasts_S1x2048_S2048))))

def prodV (x : FVec Ideal S4x4096x2048 .f32) (nw : FVec Ideal S1x2048 .f32) (w : FVec Ideal S1x2048x11312 .f32) : FVec Ideal S4x4096x11312 .f32 :=
  (Host.dotGeneral dot_S4x4096x2048_S2048x11312_S4x4096x11312_2_0_01_1_n_n none (normedV x nw) (shapeCast _ w shapeCasts_S1x2048x11312_S2048x11312))

def wideV (d : FVec Ideal S4x4096x11312 .f32) : FVec Ideal S16384x11264 .bf16 :=
  truncf .bf16 (shapeCast _ ((concatenate S4x4096x11264 2 [⟨S4x4096x2048, ((extractStridedSlice S4x4096x2048 ![0, 0, 0] d slices_S4x4096x11312_S4x4096x2048_0_0_0) : (⟨S4x4096x2048, .f32⟩ : BufTy).Contents (Elt Ideal))⟩, ⟨S4x4096x2048, ((extractStridedSlice S4x4096x2048 ![0, 0, 0] (extractStridedSlice S4x4096x3072 ![0, 0, 2048] d slices_S4x4096x11312_S4x4096x3072_0_0_2048) slices_S4x4096x3072_S4x4096x2048_0_0_0) : (⟨S4x4096x2048, .f32⟩ : BufTy).Contents (Elt Ideal))⟩, ⟨S4x4096x2048, ((extractStridedSlice S4x4096x2048 ![0, 0, 7200] d slices_S4x4096x11312_S4x4096x2048_0_0_7200) : (⟨S4x4096x2048, .f32⟩ : BufTy).Contents (Elt Ideal))⟩, ⟨S4x4096x2048, ((extractStridedSlice S4x4096x2048 ![0, 0, 9248] d slices_S4x4096x11312_S4x4096x2048_0_0_9248) : (⟨S4x4096x2048, .f32⟩ : BufTy).Contents (Elt Ideal))⟩, ⟨S4x4096x1024, ((extractStridedSlice S4x4096x1024 ![0, 0, 2048] (extractStridedSlice S4x4096x3072 ![0, 0, 2048] d slices_S4x4096x11312_S4x4096x3072_0_0_2048) slices_S4x4096x3072_S4x4096x1024_0_0_2048) : (⟨S4x4096x1024, .f32⟩ : BufTy).Contents (Elt Ideal))⟩, ⟨S4x4096x1024, ((extractStridedSlice S4x4096x1024 ![0, 0, 5152] d slices_S4x4096x11312_S4x4096x1024_0_0_5152) : (⟨S4x4096x1024, .f32⟩ : BufTy).Contents (Elt Ideal))⟩, ⟨S4x4096x1024, ((extractStridedSlice S4x4096x1024 ![0, 0, 6176] d slices_S4x4096x11312_S4x4096x1024_0_0_6176) : (⟨S4x4096x1024, .f32⟩ : BufTy).Contents (Elt Ideal))⟩] concatenates_S4x4096x2048_S4x4096x2048_S4x4096x2048_S4x4096x2048_S4x4096x1024_S4x4096x1024_S4x4096x1024_S4x4096x11264_d2 : (⟨S4x4096x11264, .f32⟩ : BufTy).Contents (Elt Ideal))) shapeCasts_S4x4096x11264_S16384x11264) bitsLt_bf16_f32

def narrowV (d : FVec Ideal S4x4096x11312 .f32) : FVec Ideal S16384x128 .f32 :=
  shapeCast _ ((concatenate S4x4096x128 2 [⟨S4x4096x32, ((extractStridedSlice S4x4096x32 ![0, 0, 5120] d slices_S4x4096x11312_S4x4096x32_0_0_5120) : (⟨S4x4096x32, .f32⟩ : BufTy).Contents (Elt Ideal))⟩, ⟨S4x4096x16, ((extractStridedSlice S4x4096x16 ![0, 0, 11296] d slices_S4x4096x11312_S4x4096x16_0_0_11296) : (⟨S4x4096x16, .f32⟩ : BufTy).Contents (Elt Ideal))⟩, ⟨S4x4096x80, ((broadcastInDim S4x4096x80 ![] bcast_S_S4x4096x80 (constant (F := Ideal) S_ .f32 0x00000000#32 : FVec Ideal S_ .f32)) : (⟨S4x4096x80, .f32⟩ : BufTy).Contents (Elt Ideal))⟩] concatenates_S4x4096x32_S4x4096x16_S4x4096x80_S4x4096x128_d2 : (⟨S4x4096x128, .f32⟩ : BufTy).Contents (Elt Ideal))) shapeCasts_S4x4096x128_S16384x128

theorem wide_eq : Value.res_main_v30 m c = wideV (prodV (xs m c) (nws m c) (ws m c)) := rfl

theorem normedV_apply (x : FVec Ideal S4x4096x2048 .f32) (nw : FVec Ideal S1x2048 .f32) (j : S4x4096x2048.Idx) :
    normedV x nw j
      = x j * Ideal.rsqrt (Ideal.div (∑ k, x (ix3 (j 0) (j 1) k) * x (ix3 (j 0) (j 1) k)) (Ideal.ofBits .f32 0x45000000#32) + Ideal.ofBits .f32 0x3727C5AC#32) * nw (ix2 0 (j 2)) := by
  unfold normedV
  pointwise

theorem prodV_apply (x : FVec Ideal S4x4096x2048 .f32) (nw : FVec Ideal S1x2048 .f32) (w : FVec Ideal S1x2048x11312 .f32) (j : S4x4096x11312.Idx) :
    prodV x nw w j = ∑ k, normedV x nw (ix3 (j 0) (j 1) k) * w (ix3 0 k (j 2)) := by
  unfold prodV
  pointwise

/-- The product at row `r` of the four sequences, one after the other. -/
theorem prodV_row (x : FVec Ideal S4x4096x2048 .f32) (nw : FVec Ideal S1x2048 .f32) (w : FVec Ideal S1x2048x11312 .f32) (r : Fin 16384) (n : Fin 11312) :
    prodV x nw w (ix3 ⟨r.val / 4096, by have := r.isLt; omega⟩ ⟨r.val % 4096, Nat.mod_lt _ (by decide)⟩ n) = Cert.InProj.proj x nw w r n := by
  rw [prodV_apply]
  refine Finset.sum_congr rfl fun k _ => congrArg (· * _) ?_
  rw [normedV_apply]
  rfl

/-- The wide result takes its columns of the product from where `Cert.InProj.col` says. -/
theorem wideV_apply (d : FVec Ideal S4x4096x11312 .f32) (p : Fin 16384) (q : Fin 11264) :
    wideV d (ix2 p q) = d (ix3 ⟨p.val / 4096, by have := p.isLt; omega⟩ ⟨p.val % 4096, Nat.mod_lt _ (by decide)⟩ (Cert.InProj.col q)) := by
  have key : ∀ (n : Fin 11312), n.val = (Cert.InProj.col q).val →
      d (ix3 ⟨p.val / 4096, by have := p.isLt; omega⟩ ⟨p.val % 4096, Nat.mod_lt _ (by decide)⟩ n)
        = d (ix3 ⟨p.val / 4096, by have := p.isLt; omega⟩ ⟨p.val % 4096, Nat.mod_lt _ (by decide)⟩ (Cert.InProj.col q)) := fun n h => by
    rw [Fin.ext h]
  have hq := q.isLt
  unfold wideV
  pointwise
  repeat' split
  all_goals
    refine key _ ?_
    unfold Cert.InProj.col
    dsimp only
    split_ifs <;> omega

theorem narrowV_apply (x : FVec Ideal S4x4096x2048 .f32) (nw : FVec Ideal S1x2048 .f32) (w : FVec Ideal S1x2048x11312 .f32) (p : Fin 16384) (l : Fin 128) :
    narrowV (prodV x nw w) (ix2 p l) = Cert.InProj.narrow x nw w p l := by
  unfold narrowV
  pointwise
  unfold Cert.InProj.narrow Cert.InProj.narrowW
  split
  · exact prodV_row x nw w p _
  · split
    · exact prodV_row x nw w p _
    · simp only [mul_zero, Finset.sum_const_zero]

/-- The reference's run: the two results, and the arguments as they were. -/
theorem run_value (ρ : Dev nD → PrngReg) : θ_run defs (onTc (τ := τ) (main (F := Ideal))) ⟨m, fun _ => 0, ρ⟩ fun r => ∀ c : Dev nD,
      r.2.mem ((c.tc : Thread nD τ).loc main_v30) = (fun i => Cert.InProj.proj (xs m c) (nws m c) (ws m c) (i 0) (Cert.InProj.col (i 1)) : FVec Ideal S16384x11264 .bf16)
      ∧ r.2.mem ((c.tc : Thread nD τ).loc main_v31) = (fun i => Cert.InProj.narrow (xs m c) (nws m c) (ws m c) (i 0) (i 1) : FVec Ideal S16384x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c).1.trans ((wide_eq m c).trans (funext fun i => by
      obtain ⟨p, q, rfl⟩ : ∃ (p : Fin 16384) (q : Fin 11264), i = ix2 p q := ⟨i 0, i 1, eq_ix2 i⟩
      exact (wideV_apply _ p q).trans (prodV_row _ _ _ p _))),
    (h c).2.1.trans (funext fun i => by
      obtain ⟨p, l, rfl⟩ : ∃ (p : Fin 16384) (l : Fin 128), i = ix2 p l := ⟨i 0, i 1, eq_ix2 i⟩
      exact narrowV_apply (xs m c) (nws m c) (ws m c) p l), (h c).2.2⟩)
    (Value.run m ρ)

/-- The reference's frame: it declares no counter. -/
theorem frame (ρ : Dev nD → PrngReg) : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0 :=
  (θ_run defs _ _).mono (fun r h => ⟨fun c => (h c).2.2, sem_eq_zero_of_no_sems (by decide) r.2⟩) (Value.run m ρ)

end Cert.ReferenceIdeal.InProj

end
-- ==== Proof.Ffn.Stage.lean ====
/- The call's body cut into its stages: the word of the table that says how many blocks of rows are live, the copy of
   the rows, the gate and up products of a full super block, those of a part-filled one (its first block of rows, then
   its second), and the down product. -/
module

public import proofs.«01_k».proof.Proof.Gen.Kernel2Ideal.Skeleton
public import Idealize.ShloMosaic.Lib.Tactic.Stretches

@[expose] public section

set_option maxRecDepth 16384

noncomputable section

namespace Cert.Kernel2Ideal.Ffn

open Idealize.ShloMosaic Idealize.ShloMosaic.TcCoe

cut_chain stage := Cert.Kernel2Ideal.Gen.cc0_ffn_skel at 2, 3, 4, 5, 6

end Cert.Kernel2Ideal.Ffn

end
-- ==== Proof.Ffn.Kit.lean ====
/- The set-up of the expert network's launch: the host operations before the call, the four tables as the call reads
   them, the windows' blocks, and the memrefs the body is handed at a grid point. Everything is stated over any
   interpretation `F` of the floats. -/
module

public import proofs.«01_k».proof.Proof.Gen.Kernel2Ideal.Launch
public import proofs.«01_k».proof.Proof.Gen.Kernel2Ideal.Skeleton
public import Idealize.ShloMosaic.Lib.Pipeline.FrameBody
public import Idealize.ShloMosaic.Lib.Pipeline.Kit
public import Idealize.ShloMosaic.Lib.Ring
public import Idealize.ShloMosaic.Lib.Claim
public import Idealize.ShloMosaic.Lib.Tactic
public import Idealize.ShloMosaic.Lib.WordCmp

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

/-! ## The output window and the grid -/

/-- The output block is written back at the last tile of each super block. -/
theorem flush0_7 (a : (pcfg0 (F := F)).Adm) : ∀ t : Fin (cfg0 a).N, ((cfg0 a).win 7).flush t = true ↔ t.val % 4 = 3 :=
  (fun t => Pipeline.Window.flushOf_reads cc0_transform_7 reads0_7 hreads0_7 0 (by decide) (by decide) (Pipeline.Window.sep_of_coord cc0_transform_7 0 0 (fun _ => rfl) (by decide)) (P := 4) (m := 3) (by decide) rfl t : ∀ t : Fin grid0.N, Pipeline.Window.flushOf grid0 true cc0_transform_7 t = true ↔ t.val % 4 = 3)

/-- The super block and the tile of a point. -/
theorem coord_sb (t : Fin grid0.N) : (grid0.coords t 0).val = t.val / 4 := by
  have ht : t.val < 468 := Nat.lt_of_lt_of_eq t.isLt N_0
  have e0 : (grid0.coords t 0).val = t.val / 4 % 117 := Pipeline.Grid.coords_val t 0 (by decide) rfl
  rw [e0]; omega
theorem coord_tile (t : Fin grid0.N) : (grid0.coords t 1).val = t.val % 4 := by
  have e1 : (grid0.coords t 1).val = t.val / 1 % 4 := Pipeline.Grid.coords_val t 1 (by decide) rfl
  rw [e1, Nat.div_one]

/-- The kernel body at point `t`, on what the pipeline calls it with. -/

abbrev bodyAt0 (a : (pcfg0 (F := F)).Adm) (t : Fin (cfg0 a).N) : Prog (TpuEff nD τ sig (Elt F) Λ₀ .tc) PUnit :=
  cc0_ffn (grid0.coords t) (Memref.whole main_v21) (Memref.isWhole_whole _) (Memref.whole main_v48) (Memref.isWhole_whole _) (Memref.whole main_v12) (Memref.isWhole_whole _) (Memref.whole main_v56) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

variable (m : (ℓ : Loc nD τ sig) → Buf (Elt F) ℓ) (ρ : Dev nD → PrngReg)

/-! ## @main up to the region -/

/-- Core `c`'s buffers when the region is entered: after the host operations before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8, hostOps0_9]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor

set_option maxHeartbeats 1600000 in
/-- @main up to the region: the host operations, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main [hostOps0, hostOps0_1, hostOps0_2, hostOps0_3, hostOps0_4, hostOps0_5, hostOps0_6, hostOps0_7, hostOps0_8, hostOps0_9]
    (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh⟩) main_chain

set_option maxHeartbeats 1600000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.unary, StableHlo.TRef.binary, StableHlo.TRef.nullary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 1600000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.unary, StableHlo.TRef.binary, StableHlo.TRef.nullary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 1600000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.unary, StableHlo.TRef.binary, StableHlo.TRef.nullary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 1600000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.unary, StableHlo.TRef.binary, StableHlo.TRef.nullary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 1600000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.unary, StableHlo.TRef.binary, StableHlo.TRef.nullary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

set_option maxHeartbeats 1600000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, List.flatten_cons, List.flatten_nil, List.append_nil, List.cons_append,
      List.nil_append, List.Forall, StableHlo.TRef.unary, StableHlo.TRef.binary, StableHlo.TRef.nullary, StableHlo.TRef.ternary, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

/-! ## The prefetched tables, read off the launch memory -/

/-- The tables' contents when the region is entered (the program runs on one device). -/
def tbl : pre0.Contents (Elt F) := fun j => V m (0 : Dev nD) (pre0.ref j)
/-- On every device the tables hold those contents (there is one device). -/
theorem V_pre (c : Dev nD) (j : Fin 4) : V m c (pre0.ref j) = tbl m j := by
  obtain rfl : c = 0 := Subsingleton.elim _ _; rfl
/-- The pipeline's side condition of the tables' contents: every window whose index map reads a table has its block
    inside the array at every point. -/
abbrev Ok : Prop := ok0 (F := F) (tbl m)
/-- The tables' contents as admissible contents, and the pipeline at them. -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S117 .i32 := Memref.whole main_v21
abbrev htbM0_0 : tbM0_0.IsWhole := Memref.isWhole_whole _
abbrev tbM0_1 : Memref sig .tc .smem S117 .i32 := Memref.whole main_v48
abbrev htbM0_1 : tbM0_1.IsWhole := Memref.isWhole_whole _
abbrev tbM0_2 : Memref sig .tc .smem S117 .i32 := Memref.whole main_v12
abbrev htbM0_2 : tbM0_2.IsWhole := Memref.isWhole_whole _
abbrev tbM0_3 : Memref sig .tc .smem S117 .i32 := Memref.whole main_v56
abbrev htbM0_3 : tbM0_3.IsWhole := Memref.isWhole_whole _

/-- A table memref's buffer on core `c`, and it held at half the full share at `f`; the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body, table by table. -/
theorem PhiT0_eq (c : Dev nD) : (Pipeline.ΦT pre0 (tbl m) c : sProp 𝕄)
    = iprop(tbPt0 c tbM0_0 (tbl m 0) ∗ tbPt0 c tbM0_1 (tbl m 1) ∗ tbPt0 c tbM0_2 (tbl m 2) ∗ tbPt0 c tbM0_3 (tbl m 3)) := by
  unfold Pipeline.ΦT Pipeline.prefHeld
  exact bigSep_univ_eq_bigSepL [(0 : Fin 4), (1 : Fin 4), (2 : Fin 4), (3 : Fin 4)] (by decide) (by decide) _

/-! ## The windows' blocks -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! Each input window's staging buffer holds its block at every point, fetched there or not, for proof data whose array
    is the one the region finds and whose body leaves the block in place. -/

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The memrefs the body is handed -/

/-! Each window's current staging memref at point `t`, and its wholeness. -/
abbrev ms0_0 (hO : Ok m) (t : Fin (cfgM m hO).N) : Memref sig .tc .vmem S768x2048 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x2048x512 .f32 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x2048x512 .f32 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x512x2048 .f32 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x1x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x1x512 .f32 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x1x2048 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S768x2048 .bf16 := spec0_7.stage ((cfgM m hO).slots t 7)
abbrev hs0_7 (hO : Ok m) (t : Fin (cfgM m hO).N) : (ms0_7 m hO t).IsWhole := hstage0_7 (((cfgM m hO).slots t 7).cast nbuf0_7)

/-! The scratch operands: whole buffers of the kernel's own, passed beside the windows. -/
abbrev scM0_0 : Memref sig .tc .vmem S768x2048 .bf16 := Memref.whole cc0_scratch0
abbrev scM0_1 : Memref sig .tc .vmem S4x768x512 .bf16 := Memref.whole cc0_scratch1
abbrev scM0_2 : Memref sig .tc .vmem S2048x512 .bf16 := Memref.whole cc0_scratch2
abbrev scM0_3 : Memref sig .tc .vmem S2048x512 .bf16 := Memref.whole cc0_scratch3
abbrev scM0_4 : Memref sig .tc .vmem S2048x2048 .bf16 := Memref.whole cc0_scratch4

/-- The region's invariant with the scratch buffers as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel2Ideal.Ffn

end
-- ==== Proof.Ffn.Parts.lean ====
/- The pieces the expert network's body works on: the rows of one sub-block, the block of gated activations it makes
   of them, the block of the output it makes of the activations, and the places they are kept at. -/
module

public import proofs.«01_k».proof.Proof.Ffn.Kit
public import Idealize.ShloMosaic.Lib.VecWindow
public import Idealize.ShloMosaic.Lib.Pointwise

@[expose] public section

set_option maxRecDepth 16384

noncomputable section

namespace Cert.Kernel2Ideal.Ffn

open Idealize.ShloMosaic Idealize.ShloMosaic.TcCoe Idealize.ShloMosaic.ValueIdx
open Cert.Kernel2Ideal Cert.Kernel2Ideal.Gen

variable {F : FTy → Type} [FloatOps F]

/-! ## What is computed -/

/-- The gated activations of a sub-block's rows `x` for one tile: with the tile's two weight blocks and bias blocks. -/
def gateBlock (x : Vec F S256x2048 .bf16) (wg wu : Vec F S2048x512 .bf16) (bg bu : Vec F S1x1x512 .f32) : Vec F S1x256x512 .bf16 :=
  k0_pay24 (k0_pay21 x wg bg) (k0_pay22 x wu) (k0_pay23 bu)
/-- The output rows of a sub-block: its activations of the four tiles side by side, times the second weights, plus the
    bias. -/
def downBlock (a0 a1 a2 a3 : Vec F S1x256x512 .bf16) (w : Vec F S2048x2048 .bf16) (b : Vec F S1x1x2048 .f32) : Vec F S256x2048 .bf16 :=
  k0_pay12 a0 a1 a2 a3 w b
/-- The rows of a sub-block that is not live. -/
def zeroBlock : Vec F S256x2048 .bf16 := k0_pay13

theorem pay27_eq (x : Vec F S256x2048 .bf16) (wg wu : Vec F S2048x512 .bf16) (bg bu : Vec F S1x1x512 .f32) :
    k0_pay27 (k0_pay25 x wg bg) (k0_pay26 x wu) bu = gateBlock x wg wu bg bu := rfl
theorem pay7_eq (x : Vec F S256x2048 .bf16) (wg wu : Vec F S2048x512 .bf16) (bg bu : Vec F S1x1x512 .f32) :
    k0_pay7 (k0_pay28 x wg bg) (k0_pay29 x wu) bu = gateBlock x wg wu bg bu := rfl
theorem pay8_eq (x : Vec F S256x2048 .bf16) (wg wu : Vec F S2048x512 .bf16) (bg bu : Vec F S1x1x512 .f32) :
    k0_pay8 (k0_pay33 x wg bg) (k0_pay34 x wu) (k0_pay35 bu) = gateBlock x wg wu bg bu := rfl
theorem pay9_eq (x : Vec F S256x2048 .bf16) (wg wu : Vec F S2048x512 .bf16) (bg bu : Vec F S1x1x512 .f32) :
    k0_pay9 (k0_pay36 x wg bg wu bu) = gateBlock x wg wu bg bu := rfl
theorem pay24_eq (x : Vec F S256x2048 .bf16) (wg wu : Vec F S2048x512 .bf16) (bg bu : Vec F S1x1x512 .f32) :
    k0_pay24 (k0_pay21 x wg bg) (k0_pay22 x wu) (k0_pay23 bu) = gateBlock x wg wu bg bu := rfl
theorem pay30_eq (w : Vec F S1x2048x512 .f32) : k0_pay30 w = k0_pay18 w := rfl
theorem pay31_eq (w : Vec F S1x2048x512 .f32) : k0_pay31 w = k0_pay19 w := rfl
theorem pay32_eq (w : Vec F S1x512x2048 .f32) : k0_pay32 w = k0_pay20 w := rfl
theorem pay12_eq (a0 a1 a2 a3 : Vec F S1x256x512 .bf16) (w : Vec F S2048x2048 .bf16) (b : Vec F S1x1x2048 .f32) : k0_pay12 a0 a1 a2 a3 w b = downBlock a0 a1 a2 a3 w b := rfl
theorem pay14_eq (a0 a1 a2 a3 : Vec F S1x256x512 .bf16) (w : Vec F S2048x2048 .bf16) (b : Vec F S1x1x2048 .f32) : k0_pay14 a0 a1 a2 a3 w b = downBlock a0 a1 a2 a3 w b := rfl
theorem pay16_eq (a0 a1 a2 a3 : Vec F S1x256x512 .bf16) (w : Vec F S2048x2048 .bf16) (b : Vec F S1x1x2048 .f32) : k0_pay16 a0 a1 a2 a3 w b = downBlock a0 a1 a2 a3 w b := rfl
theorem pay11_eq (a0 a1 a2 a3 : Vec F S1x256x512 .bf16) (w : Vec F S2048x2048 .bf16) (b : Vec F S1x1x2048 .f32) : k0_pay11 a0 a1 a2 a3 w b = downBlock a0 a1 a2 a3 w b := rfl
theorem pay37_eq (a0 a1 a2 a3 : Vec F S1x256x512 .bf16) (w : Vec F S2048x2048 .bf16) (b : Vec F S1x1x2048 .f32) : k0_pay37 a0 a1 a2 a3 w b = downBlock a0 a1 a2 a3 w b := rfl
theorem pay10_eq (a0 a1 a2 a3 : Vec F S1x256x512 .bf16) (w : Vec F S2048x2048 .bf16) (b : Vec F S1x1x2048 .f32) : k0_pay10 (k0_pay38 a0 a1 a2 a3) w b = downBlock a0 a1 a2 a3 w b := rfl
theorem pay13_eq : (k0_pay13 : Vec F S256x2048 .bf16) = zeroBlock := rfl
theorem pay15_eq : (k0_pay15 : Vec F S256x2048 .bf16) = zeroBlock := rfl
theorem pay17_eq : (k0_pay17 : Vec F S256x2048 .bf16) = zeroBlock := rfl

/-! ## Where it is kept -/

theorem rows_inb (sb : Fin 3) : ∀ a, (![256 * sb.val, 0] : Fin 2 → ℕ) a + S256x2048.size a ≤ S768x2048.size a := by
  revert sb; decide
theorem act_inb (k : Fin 4) (sb : Fin 3) : ∀ a, (![k.val, 256 * sb.val, 0] : Fin 3 → ℕ) a + S1x256x512.size a ≤ S4x768x512.size a := by
  revert k sb; decide
theorem down_inb (k : Fin 4) : ∀ a, (![512 * k.val, 0] : Fin 2 → ℕ) a + S512x2048.size a ≤ S2048x2048.size a := by
  revert k; decide

/-- The rows of sub-block `sb` of a super block. -/
def rowsOf (x : Vec F S768x2048 .bf16) (sb : Fin 3) : Vec F S256x2048 .bf16 :=
  VecWindow.window (s := S768x2048) x ![256 * sb.val, 0] S256x2048.size (rows_inb sb)
/-- A super block with the rows of sub-block `sb` replaced. -/
def putRows (x : Vec F S768x2048 .bf16) (sb : Fin 3) (w : Vec F S256x2048 .bf16) : Vec F S768x2048 .bf16 :=
  VecWindow.put (s := S768x2048) x ![256 * sb.val, 0] S256x2048.size w
/-- The kept activations of tile `k` and sub-block `sb`. -/
def actOf (a : Vec F S4x768x512 .bf16) (k : Fin 4) (sb : Fin 3) : Vec F S1x256x512 .bf16 :=
  VecWindow.window (s := S4x768x512) a ![k.val, 256 * sb.val, 0] S1x256x512.size (act_inb k sb)
/-- The kept activations with those of tile `k` and sub-block `sb` replaced. -/
def putAct (a : Vec F S4x768x512 .bf16) (k : Fin 4) (sb : Fin 3) (w : Vec F S1x256x512 .bf16) : Vec F S4x768x512 .bf16 :=
  VecWindow.put (s := S4x768x512) a ![k.val, 256 * sb.val, 0] S1x256x512.size w
/-- The kept second weights with the rows of tile `k` replaced. -/
def putDown (x : Vec F S2048x2048 .bf16) (k : Fin 4) (w : Vec F S512x2048 .bf16) : Vec F S2048x2048 .bf16 :=
  VecWindow.put (s := S2048x2048) x ![512 * k.val, 0] S512x2048.size w

/-- The tile of a point, as a number below four. -/
abbrev tileOf (i : grid0.Coords) : Fin 4 := ⟨(i 1).val, (i 1).isLt⟩

theorem off3_eq (i : grid0.Coords) : k0_off3 i = ![512 * (tileOf i).val, 0] := by
  have h : ∀ n : Fin 4, BitVec.toNat (Scalar.indexCast (Scalar.muli (BitVec.ofNat 32 n.val) 512#32)) = 512 * n.val := by decide
  exact congrArg (fun n => ![n, 0]) (h (i 1))
theorem off8_eq (i : grid0.Coords) : k0_off8 i = ![512 * (tileOf i).val, 0] := off3_eq i
theorem tile_word (i : grid0.Coords) : BitVec.toNat (Scalar.indexCast (BitVec.ofNat 32 (i 1).val)) = (tileOf i).val := by
  have h : ∀ n : Fin 4, BitVec.toNat (Scalar.indexCast (BitVec.ofNat 32 n.val)) = n.val := by decide
  exact h (i 1)
theorem off4_eq (i : grid0.Coords) : k0_off4 i = ![(tileOf i).val, 256 * (0 : Fin 3).val, 0] := congrArg (fun n => ![n, 0, 0]) (tile_word i)
theorem off5_eq (i : grid0.Coords) : k0_off5 i = ![(tileOf i).val, 256 * (1 : Fin 3).val, 0] := congrArg (fun n => ![n, 256, 0]) (tile_word i)
theorem off6_eq (i : grid0.Coords) : k0_off6 i = ![(tileOf i).val, 256 * (2 : Fin 3).val, 0] := congrArg (fun n => ![n, 512, 0]) (tile_word i)
theorem off9_eq (i : grid0.Coords) : k0_off9 i = ![(tileOf i).val, 256 * (0 : Fin 3).val, 0] := off4_eq i
theorem off10_eq (i : grid0.Coords) : k0_off10 i = ![(tileOf i).val, 256 * (1 : Fin 3).val, 0] := off5_eq i

/-- The entry of a table that belongs to a point's super block. -/
def word (x : S117.Idx → BitVec 32) (i : grid0.Coords) : BitVec 32 := x (ix1 (n := 117) (i 0))

theorem off1_eq (i : grid0.Coords) : k0_off1 i = ![(i 0).val] := by
  have h : ∀ n : Fin 117, BitVec.toNat (Scalar.indexCast (BitVec.ofNat 32 n.val)) = n.val := by decide
  exact congrArg (fun n => ![n]) (h (i 0))

theorem word1_read {sp : Space} (v : View sig .tc sp S117 .i32) (f : v.ty.Contents (Elt F)) (i : grid0.Coords) (off : Fin 1 → ℕ) (ho : off = ![(i 0).val])
    (inb : ∀ a, off a + S1.size a ≤ S117.size a) (hp) : v.readAt (Elt F) (Rect.unit (s := S117) off S1.size inb).toLoadRect f (Shape.Idx.first hp) = word (v.read (Elt F) f) i := by
  subst ho
  refine congrArg (v.read (Elt F) f) (funext fun d => Fin.ext ?_)
  obtain rfl : d = 0 := Subsingleton.elim _ _
  show (i 0).val + 0 * 1 = (i 0).val
  omega

end Cert.Kernel2Ideal.Ffn

end
-- ==== Proof.Ffn.Body.lean ====
/- What each part of the expert network's body leaves in the buffers, for each number of live sub-blocks. -/
module

public import proofs.«01_k».proof.Proof.Ffn.Stage
public import proofs.«01_k».proof.Proof.Ffn.Parts

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- Whether a word is zero, as the body tests it. -/
theorem zero_test (w : BitVec 32) : Scalar.cmpi CmpIPredicate.ne (Scalar.extui (Scalar.cmpi CmpIPredicate.eq w 0#32) : BitVec 32) 0#32 = 1#1 ↔ w = 0#32 := by
  by_cases h : w = 0#32
  · subst h; decide
  · have e : Scalar.cmpi CmpIPredicate.eq w 0#32 = 0#1 := by
      show BitVec.ofBool (w == 0#32) = 0#1
      rw [beq_eq_false_iff_ne.mpr h]; rfl
    rw [e]; exact ⟨fun h' => absurd h' (by decide), fun h' => absurd h' h⟩

/-- Whether a point's tile is the first one, as the body tests it. -/
theorem first_test (i : grid0.Coords) : BitVec.ofNat 32 (i 1).val = 0#32 ↔ tileOf i = 0 := by
  have h : ∀ n : Fin 4, BitVec.ofNat 32 n.val = 0#32 ↔ n = 0 := by decide
  exact h (i 1)

/-- The rows of a sub-block as the body loads them. -/
theorem rows_read (f : scM0_0.view.ty.Contents (Elt F)) (sb : Fin 3) (off : Fin 2 → ℕ) (ho : off = ![256 * sb.val, 0]) (inb : ∀ a, off a + S256x2048.size a ≤ S768x2048.size a) :
    scM0_0.view.readAt (Elt F) (Rect.unit (s := S768x2048) off S256x2048.size inb).toLoadRect f = rowsOf (scM0_0.view.read (Elt F) f) sb :=
  View.readAt_unit _ _ _ ho _
/-- The kept activations as the body loads them. -/
theorem act_read (f : scM0_1.view.ty.Contents (Elt F)) (k : Fin 4) (sb : Fin 3) (off : Fin 3 → ℕ) (ho : off = ![k.val, 256 * sb.val, 0]) (inb : ∀ a, off a + S1x256x512.size a ≤ S4x768x512.size a) :
    scM0_1.view.readAt (Elt F) (Rect.unit (s := S4x768x512) off S1x256x512.size inb).toLoadRect f = actOf (scM0_1.view.read (Elt F) f) k sb :=
  View.readAt_unit _ _ _ ho _

/-- Reading a window of a vector at a place inside it gives the vector's entry there. -/
theorem put_window_apply (x : S768x2048.Idx → Elt F .bf16) (off size : Fin 2 → ℕ) (inb : ∀ a, off a + size a ≤ S768x2048.size a) (y : S768x2048.Idx)
    (h : ∀ a, off a ≤ (y a).val ∧ (y a).val < off a + size a) :
    VecWindow.window (s := S768x2048) x off size inb (Rect.unitLocal (s := S768x2048) (off := off) (size := size) y h) = x y := by
  refine congrArg x (funext fun a => Fin.ext ?_)
  show off a + 1 * ((y a).val - off a) = (y a).val
  have := h a
  omega

set_option maxHeartbeats 1000000 in
/-- Copying the six half row blocks leaves the rows that were copied. -/
theorem copied (v w : View sig .tc .vmem S768x2048 .bf16) (f : v.ty.Contents (Elt F)) (g : w.ty.Contents (Elt F)) : v.read (Elt F) (v.writes (Elt F) f
    [⟨Rect.unit (s := S768x2048) ![512, 1024] S256x1024.size inb_S768x2048_S256x1024_512_1024, k0_pay6 (w.readAt (Elt F) (Rect.unit (s := S768x2048) ![512, 1024] S256x1024.size inb_S768x2048_S256x1024_512_1024).toLoadRect g)⟩,
     ⟨Rect.unit (s := S768x2048) ![512, 0] S256x1024.size inb_S768x2048_S256x1024_512_0, k0_pay5 (w.readAt (Elt F) (Rect.unit (s := S768x2048) ![512, 0] S256x1024.size inb_S768x2048_S256x1024_512_0).toLoadRect g)⟩,
     ⟨Rect.unit (s := S768x2048) ![256, 1024] S256x1024.size inb_S768x2048_S256x1024_256_1024, k0_pay4 (w.readAt (Elt F) (Rect.unit (s := S768x2048) ![256, 1024] S256x1024.size inb_S768x2048_S256x1024_256_1024).toLoadRect g)⟩,
     ⟨Rect.unit (s := S768x2048) ![256, 0] S256x1024.size inb_S768x2048_S256x1024_256_0, k0_pay3 (w.readAt (Elt F) (Rect.unit (s := S768x2048) ![256, 0] S256x1024.size inb_S768x2048_S256x1024_256_0).toLoadRect g)⟩,
     ⟨Rect.unit (s := S768x2048) ![0, 1024] S256x1024.size inb_S768x2048_S256x1024_0_1024, k0_pay2 (w.readAt (Elt F) (Rect.unit (s := S768x2048) ![0, 1024] S256x1024.size inb_S768x2048_S256x1024_0_1024).toLoadRect g)⟩,
     ⟨Rect.unit (s := S768x2048) ![0, 0] S256x1024.size inb_S768x2048_S256x1024_0_0, k0_pay1 (w.readAt (Elt F) (Rect.unit (s := S768x2048) ![0, 0] S256x1024.size inb_S768x2048_S256x1024_0_0).toLoadRect g)⟩]) = w.read (Elt F) g := by
  rw [View.read_writes_cons_put _ _ _ _ _ (show (![512, 1024] : Fin 2 → ℕ) = ![512, 1024] from rfl), View.read_writes_cons_put _ _ _ _ _ (show (![512, 0] : Fin 2 → ℕ) = ![512, 0] from rfl), View.read_writes_cons_put _ _ _ _ _ (show (![256, 1024] : Fin 2 → ℕ) = ![256, 1024] from rfl), View.read_writes_cons_put _ _ _ _ _ (show (![256, 0] : Fin 2 → ℕ) = ![256, 0] from rfl), View.read_writes_cons_put _ _ _ _ _ (show (![0, 1024] : Fin 2 → ℕ) = ![0, 1024] from rfl), View.read_writes_cons_put _ _ _ _ _ (show (![0, 0] : Fin 2 → ℕ) = ![0, 0] from rfl)]
  unfold k0_pay1 k0_pay2 k0_pay3 k0_pay4 k0_pay5 k0_pay6
  repeat rw [shapeCast_self]
  rw [View.readAt_unit w g _ (show (![512, 1024] : Fin 2 → ℕ) = ![512, 1024] from rfl) inb_S768x2048_S256x1024_512_1024, View.readAt_unit w g _ (show (![512, 0] : Fin 2 → ℕ) = ![512, 0] from rfl) inb_S768x2048_S256x1024_512_0, View.readAt_unit w g _ (show (![256, 1024] : Fin 2 → ℕ) = ![256, 1024] from rfl) inb_S768x2048_S256x1024_256_1024, View.readAt_unit w g _ (show (![256, 0] : Fin 2 → ℕ) = ![256, 0] from rfl) inb_S768x2048_S256x1024_256_0, View.readAt_unit w g _ (show (![0, 1024] : Fin 2 → ℕ) = ![0, 1024] from rfl) inb_S768x2048_S256x1024_0_1024, View.readAt_unit w g _ (show (![0, 0] : Fin 2 → ℕ) = ![0, 0] from rfl) inb_S768x2048_S256x1024_0_0]
  generalize w.read (Elt F) g = x
  funext y
  have h0 : (y 0).val < 768 := (y 0).isLt
  have h1 : (y 1).val < 2048 := (y 1).isLt
  unfold VecWindow.put
  split
  · exact put_window_apply x _ _ _ y _
  split
  · exact put_window_apply x _ _ _ y _
  split
  · exact put_window_apply x _ _ _ y _
  split
  · exact put_window_apply x _ _ _ y _
  split
  · exact put_window_apply x _ _ _ y _
  split
  · exact put_window_apply x _ _ _ y _
  exfalso
  rename_i n5 n4 n3 n2 n1 n0
  simp only [Fin.forall_fin_two, not_and_or, not_le, not_lt] at n0 n1 n2 n3 n4 n5
  change (_ ∨ _) ∨ (_ ∨ _) at n0
  simp only [Matrix.cons_val_zero, Matrix.cons_val_one, Matrix.cons_val_fin_one] at n0 n1 n2 n3 n4 n5
  omega

/-- Whether a point stages its rows, as the body tests it. -/
theorem stage_test (k : BitVec 32) (hk : k = 1#32 ∨ k = 2#32 ∨ k = 3#32) (i : grid0.Coords) :
    Scalar.cmpi CmpIPredicate.ne (Scalar.extui (Scalar.andi (Scalar.cmpi CmpIPredicate.sgt k 0#32) (Scalar.cmpi CmpIPredicate.eq (BitVec.ofNat 32 (i 1).val) 0#32)) : BitVec 32) 0#32 = 1#1 ↔ tileOf i = 0 := by
  have h : ∀ n : Fin 4, Scalar.cmpi CmpIPredicate.ne (Scalar.extui (Scalar.andi (Scalar.cmpi CmpIPredicate.sgt k 0#32) (Scalar.cmpi CmpIPredicate.eq (BitVec.ofNat 32 n.val) 0#32)) : BitVec 32) 0#32 = 1#1 ↔ n = 0 := by
    rcases hk with rfl | rfl | rfl <;> decide
  exact h (i 1)
theorem stage_test_none (i : grid0.Coords) :
    ¬Scalar.cmpi CmpIPredicate.ne (Scalar.extui (Scalar.andi (Scalar.cmpi CmpIPredicate.sgt 0#32 0#32) (Scalar.cmpi CmpIPredicate.eq (BitVec.ofNat 32 (i 1).val) 0#32)) : BitVec 32) 0#32 = 1#1 := by
  have h : ∀ n : Fin 4, ¬Scalar.cmpi CmpIPredicate.ne (Scalar.extui (Scalar.andi (Scalar.cmpi CmpIPredicate.sgt 0#32 0#32) (Scalar.cmpi CmpIPredicate.eq (BitVec.ofNat 32 n.val) 0#32)) : BitVec 32) 0#32 = 1#1 := by decide
  exact h (i 1)

theorem stage1_spec (c : Dev nD) (i : grid0.Coords) (xt : TbBuf0 (F := F) c tbM0_1) {R : Type} {κ : stage1.K (F := F) i tbM0_1 (R := R)} {Q : R → sProp 𝕄} {E : Set ℕ} :
    tbPt0 c tbM0_1 xt ⊢ iprop((tbPt0 c tbM0_1 xt -∗ wp frame (wpE (defs₀ (F := F)) Variants.none c none) E (κ (word xt i)) Q) -∗ wp frame (wpE (defs₀ (F := F)) Variants.none c none) E (stage1 i tbM0_1 κ) Q) := by
  iintro HT Hκ
  unfold stage1
  sl_exec
  sl_unfold_run_names
  rw [word1_read tbM0_1.view xt i _ (off1_eq i)]
  iapply Hκ
  iexact HT

set_option maxHeartbeats 1000000 in
/-- With no live sub-block the staged rows stay as they were. -/
theorem stage2_none (c : Dev nD) (i : grid0.Coords) (arg6 : Memref sig .tc .vmem S768x2048 .bf16) (harg6 : arg6.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage2 (F := F) i arg6 scM0_0 (Memref.isWhole_whole _) 0#32 κ) Q := by
  iintro Hκ
  unfold stage2
  sl_exec (disch := first | sl_exact (stage_test_none i))
  iexact Hκ
set_option maxHeartbeats 1000000 in
/-- With live sub-blocks the rows handed in are staged at the first tile. -/
theorem stage2_1 (c : Dev nD) (i : grid0.Coords) (arg6 : Memref sig .tc .vmem S768x2048 .bf16) (harg6 : arg6.IsWhole)  (x0 : Vec F S768x2048 .bf16) (xb : Vec F S768x2048 .bf16) {R : Type} {κ : Prog (TpuEff nD τ sig (Elt F) Λ₀ .tc) R} {Q : R → sProp 𝕄} {E : Set ℕ} :
    iprop(owns (c : Thread nD τ) arg6 fullShare x0 ∗ owns (c : Thread nD τ) scM0_0 fullShare xb)
    ⊢ iprop((iprop(owns (c : Thread nD τ) arg6 fullShare x0 ∗ owns (c : Thread nD τ) scM0_0 fullShare (if tileOf i = 0 then x0 else xb)) -∗ wp frame (wpE (defs₀ (F := F)) Variants.none c none) E (κ) Q) -∗ wp frame (wpE (defs₀ (F := F)) Variants.none c none) E (stage2 (F := F) i arg6 scM0_0 (Memref.isWhole_whole _) 1#32 κ) Q) := by
  unfold owns
  iintro ⟨⟨%f6, %hf6, H6⟩, ⟨%f14, %hf14, H14⟩⟩ Hκ
  subst hf6
  subst hf14
  unfold stage2
  sl_exec
  iapply Hκ
  isplitl [H6]
  · iexists _; isplitr; · ipureintro; rfl
    iexact H6
  iexists _; isplitr
  swap; · iexact H14
  ipureintro
  sl_unfold_run_names
  by_cases hf : tileOf i = 0
  · rw [if_pos hf, dif_pos ((stage_test _ (by decide) i).mpr hf)]
    exact copied _ _ _ _
  · rw [if_neg hf, dif_neg (mt (stage_test _ (by decide) i).mp hf)]
set_option maxHeartbeats 1000000 in
/-- With live sub-blocks the rows handed in are staged at the first tile. -/
theorem stage2_2 (c : Dev nD) (i : grid0.Coords) (arg6 : Memref sig .tc .vmem S768x2048 .bf16) (harg6 : arg6.IsWhole)  (x0 : Vec F S768x2048 .bf16) (xb : Vec F S768x2048 .bf16) {R : Type} {κ : Prog (TpuEff nD τ sig (Elt F) Λ₀ .tc) R} {Q : R → sProp 𝕄} {E : Set ℕ} :
    iprop(owns (c : Thread nD τ) arg6 fullShare x0 ∗ owns (c : Thread nD τ) scM0_0 fullShare xb)
    ⊢ iprop((iprop(owns (c : Thread nD τ) arg6 fullShare x0 ∗ owns (c : Thread nD τ) scM0_0 fullShare (if tileOf i = 0 then x0 else xb)) -∗ wp frame (wpE (defs₀ (F := F)) Variants.none c none) E (κ) Q) -∗ wp frame (wpE (defs₀ (F := F)) Variants.none c none) E (stage2 (F := F) i arg6 scM0_0 (Memref.isWhole_whole _) 2#32 κ) Q) := by
  unfold owns
  iintro ⟨⟨%f6, %hf6, H6⟩, ⟨%f14, %hf14, H14⟩⟩ Hκ
  subst hf6
  subst hf14
  unfold stage2
  sl_exec
  iapply Hκ
  isplitl [H6]
  · iexists _; isplitr; · ipureintro; rfl
    iexact H6
  iexists _; isplitr
  swap; · iexact H14
  ipureintro
  sl_unfold_run_names
  by_cases hf : tileOf i = 0
  · rw [if_pos hf, dif_pos ((stage_test _ (by decide) i).mpr hf)]
    exact copied _ _ _ _
  · rw [if_neg hf, dif_neg (mt (stage_test _ (by decide) i).mp hf)]
set_option maxHeartbeats 1000000 in
/-- With live sub-blocks the rows handed in are staged at the first tile. -/
theorem stage2_3 (c : Dev nD) (i : grid0.Coords) (arg6 : Memref sig .tc .vmem S768x2048 .bf16) (harg6 : arg6.IsWhole)  (x0 : Vec F S768x2048 .bf16) (xb : Vec F S768x2048 .bf16) {R : Type} {κ : Prog (TpuEff nD τ sig (Elt F) Λ₀ .tc) R} {Q : R → sProp 𝕄} {E : Set ℕ} :
    iprop(owns (c : Thread nD τ) arg6 fullShare x0 ∗ owns (c : Thread nD τ) scM0_0 fullShare xb)
    ⊢ iprop((iprop(owns (c : Thread nD τ) arg6 fullShare x0 ∗ owns (c : Thread nD τ) scM0_0 fullShare (if tileOf i = 0 then x0 else xb)) -∗ wp frame (wpE (defs₀ (F := F)) Variants.none c none) E (κ) Q) -∗ wp frame (wpE (defs₀ (F := F)) Variants.none c none) E (stage2 (F := F) i arg6 scM0_0 (Memref.isWhole_whole _) 3#32 κ) Q) := by
  unfold owns
  iintro ⟨⟨%f6, %hf6, H6⟩, ⟨%f14, %hf14, H14⟩⟩ Hκ
  subst hf6
  subst hf14
  unfold stage2
  sl_exec
  iapply Hκ
  isplitl [H6]
  · iexists _; isplitr; · ipureintro; rfl
    iexact H6
  iexists _; isplitr
  swap; · iexact H14
  ipureintro
  sl_unfold_run_names
  by_cases hf : tileOf i = 0
  · rw [if_pos hf, dif_pos ((stage_test _ (by decide) i).mpr hf)]
    exact copied _ _ _ _
  · rw [if_neg hf, dif_neg (mt (stage_test _ (by decide) i).mp hf)]
theorem off2_eq (i : grid0.Coords) : k0_off2 i = ![(i 0).val] := off1_eq i
theorem off7_eq (i : grid0.Coords) : k0_off7 i = ![(i 0).val] := off1_eq i
set_option maxHeartbeats 1000000 in
/-- With all three sub-blocks live the body makes all three blocks of activations of the tile. -/
theorem stage3_full (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)  (x1 : Vec F S1x2048x512 .f32) (x2 : Vec F S1x2048x512 .f32) (x3 : Vec F S1x512x2048 .f32) (x4 : Vec F S1x1x512 .f32) (x5 : Vec F S1x1x512 .f32) (xb : Vec F S768x2048 .bf16) (act : Vec F S4x768x512 .bf16) (wd : Vec F S2048x2048 .bf16) (xt : TbBuf0 (F := F) c tbM0_3) {R : Type} {κ : Prog (TpuEff nD τ sig (Elt F) Λ₀ .tc) R} {Q : R → sProp 𝕄} {E : Set ℕ} :
    iprop(owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_3 xt)
    ⊢ iprop((iprop(owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) scM0_0 fullShare xb ∗ owns (c : Thread nD τ) scM0_1 fullShare (putAct (putAct (putAct act (tileOf i) 0 (gateBlock (rowsOf xb 0) (k0_pay18 x1) (k0_pay19 x2) x4 x5)) (tileOf i) 1 (gateBlock (rowsOf xb 1) (k0_pay18 x1) (k0_pay19 x2) x4 x5)) (tileOf i) 2 (gateBlock (rowsOf xb 2) (k0_pay18 x1) (k0_pay19 x2) x4 x5)) ∗ (∃ d, owns (c : Thread nD τ) scM0_2 fullShare d) ∗ (∃ d, owns (c : Thread nD τ) scM0_3 fullShare d) ∗ owns (c : Thread nD τ) scM0_4 fullShare (if word xt i = 0#32 then putDown wd (tileOf i) (k0_pay20 x3) else wd) ∗ tbPt0 c tbM0_3 xt) -∗ wp frame (wpE (defs₀ (F := F)) Variants.none c none) E (κ) Q) -∗ wp frame (wpE (defs₀ (F := F)) Variants.none c none) E (stage3 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 3#32 κ) Q) := by
  unfold owns
  iintro ⟨⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩, ⟨%d16, %f16, -, H16⟩, ⟨%d17, %f17, -, H17⟩, ⟨%f18, %hf18, H18⟩, HT⟩ Hκ
  subst hf7
  subst hf8
  subst hf9
  subst hf10
  subst hf11
  subst hf14
  subst hf15
  subst hf18
  unfold stage3
  sl_exec
  iapply Hκ
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H14]
  · iexists _; isplitr; · ipureintro; rfl
    iexact H14
  isplitl [H15]
  · iexists _; isplitr
    swap; · iexact H15
    ipureintro
    sl_unfold_run_names
    rw [View.read_writes_cons_put _ _ _ _ _ (off6_eq i), View.read_writes_cons_put _ _ _ _ _ (off5_eq i), View.read_writes_cons_put _ _ _ _ _ (off4_eq i), View.writes_nil]
    rw [rows_read _ 0 ![0, 0] rfl, rows_read _ 1 ![256, 0] rfl, rows_read _ 2 ![512, 0] rfl]
    repeat rw [View.readCov_full]
    repeat rw [View.readAt_full]
    rw [pay7_eq, pay27_eq, pay24_eq]
    rfl
  isplitl [H16]
  · iexists _; iexists _; isplitr
    swap; · iexact H16
    ipureintro; rfl
  isplitl [H17]
  · iexists _; iexists _; isplitr
    swap; · iexact H17
    ipureintro; rfl
  isplitl [H18]
  · iexists _; isplitr
    swap; · iexact H18
    ipureintro
    sl_unfold_run_names
    rw [word1_read tbM0_3.view xt i _ (off2_eq i)]
    by_cases hw : word xt i = 0#32
    · rw [if_pos hw, dif_pos ((zero_test (word (tbM0_3.view.read (Elt F) xt) i)).mpr hw)]
      rw [View.read_writes_cons_put _ _ _ _ _ (off3_eq i), View.writes_nil, View.readAt_full]
      rfl
    · rw [if_neg hw, dif_neg (mt (zero_test (word (tbM0_3.view.read (Elt F) xt) i)).mp hw)]
  iexact HT
set_option maxHeartbeats 1000000 in
/-- With some but not all sub-blocks live the body stages the tile's weights and makes the first sub-block's activations. -/
theorem stage4_1 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)  (x1 : Vec F S1x2048x512 .f32) (x2 : Vec F S1x2048x512 .f32) (x3 : Vec F S1x512x2048 .f32) (x4 : Vec F S1x1x512 .f32) (x5 : Vec F S1x1x512 .f32) (xb : Vec F S768x2048 .bf16) (act : Vec F S4x768x512 .bf16) (wd : Vec F S2048x2048 .bf16) (xt : TbBuf0 (F := F) c tbM0_3) {R : Type} {κ : Prog (TpuEff nD τ sig (Elt F) Λ₀ .tc) R} {Q : R → sProp 𝕄} {E : Set ℕ} :
    iprop(owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_3 xt)
    ⊢ iprop((iprop(owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) scM0_0 fullShare xb ∗ owns (c : Thread nD τ) scM0_1 fullShare (putAct act (tileOf i) 0 (gateBlock (rowsOf xb 0) (k0_pay18 x1) (k0_pay19 x2) x4 x5)) ∗ owns (c : Thread nD τ) scM0_2 fullShare (k0_pay18 x1) ∗ owns (c : Thread nD τ) scM0_3 fullShare (k0_pay19 x2) ∗ owns (c : Thread nD τ) scM0_4 fullShare (if word xt i = 0#32 then putDown wd (tileOf i) (k0_pay20 x3) else wd) ∗ tbPt0 c tbM0_3 xt) -∗ wp frame (wpE (defs₀ (F := F)) Variants.none c none) E (κ) Q) -∗ wp frame (wpE (defs₀ (F := F)) Variants.none c none) E (stage4 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 1#32 κ) Q) := by
  unfold owns
  iintro ⟨⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩, ⟨%d16, %f16, -, H16⟩, ⟨%d17, %f17, -, H17⟩, ⟨%f18, %hf18, H18⟩, HT⟩ Hκ
  subst hf7
  subst hf8
  subst hf9
  subst hf10
  subst hf11
  subst hf14
  subst hf15
  subst hf18
  unfold stage4
  sl_exec
  iapply Hκ
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H14]
  · iexists _; isplitr; · ipureintro; rfl
    iexact H14
  isplitl [H15]
  · iexists _; isplitr
    swap; · iexact H15
    ipureintro
    sl_unfold_run_names
    rw [View.read_writes_cons_put _ _ _ _ _ (off9_eq i), View.writes_nil]
    rw [rows_read _ 0 ![0, 0] rfl]
    repeat rw [View.readCov_full]
    repeat rw [View.readAt_full]
    rw [pay8_eq, pay30_eq, pay31_eq]
    rfl
  isplitl [H16]
  · iexists _; isplitr
    swap; · iexact H16
    ipureintro
    sl_unfold_run_names
    rw [View.read_writes_full, View.readAt_full, pay30_eq]
  isplitl [H17]
  · iexists _; isplitr
    swap; · iexact H17
    ipureintro
    sl_unfold_run_names
    rw [View.read_writes_full, View.readAt_full, pay31_eq]
  isplitl [H18]
  · iexists _; isplitr
    swap; · iexact H18
    ipureintro
    sl_unfold_run_names
    rw [word1_read tbM0_3.view xt i _ (off7_eq i)]
    by_cases hw : word xt i = 0#32
    · rw [if_pos hw, dif_pos ((zero_test (word (tbM0_3.view.read (Elt F) xt) i)).mpr hw)]
      rw [View.read_writes_cons_put _ _ _ _ _ (off8_eq i), View.writes_nil, View.readAt_full]
      rfl
    · rw [if_neg hw, dif_neg (mt (zero_test (word (tbM0_3.view.read (Elt F) xt) i)).mp hw)]
  iexact HT
set_option maxHeartbeats 1000000 in
/-- With some but not all sub-blocks live the body stages the tile's weights and makes the first sub-block's activations. -/
theorem stage4_2 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)  (x1 : Vec F S1x2048x512 .f32) (x2 : Vec F S1x2048x512 .f32) (x3 : Vec F S1x512x2048 .f32) (x4 : Vec F S1x1x512 .f32) (x5 : Vec F S1x1x512 .f32) (xb : Vec F S768x2048 .bf16) (act : Vec F S4x768x512 .bf16) (wd : Vec F S2048x2048 .bf16) (xt : TbBuf0 (F := F) c tbM0_3) {R : Type} {κ : Prog (TpuEff nD τ sig (Elt F) Λ₀ .tc) R} {Q : R → sProp 𝕄} {E : Set ℕ} :
    iprop(owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_3 xt)
    ⊢ iprop((iprop(owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) scM0_0 fullShare xb ∗ owns (c : Thread nD τ) scM0_1 fullShare (putAct act (tileOf i) 0 (gateBlock (rowsOf xb 0) (k0_pay18 x1) (k0_pay19 x2) x4 x5)) ∗ owns (c : Thread nD τ) scM0_2 fullShare (k0_pay18 x1) ∗ owns (c : Thread nD τ) scM0_3 fullShare (k0_pay19 x2) ∗ owns (c : Thread nD τ) scM0_4 fullShare (if word xt i = 0#32 then putDown wd (tileOf i) (k0_pay20 x3) else wd) ∗ tbPt0 c tbM0_3 xt) -∗ wp frame (wpE (defs₀ (F := F)) Variants.none c none) E (κ) Q) -∗ wp frame (wpE (defs₀ (F := F)) Variants.none c none) E (stage4 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 2#32 κ) Q) := by
  unfold owns
  iintro ⟨⟨%f7, %hf7, H7⟩, ⟨%f8, %hf8, H8⟩, ⟨%f9, %hf9, H9⟩, ⟨%f10, %hf10, H10⟩, ⟨%f11, %hf11, H11⟩, ⟨%f14, %hf14, H14⟩, ⟨%f15, %hf15, H15⟩, ⟨%d16, %f16, -, H16⟩, ⟨%d17, %f17, -, H17⟩, ⟨%f18, %hf18, H18⟩, HT⟩ Hκ
  subst hf7
  subst hf8
  subst hf9
  subst hf10
  subst hf11
  subst hf14
  subst hf15
  subst hf18
  unfold stage4
  sl_exec
  iapply Hκ
  isplitl [H7]
  · iexists _; isplitr; · ipureintro; rfl
    iexact H7
  isplitl [H8]
  · iexists _; isplitr; · ipureintro; rfl
    iexact H8
  isplitl [H9]
  · iexists _; isplitr; · ipureintro; rfl
    iexact H9
  isplitl [H10]
  · iexists _; isplitr; · ipureintro; rfl
    iexact H10
  isplitl [H11]
  · iexists _; isplitr; · ipureintro; rfl
    iexact H11
  isplitl [H14]
  · iexists _; isplitr; · ipureintro; rfl
    iexact H14
  isplitl [H15]
  · iexists _; isplitr
    swap; · iexact H15
    ipureintro
    sl_unfold_run_names
    rw [View.read_writes_cons_put _ _ _ _ _ (off9_eq i), View.writes_nil]
    rw [rows_read _ 0 ![0, 0] rfl]
    repeat rw [View.readCov_full]
    repeat rw [View.readAt_full]
    rw [pay8_eq, pay30_eq, pay31_eq]
    rfl
  isplitl [H16]
  · iexists _; isplitr
    swap; · iexact H16
    ipureintro
    sl_unfold_run_names
    rw [View.read_writes_full, View.readAt_full, pay30_eq]
  isplitl [H17]
  · iexists _; isplitr
    swap; · iexact H17
    ipureintro
    sl_unfold_run_names
    rw [View.read_writes_full, View.readAt_full, pay31_eq]
  isplitl [H18]
  · iexists _; isplitr
    swap; · iexact H18
    ipureintro
    sl_unfold_run_names
    rw [word1_read tbM0_3.view xt i _ (off7_eq i)]
    by_cases hw : word xt i = 0#32
    · rw [if_pos hw, dif_pos ((zero_test (word (tbM0_3.view.read (Elt F) xt) i)).mpr hw)]
      rw [View.read_writes_cons_put _ _ _ _ _ (off8_eq i), View.writes_nil, View.readAt_full]
      rfl
    · rw [if_neg hw, dif_neg (mt (zero_test (word (tbM0_3.view.read (Elt F) xt) i)).mp hw)]
  iexact HT
set_option maxHeartbeats 1000000 in
/-- Nothing happens here for this number of live sub-blocks. -/
theorem stage3_none0 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage3 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 0#32 κ) Q := by
  iintro Hκ
  unfold stage3
  sl_exec
  iexact Hκ
set_option maxHeartbeats 1000000 in
/-- Nothing happens here for this number of live sub-blocks. -/
theorem stage3_none1 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage3 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 1#32 κ) Q := by
  iintro Hκ
  unfold stage3
  sl_exec
  iexact Hκ
set_option maxHeartbeats 1000000 in
/-- Nothing happens here for this number of live sub-blocks. -/
theorem stage3_none2 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage3 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 2#32 κ) Q := by
  iintro Hκ
  unfold stage3
  sl_exec
  iexact Hκ
set_option maxHeartbeats 1000000 in
/-- Nothing happens here for this number of live sub-blocks. -/
theorem stage4_none0 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage4 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 0#32 κ) Q := by
  iintro Hκ
  unfold stage4
  sl_exec
  iexact Hκ
set_option maxHeartbeats 1000000 in
/-- Nothing happens here for this number of live sub-blocks. -/
theorem stage4_none3 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage4 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 3#32 κ) Q := by
  iintro Hκ
  unfold stage4
  sl_exec
  iexact Hκ
set_option maxHeartbeats 1000000 in
/-- Nothing happens here for this number of live sub-blocks. -/
theorem stage5_none0 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage5 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 0#32 κ) Q := by
  iintro Hκ
  unfold stage5
  sl_exec
  iexact Hκ
set_option maxHeartbeats 1000000 in
/-- Nothing happens here for this number of live sub-blocks. -/
theorem stage5_none1 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage5 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 1#32 κ) Q := by
  iintro Hκ
  unfold stage5
  sl_exec
  iexact Hκ
set_option maxHeartbeats 1000000 in
/-- Nothing happens here for this number of live sub-blocks. -/
theorem stage5_none3 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)   {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage5 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 3#32 κ) Q := by
  iintro Hκ
  unfold stage5
  sl_exec
  iexact Hκ
set_option maxHeartbeats 1000000 in
/-- With two sub-blocks live the body makes the second one's activations with the staged weights. -/
theorem stage5_2 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole)  (x4 : Vec F S1x1x512 .f32) (x5 : Vec F S1x1x512 .f32) (xb : Vec F S768x2048 .bf16) (act : Vec F S4x768x512 .bf16) (wg : Vec F S2048x512 .bf16) (wu : Vec F S2048x512 .bf16) {R : Type} {κ : Prog (TpuEff nD τ sig (Elt F) Λ₀ .tc) R} {Q : R → sProp 𝕄} {E : Set ℕ} :
    iprop(owns (c : Thread nD τ) arg10 fullShare x4 ∗ owns (c : Thread nD τ) arg11 fullShare x5 ∗ owns (c : Thread nD τ) scM0_0 fullShare xb ∗ owns (c : Thread nD τ) scM0_1 fullShare act ∗ owns (c : Thread nD τ) scM0_2 fullShare wg ∗ owns (c : Thread nD τ) scM0_3 fullShare wu)
    ⊢ iprop((iprop(owns (c : Thread nD τ) arg10 fullShare x4 ∗ owns (c : Thread nD τ) arg11 fullShare x5 ∗ owns (c : Thread nD τ) scM0_0 fullShare xb ∗ owns (c : Thread nD τ) scM0_1 fullShare (putAct act (tileOf i) 1 (gateBlock (rowsOf xb 1) wg wu x4 x5)) ∗ owns (c : Thread nD τ) scM0_2 fullShare wg ∗ owns (c : Thread nD τ) scM0_3 fullShare wu) -∗ wp frame (wpE (defs₀ (F := F)) Variants.none c none) E (κ) Q) -∗ wp frame (wpE (defs₀ (F := F)) Variants.none c none) E (stage5 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 2#32 κ) Q) := by
  unfold owns
  iintro ⟨⟨%f10, %hf10, H10⟩, ⟨%f11, %hf11, H11⟩, ⟨%f14, %hf14, H14⟩, ⟨%f15, %hf15, H15⟩, ⟨%f16, %hf16, H16⟩, ⟨%f17, %hf17, H17⟩⟩ Hκ
  subst hf10
  subst hf11
  subst hf14
  subst hf15
  subst hf16
  subst hf17
  unfold stage5
  sl_exec
  iapply Hκ
  isplitl [H10]
  · iexists _; isplitr; · ipureintro; rfl
    iexact H10
  isplitl [H11]
  · iexists _; isplitr; · ipureintro; rfl
    iexact H11
  isplitl [H14]
  · iexists _; isplitr; · ipureintro; rfl
    iexact H14
  isplitl [H15]
  · iexists _; isplitr
    swap; · iexact H15
    ipureintro
    sl_unfold_run_names
    rw [View.read_writes_cons_put _ _ _ _ _ (off10_eq i), View.writes_nil]
    rw [rows_read _ 1 ![256, 0] rfl]
    repeat rw [View.readAt_full]
    rw [pay9_eq]
    rfl
  isplitl [H16]
  · iexists _; isplitr; · ipureintro; rfl
    iexact H16
  iexists _; isplitr; · ipureintro; rfl
  iexact H17
set_option maxHeartbeats 1000000 in
/-- Before the last tile nothing is stored into the output block. -/
theorem stage6_none (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (v1 : BitVec 32) (hc : ¬k0_cond7 i = 1#1)  {R : Type} {κ : Prog (TpuEff nD τ sig (Elt F) Λ₀ .tc) R} {Q : R → sProp 𝕄} {E : Set ℕ} :
    wp frame (wpE (defs₀ (F := F)) Variants.none c none) E (κ) Q ⊢ wp frame (wpE (defs₀ (F := F)) Variants.none c none) E (stage6 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) v1 κ) Q := by
  iintro Hκ
  unfold stage6
  sl_exec (disch := first | sl_exact hc)
  iexact Hκ
set_option maxHeartbeats 1000000 in
/-- At the last tile the output block's rows are stored: the products for the live sub-blocks, zeros for the others. -/
theorem stage6_0 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (hc : k0_cond7 i = 1#1) (x7 : Vec F S768x2048 .bf16) {R : Type} {κ : Prog (TpuEff nD τ sig (Elt F) Λ₀ .tc) R} {Q : R → sProp 𝕄} {E : Set ℕ} :
    iprop(owns (c : Thread nD τ) arg13 fullShare x7)
    ⊢ iprop((iprop(owns (c : Thread nD τ) arg13 fullShare (putRows (putRows (putRows x7 0 zeroBlock) 1 zeroBlock) 2 zeroBlock)) -∗ wp frame (wpE (defs₀ (F := F)) Variants.none c none) E (κ) Q) -∗ wp frame (wpE (defs₀ (F := F)) Variants.none c none) E (stage6 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 0#32 κ) Q) := by
  unfold owns
  iintro ⟨%f13, %hf13, H13⟩ Hκ
  subst hf13
  unfold stage6
  sl_exec (disch := first | sl_exact hc)
  iapply Hκ
  iexists _; isplitr
  swap; · iexact H13
  ipureintro
  sl_unfold_run_names
  rw [View.read_writes_cons_put _ _ _ _ _ (show ![512, 0] = ![256 * (2 : Fin 3).val, 0] from rfl), View.read_writes_cons_put _ _ _ _ _ (show ![256, 0] = ![256 * (1 : Fin 3).val, 0] from rfl), View.read_writes_cons_put _ _ _ _ _ (show ![0, 0] = ![256 * (0 : Fin 3).val, 0] from rfl), View.writes_nil]
  repeat rw [View.readAt_full]
  rw [pay13_eq, pay15_eq, pay17_eq]
  rfl
set_option maxHeartbeats 1000000 in
/-- At the last tile the output block's rows are stored: the products for the live sub-blocks, zeros for the others. -/
theorem stage6_1 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (hc : k0_cond7 i = 1#1) (x6 : Vec F S1x1x2048 .f32) (x7 : Vec F S768x2048 .bf16) (act : Vec F S4x768x512 .bf16) (wd : Vec F S2048x2048 .bf16) {R : Type} {κ : Prog (TpuEff nD τ sig (Elt F) Λ₀ .tc) R} {Q : R → sProp 𝕄} {E : Set ℕ} :
    iprop(owns (c : Thread nD τ) arg12 fullShare x6 ∗ owns (c : Thread nD τ) arg13 fullShare x7 ∗ owns (c : Thread nD τ) scM0_1 fullShare act ∗ owns (c : Thread nD τ) scM0_4 fullShare wd)
    ⊢ iprop((iprop(owns (c : Thread nD τ) arg12 fullShare x6 ∗ owns (c : Thread nD τ) arg13 fullShare (putRows (putRows (putRows x7 0 (downBlock (actOf act 0 0) (actOf act 1 0) (actOf act 2 0) (actOf act 3 0) wd x6)) 1 zeroBlock) 2 zeroBlock) ∗ owns (c : Thread nD τ) scM0_1 fullShare act ∗ owns (c : Thread nD τ) scM0_4 fullShare wd) -∗ wp frame (wpE (defs₀ (F := F)) Variants.none c none) E (κ) Q) -∗ wp frame (wpE (defs₀ (F := F)) Variants.none c none) E (stage6 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 1#32 κ) Q) := by
  unfold owns
  iintro ⟨⟨%f12, %hf12, H12⟩, ⟨%f13, %hf13, H13⟩, ⟨%f15, %hf15, H15⟩, ⟨%f18, %hf18, H18⟩⟩ Hκ
  subst hf12
  subst hf13
  subst hf15
  subst hf18
  unfold stage6
  sl_exec (disch := first | sl_exact hc)
  iapply Hκ
  isplitl [H12]
  · iexists _; isplitr; · ipureintro; rfl
    iexact H12
  isplitl [H13]
  · iexists _; isplitr
    swap; · iexact H13
    ipureintro
    sl_unfold_run_names
    rw [View.read_writes_cons_put _ _ _ _ _ (show ![512, 0] = ![256 * (2 : Fin 3).val, 0] from rfl), View.read_writes_cons_put _ _ _ _ _ (show ![256, 0] = ![256 * (1 : Fin 3).val, 0] from rfl), View.read_writes_cons_put _ _ _ _ _ (show ![0, 0] = ![256 * (0 : Fin 3).val, 0] from rfl), View.writes_nil]
    rw [act_read _ 0 0 ![0, 0, 0] rfl, act_read _ 1 0 ![1, 0, 0] rfl, act_read _ 2 0 ![2, 0, 0] rfl, act_read _ 3 0 ![3, 0, 0] rfl]
    repeat rw [View.readAt_full]
    rw [pay12_eq, pay15_eq, pay17_eq]
    rfl
  isplitl [H15]
  · iexists _; isplitr; · ipureintro; rfl
    iexact H15
  iexists _; isplitr; · ipureintro; rfl
  iexact H18
set_option maxHeartbeats 1000000 in
/-- At the last tile the output block's rows are stored: the products for the live sub-blocks, zeros for the others. -/
theorem stage6_2 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (hc : k0_cond7 i = 1#1) (x6 : Vec F S1x1x2048 .f32) (x7 : Vec F S768x2048 .bf16) (act : Vec F S4x768x512 .bf16) (wd : Vec F S2048x2048 .bf16) {R : Type} {κ : Prog (TpuEff nD τ sig (Elt F) Λ₀ .tc) R} {Q : R → sProp 𝕄} {E : Set ℕ} :
    iprop(owns (c : Thread nD τ) arg12 fullShare x6 ∗ owns (c : Thread nD τ) arg13 fullShare x7 ∗ owns (c : Thread nD τ) scM0_1 fullShare act ∗ owns (c : Thread nD τ) scM0_4 fullShare wd)
    ⊢ iprop((iprop(owns (c : Thread nD τ) arg12 fullShare x6 ∗ owns (c : Thread nD τ) arg13 fullShare (putRows (putRows (putRows x7 0 (downBlock (actOf act 0 0) (actOf act 1 0) (actOf act 2 0) (actOf act 3 0) wd x6)) 1 (downBlock (actOf act 0 1) (actOf act 1 1) (actOf act 2 1) (actOf act 3 1) wd x6)) 2 zeroBlock) ∗ owns (c : Thread nD τ) scM0_1 fullShare act ∗ owns (c : Thread nD τ) scM0_4 fullShare wd) -∗ wp frame (wpE (defs₀ (F := F)) Variants.none c none) E (κ) Q) -∗ wp frame (wpE (defs₀ (F := F)) Variants.none c none) E (stage6 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 2#32 κ) Q) := by
  unfold owns
  iintro ⟨⟨%f12, %hf12, H12⟩, ⟨%f13, %hf13, H13⟩, ⟨%f15, %hf15, H15⟩, ⟨%f18, %hf18, H18⟩⟩ Hκ
  subst hf12
  subst hf13
  subst hf15
  subst hf18
  unfold stage6
  sl_exec (disch := first | sl_exact hc)
  iapply Hκ
  isplitl [H12]
  · iexists _; isplitr; · ipureintro; rfl
    iexact H12
  isplitl [H13]
  · iexists _; isplitr
    swap; · iexact H13
    ipureintro
    sl_unfold_run_names
    rw [View.read_writes_cons_put _ _ _ _ _ (show ![512, 0] = ![256 * (2 : Fin 3).val, 0] from rfl), View.read_writes_cons_put _ _ _ _ _ (show ![256, 0] = ![256 * (1 : Fin 3).val, 0] from rfl), View.read_writes_cons_put _ _ _ _ _ (show ![0, 0] = ![256 * (0 : Fin 3).val, 0] from rfl), View.writes_nil]
    rw [act_read _ 0 0 ![0, 0, 0] rfl, act_read _ 1 0 ![1, 0, 0] rfl, act_read _ 2 0 ![2, 0, 0] rfl, act_read _ 3 0 ![3, 0, 0] rfl, act_read _ 0 1 ![0, 256, 0] rfl, act_read _ 1 1 ![1, 256, 0] rfl, act_read _ 2 1 ![2, 256, 0] rfl, act_read _ 3 1 ![3, 256, 0] rfl]
    repeat rw [View.readAt_full]
    rw [pay12_eq, pay14_eq, pay17_eq]
    rfl
  isplitl [H15]
  · iexists _; isplitr; · ipureintro; rfl
    iexact H15
  iexists _; isplitr; · ipureintro; rfl
  iexact H18
set_option maxHeartbeats 1000000 in
/-- At the last tile the output block's rows are stored: the products for the live sub-blocks, zeros for the others. -/
theorem stage6_3 (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (hc : k0_cond7 i = 1#1) (x6 : Vec F S1x1x2048 .f32) (x7 : Vec F S768x2048 .bf16) (act : Vec F S4x768x512 .bf16) (wd : Vec F S2048x2048 .bf16) {R : Type} {κ : Prog (TpuEff nD τ sig (Elt F) Λ₀ .tc) R} {Q : R → sProp 𝕄} {E : Set ℕ} :
    iprop(owns (c : Thread nD τ) arg12 fullShare x6 ∗ owns (c : Thread nD τ) arg13 fullShare x7 ∗ owns (c : Thread nD τ) scM0_1 fullShare act ∗ owns (c : Thread nD τ) scM0_4 fullShare wd)
    ⊢ iprop((iprop(owns (c : Thread nD τ) arg12 fullShare x6 ∗ owns (c : Thread nD τ) arg13 fullShare (putRows (putRows (putRows x7 0 (downBlock (actOf act 0 0) (actOf act 1 0) (actOf act 2 0) (actOf act 3 0) wd x6)) 1 (downBlock (actOf act 0 1) (actOf act 1 1) (actOf act 2 1) (actOf act 3 1) wd x6)) 2 (downBlock (actOf act 0 2) (actOf act 1 2) (actOf act 2 2) (actOf act 3 2) wd x6)) ∗ owns (c : Thread nD τ) scM0_1 fullShare act ∗ owns (c : Thread nD τ) scM0_4 fullShare wd) -∗ wp frame (wpE (defs₀ (F := F)) Variants.none c none) E (κ) Q) -∗ wp frame (wpE (defs₀ (F := F)) Variants.none c none) E (stage6 (F := F) i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _) 3#32 κ) Q) := by
  unfold owns
  iintro ⟨⟨%f12, %hf12, H12⟩, ⟨%f13, %hf13, H13⟩, ⟨%f15, %hf15, H15⟩, ⟨%f18, %hf18, H18⟩⟩ Hκ
  subst hf12
  subst hf13
  subst hf15
  subst hf18
  unfold stage6
  sl_exec (disch := first | sl_exact hc)
  iapply Hκ
  isplitl [H12]
  · iexists _; isplitr; · ipureintro; rfl
    iexact H12
  isplitl [H13]
  · iexists _; isplitr
    swap; · iexact H13
    ipureintro
    sl_unfold_run_names
    rw [View.read_writes_cons_put _ _ _ _ _ (show ![512, 0] = ![256 * (2 : Fin 3).val, 0] from rfl), View.read_writes_cons_put _ _ _ _ _ (show ![256, 0] = ![256 * (1 : Fin 3).val, 0] from rfl), View.read_writes_cons_put _ _ _ _ _ (show ![0, 0] = ![256 * (0 : Fin 3).val, 0] from rfl), View.writes_nil]
    rw [act_read _ 0 0 ![0, 0, 0] rfl, act_read _ 1 0 ![1, 0, 0] rfl, act_read _ 2 0 ![2, 0, 0] rfl, act_read _ 3 0 ![3, 0, 0] rfl, act_read _ 0 1 ![0, 256, 0] rfl, act_read _ 1 1 ![1, 256, 0] rfl, act_read _ 2 1 ![2, 256, 0] rfl, act_read _ 3 1 ![3, 256, 0] rfl, act_read _ 0 2 ![0, 512, 0] rfl, act_read _ 1 2 ![1, 512, 0] rfl, act_read _ 2 2 ![2, 512, 0] rfl, act_read _ 3 2 ![3, 512, 0] rfl]
    repeat rw [View.readAt_full]
    rw [pay37_eq, pay10_eq, pay11_eq]
    rfl
  isplitl [H15]
  · iexists _; isplitr; · ipureintro; rfl
    iexact H15
  iexists _; isplitr; · ipureintro; rfl
  iexact H18
end Cert.Kernel2Ideal.Ffn

end
-- ==== Proof.Ffn.Whole.lean ====
/- What the expert network's body as a whole leaves in the buffers, for each number of live sub-blocks. -/
module

public import proofs.«01_k».proof.Proof.Ffn.Body

@[expose] public section

set_option maxRecDepth 16384

noncomputable section

namespace Cert.Kernel2Ideal.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel2Ideal Cert.Kernel2Ideal.Gen

variable {F : FTy → Type} [FloatOps F]

local notation "𝕄" => MT nD τ sig Unit (Elt F) ℕ (UR sig nD τ) ℕ

/-- The staged rows after the body: at the first tile of a super block with live sub-blocks, the rows handed in. -/
def newRows (n : ℕ) (f : Fin 4) (x xb : Vec F S768x2048 .bf16) : Vec F S768x2048 .bf16 :=
  match n with
  | 0 => xb
  | _ => if f = 0 then x else xb
/-- The kept activations after the body: tile `f` of the live sub-blocks is replaced. -/
def newAct (n : ℕ) (f : Fin 4) (g : Fin 3 → Vec F S1x256x512 .bf16) (act : Vec F S4x768x512 .bf16) : Vec F S4x768x512 .bf16 :=
  match n with
  | 0 => act
  | 1 => putAct act f 0 (g 0)
  | 2 => putAct (putAct act f 0 (g 0)) f 1 (g 1)
  | _ => putAct (putAct (putAct act f 0 (g 0)) f 1 (g 1)) f 2 (g 2)
/-- The kept second weights after the body: tile `f` is replaced where they are not those of the super block before. -/
def newDown (n : ℕ) (s : BitVec 32) (f : Fin 4) (w : Vec F S512x2048 .bf16) (wd : Vec F S2048x2048 .bf16) : Vec F S2048x2048 .bf16 :=
  match n with
  | 0 => wd
  | _ => if s = 0#32 then putDown wd f w else wd
/-- The output rows of a sub-block. -/
def outRows (n : ℕ) (act : Vec F S4x768x512 .bf16) (wd : Vec F S2048x2048 .bf16) (b : Vec F S1x1x2048 .f32) (sb : Fin 3) : Vec F S256x2048 .bf16 :=
  if sb.val < n then downBlock (actOf act 0 sb) (actOf act 1 sb) (actOf act 2 sb) (actOf act 3 sb) wd b else zeroBlock
/-- A super block with all its rows replaced. -/
def putAll (x : Vec F S768x2048 .bf16) (r : Fin 3 → Vec F S256x2048 .bf16) : Vec F S768x2048 .bf16 :=
  putRows (putRows (putRows x 0 (r 0)) 1 (r 1)) 2 (r 2)

set_option maxHeartbeats 2000000 in
theorem run_0_last (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 0#32) (hc : k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare (putAll x7 (outRows 0 (newAct 0 (tileOf i) (fun sb => gateBlock (rowsOf (newRows 0 (tileOf i) x0 xb) sb) (k0_pay18 x1) (k0_pay19 x2) x4 x5) act) (newDown 0 (word xt3 i) (tileOf i) (k0_pay20 x3) wd) x6)) ∗ owns (c : Thread nD τ) scM0_0 fullShare (newRows 0 (tileOf i) x0 xb) ∗ owns (c : Thread nD τ) scM0_1 fullShare (newAct 0 (tileOf i) (fun sb => gateBlock (rowsOf (newRows 0 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 0 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_none c i arg6 harg6)
  rw [stage3.eq]
  iapply (stage3_none0 c i arg6 harg6 arg7 harg7 arg8 harg8 arg9 harg9 arg10 harg10 arg11 harg11 arg12 harg12 arg13 harg13)
  rw [stage4.eq]
  iapply (stage4_none0 c i arg6 harg6 arg7 harg7 arg8 harg8 arg9 harg9 arg10 harg10 arg11 harg11 arg12 harg12 arg13 harg13)
  rw [stage5.eq]
  iapply (stage5_none0 c i arg6 harg6 arg7 harg7 arg8 harg8 arg9 harg9 arg10 harg10 arg11 harg11 arg12 harg12 arg13 harg13)
  rw [stage6.eq]
  iapply (stage6_0 c i arg6 harg6 arg7 harg7 arg8 harg8 arg9 harg9 arg10 harg10 arg11 harg11 arg12 harg12 arg13 harg13 hc x7) $$ [H13]
  · iexact H13
  iintro H13
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

set_option maxHeartbeats 2000000 in
theorem run_0_early (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 0#32) (hc : ¬k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare (newRows 0 (tileOf i) x0 xb) ∗ owns (c : Thread nD τ) scM0_1 fullShare (newAct 0 (tileOf i) (fun sb => gateBlock (rowsOf (newRows 0 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 0 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_none c i arg6 harg6)
  rw [stage3.eq]
  iapply (stage3_none0 c i arg6 harg6 arg7 harg7 arg8 harg8 arg9 harg9 arg10 harg10 arg11 harg11 arg12 harg12 arg13 harg13)
  rw [stage4.eq]
  iapply (stage4_none0 c i arg6 harg6 arg7 harg7 arg8 harg8 arg9 harg9 arg10 harg10 arg11 harg11 arg12 harg12 arg13 harg13)
  rw [stage5.eq]
  iapply (stage5_none0 c i arg6 harg6 arg7 harg7 arg8 harg8 arg9 harg9 arg10 harg10 arg11 harg11 arg12 harg12 arg13 harg13)
  rw [stage6.eq]
  iapply (stage6_none c i arg6 harg6 arg7 harg7 arg8 harg8 arg9 harg9 arg10 harg10 arg11 harg11 arg12 harg12 arg13 harg13 _ hc)
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

set_option maxHeartbeats 2000000 in
theorem run_1_last (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 1#32) (hc : k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare (putAll x7 (outRows 1 (newAct 1 (tileOf i) (fun sb => gateBlock (rowsOf (newRows 1 (tileOf i) x0 xb) sb) (k0_pay18 x1) (k0_pay19 x2) x4 x5) act) (newDown 1 (word xt3 i) (tileOf i) (k0_pay20 x3) wd) x6)) ∗ owns (c : Thread nD τ) scM0_0 fullShare (newRows 1 (tileOf i) x0 xb) ∗ owns (c : Thread nD τ) scM0_1 fullShare (newAct 1 (tileOf i) (fun sb => gateBlock (rowsOf (newRows 1 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 1 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_1 c i arg6 harg6 x0 xb) $$ [H6 H14]
  · isplitl [H6]; · iexact H6
    iexact H14
  iintro ⟨H6, H14⟩
  rw [stage3.eq]
  iapply (stage3_none1 c i arg6 harg6 arg7 harg7 arg8 harg8 arg9 harg9 arg10 harg10 arg11 harg11 arg12 harg12 arg13 harg13)
  rw [stage4.eq]
  iapply (stage4_1 c i arg6 harg6 arg7 harg7 arg8 harg8 arg9 harg9 arg10 harg10 arg11 harg11 arg12 harg12 arg13 harg13 x1 x2 x3 x4 x5 _ act wd xt3) $$ [H7 H8 H9 H10 H11 H14 H15 H16 H17 H18 HT3]
  · isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexists _; iexact H16
    isplitl [H17]; · iexists _; iexact H17
    isplitl [H18]; · iexact H18
    iexact HT3
  iintro ⟨H7, H8, H9, H10, H11, H14, H15, H16, H17, H18, HT3⟩
  rw [stage5.eq]
  iapply (stage5_none1 c i arg6 harg6 arg7 harg7 arg8 harg8 arg9 harg9 arg10 harg10 arg11 harg11 arg12 harg12 arg13 harg13)
  rw [stage6.eq]
  iapply (stage6_1 c i arg6 harg6 arg7 harg7 arg8 harg8 arg9 harg9 arg10 harg10 arg11 harg11 arg12 harg12 arg13 harg13 hc x6 x7 _ _) $$ [H12 H13 H15 H18]
  · isplitl [H12]; · iexact H12
    isplitl [H13]; · iexact H13
    isplitl [H15]; · iexact H15
    iexact H18
  iintro ⟨H12, H13, H15, H18⟩
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

set_option maxHeartbeats 2000000 in
theorem run_1_early (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 1#32) (hc : ¬k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare (newRows 1 (tileOf i) x0 xb) ∗ owns (c : Thread nD τ) scM0_1 fullShare (newAct 1 (tileOf i) (fun sb => gateBlock (rowsOf (newRows 1 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 1 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_1 c i arg6 harg6 x0 xb) $$ [H6 H14]
  · isplitl [H6]; · iexact H6
    iexact H14
  iintro ⟨H6, H14⟩
  rw [stage3.eq]
  iapply (stage3_none1 c i arg6 harg6 arg7 harg7 arg8 harg8 arg9 harg9 arg10 harg10 arg11 harg11 arg12 harg12 arg13 harg13)
  rw [stage4.eq]
  iapply (stage4_1 c i arg6 harg6 arg7 harg7 arg8 harg8 arg9 harg9 arg10 harg10 arg11 harg11 arg12 harg12 arg13 harg13 x1 x2 x3 x4 x5 _ act wd xt3) $$ [H7 H8 H9 H10 H11 H14 H15 H16 H17 H18 HT3]
  · isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexists _; iexact H16
    isplitl [H17]; · iexists _; iexact H17
    isplitl [H18]; · iexact H18
    iexact HT3
  iintro ⟨H7, H8, H9, H10, H11, H14, H15, H16, H17, H18, HT3⟩
  rw [stage5.eq]
  iapply (stage5_none1 c i arg6 harg6 arg7 harg7 arg8 harg8 arg9 harg9 arg10 harg10 arg11 harg11 arg12 harg12 arg13 harg13)
  rw [stage6.eq]
  iapply (stage6_none c i arg6 harg6 arg7 harg7 arg8 harg8 arg9 harg9 arg10 harg10 arg11 harg11 arg12 harg12 arg13 harg13 _ hc)
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

set_option maxHeartbeats 2000000 in
theorem run_2_last (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 2#32) (hc : k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare (putAll x7 (outRows 2 (newAct 2 (tileOf i) (fun sb => gateBlock (rowsOf (newRows 2 (tileOf i) x0 xb) sb) (k0_pay18 x1) (k0_pay19 x2) x4 x5) act) (newDown 2 (word xt3 i) (tileOf i) (k0_pay20 x3) wd) x6)) ∗ owns (c : Thread nD τ) scM0_0 fullShare (newRows 2 (tileOf i) x0 xb) ∗ owns (c : Thread nD τ) scM0_1 fullShare (newAct 2 (tileOf i) (fun sb => gateBlock (rowsOf (newRows 2 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 2 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_2 c i arg6 harg6 x0 xb) $$ [H6 H14]
  · isplitl [H6]; · iexact H6
    iexact H14
  iintro ⟨H6, H14⟩
  rw [stage3.eq]
  iapply (stage3_none2 c i arg6 harg6 arg7 harg7 arg8 harg8 arg9 harg9 arg10 harg10 arg11 harg11 arg12 harg12 arg13 harg13)
  rw [stage4.eq]
  iapply (stage4_2 c i arg6 harg6 arg7 harg7 arg8 harg8 arg9 harg9 arg10 harg10 arg11 harg11 arg12 harg12 arg13 harg13 x1 x2 x3 x4 x5 _ act wd xt3) $$ [H7 H8 H9 H10 H11 H14 H15 H16 H17 H18 HT3]
  · isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexists _; iexact H16
    isplitl [H17]; · iexists _; iexact H17
    isplitl [H18]; · iexact H18
    iexact HT3
  iintro ⟨H7, H8, H9, H10, H11, H14, H15, H16, H17, H18, HT3⟩
  rw [stage5.eq]
  iapply (stage5_2 c i arg6 harg6 arg7 harg7 arg8 harg8 arg9 harg9 arg10 harg10 arg11 harg11 arg12 harg12 arg13 harg13 x4 x5 _ _ _ _) $$ [H10 H11 H14 H15 H16 H17]
  · isplitl [H10]; · iexact H10
    isplitl [H11]; · iexact H11
    isplitl [H14]; · iexact H14
    isplitl [H15]; · iexact H15
    isplitl [H16]; · iexact H16
    iexact H17
  iintro ⟨H10, H11, H14, H15, H16, H17⟩
  rw [stage6.eq]
  iapply (stage6_2 c i arg6 harg6 arg7 harg7 arg8 harg8 arg9 harg9 arg10 harg10 arg11 harg11 arg12 harg12 arg13 harg13 hc x6 x7 _ _) $$ [H12 H13 H15 H18]
  · isplitl [H12]; · iexact H12
    isplitl [H13]; · iexact H13
    isplitl [H15]; · iexact H15
    iexact H18
  iintro ⟨H12, H13, H15, H18⟩
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

set_option maxHeartbeats 2000000 in
theorem run_2_early (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 2#32) (hc : ¬k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare (newRows 2 (tileOf i) x0 xb) ∗ owns (c : Thread nD τ) scM0_1 fullShare (newAct 2 (tileOf i) (fun sb => gateBlock (rowsOf (newRows 2 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 2 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_2 c i arg6 harg6 x0 xb) $$ [H6 H14]
  · isplitl [H6]; · iexact H6
    iexact H14
  iintro ⟨H6, H14⟩
  rw [stage3.eq]
  iapply (stage3_none2 c i arg6 harg6 arg7 harg7 arg8 harg8 arg9 harg9 arg10 harg10 arg11 harg11 arg12 harg12 arg13 harg13)
  rw [stage4.eq]
  iapply (stage4_2 c i arg6 harg6 arg7 harg7 arg8 harg8 arg9 harg9 arg10 harg10 arg11 harg11 arg12 harg12 arg13 harg13 x1 x2 x3 x4 x5 _ act wd xt3) $$ [H7 H8 H9 H10 H11 H14 H15 H16 H17 H18 HT3]
  · isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexists _; iexact H16
    isplitl [H17]; · iexists _; iexact H17
    isplitl [H18]; · iexact H18
    iexact HT3
  iintro ⟨H7, H8, H9, H10, H11, H14, H15, H16, H17, H18, HT3⟩
  rw [stage5.eq]
  iapply (stage5_2 c i arg6 harg6 arg7 harg7 arg8 harg8 arg9 harg9 arg10 harg10 arg11 harg11 arg12 harg12 arg13 harg13 x4 x5 _ _ _ _) $$ [H10 H11 H14 H15 H16 H17]
  · isplitl [H10]; · iexact H10
    isplitl [H11]; · iexact H11
    isplitl [H14]; · iexact H14
    isplitl [H15]; · iexact H15
    isplitl [H16]; · iexact H16
    iexact H17
  iintro ⟨H10, H11, H14, H15, H16, H17⟩
  rw [stage6.eq]
  iapply (stage6_none c i arg6 harg6 arg7 harg7 arg8 harg8 arg9 harg9 arg10 harg10 arg11 harg11 arg12 harg12 arg13 harg13 _ hc)
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

set_option maxHeartbeats 2000000 in
theorem run_3_last (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 3#32) (hc : k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare (putAll x7 (outRows 3 (newAct 3 (tileOf i) (fun sb => gateBlock (rowsOf (newRows 3 (tileOf i) x0 xb) sb) (k0_pay18 x1) (k0_pay19 x2) x4 x5) act) (newDown 3 (word xt3 i) (tileOf i) (k0_pay20 x3) wd) x6)) ∗ owns (c : Thread nD τ) scM0_0 fullShare (newRows 3 (tileOf i) x0 xb) ∗ owns (c : Thread nD τ) scM0_1 fullShare (newAct 3 (tileOf i) (fun sb => gateBlock (rowsOf (newRows 3 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 3 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_3 c i arg6 harg6 x0 xb) $$ [H6 H14]
  · isplitl [H6]; · iexact H6
    iexact H14
  iintro ⟨H6, H14⟩
  rw [stage3.eq]
  iapply (stage3_full c i arg6 harg6 arg7 harg7 arg8 harg8 arg9 harg9 arg10 harg10 arg11 harg11 arg12 harg12 arg13 harg13 x1 x2 x3 x4 x5 _ act wd xt3) $$ [H7 H8 H9 H10 H11 H14 H15 H16 H17 H18 HT3]
  · isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexists _; iexact H16
    isplitl [H17]; · iexists _; iexact H17
    isplitl [H18]; · iexact H18
    iexact HT3
  iintro ⟨H7, H8, H9, H10, H11, H14, H15, ⟨%e16, H16⟩, ⟨%e17, H17⟩, H18, HT3⟩
  rw [stage4.eq]
  iapply (stage4_none3 c i arg6 harg6 arg7 harg7 arg8 harg8 arg9 harg9 arg10 harg10 arg11 harg11 arg12 harg12 arg13 harg13)
  rw [stage5.eq]
  iapply (stage5_none3 c i arg6 harg6 arg7 harg7 arg8 harg8 arg9 harg9 arg10 harg10 arg11 harg11 arg12 harg12 arg13 harg13)
  rw [stage6.eq]
  iapply (stage6_3 c i arg6 harg6 arg7 harg7 arg8 harg8 arg9 harg9 arg10 harg10 arg11 harg11 arg12 harg12 arg13 harg13 hc x6 x7 _ _) $$ [H12 H13 H15 H18]
  · isplitl [H12]; · iexact H12
    isplitl [H13]; · iexact H13
    isplitl [H15]; · iexact H15
    iexact H18
  iintro ⟨H12, H13, H15, H18⟩
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

set_option maxHeartbeats 2000000 in
theorem run_3_early (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (hn : word xt1 i = 3#32) (hc : ¬k0_cond7 i = 1#1) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare (newRows 3 (tileOf i) x0 xb) ∗ owns (c : Thread nD τ) scM0_1 fullShare (newAct 3 (tileOf i) (fun sb => gateBlock (rowsOf (newRows 3 (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown 3 (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  simp only [cc0_ffn_eq_skeleton]
  iintro ⟨H6, H7, H8, H9, H10, H11, H12, H13, H14, H15, ⟨%d16, H16⟩, ⟨%d17, H17⟩, H18, HT1, HT3, HQ⟩
  rw [stage1.eq]
  iapply (stage1_spec c i xt1) $$ HT1
  iintro HT1
  rw [hn]
  rw [stage2.eq]
  iapply (stage2_3 c i arg6 harg6 x0 xb) $$ [H6 H14]
  · isplitl [H6]; · iexact H6
    iexact H14
  iintro ⟨H6, H14⟩
  rw [stage3.eq]
  iapply (stage3_full c i arg6 harg6 arg7 harg7 arg8 harg8 arg9 harg9 arg10 harg10 arg11 harg11 arg12 harg12 arg13 harg13 x1 x2 x3 x4 x5 _ act wd xt3) $$ [H7 H8 H9 H10 H11 H14 H15 H16 H17 H18 HT3]
  · isplitl [H7]; · iexact H7
    isplitl [H8]; · iexact H8
    isplitl [H9]; · iexact H9
    isplitl [H10]; · iexact H10
    isplitl [H11]; · iexact H11
    isplitl [H14]; · iexact H14
    isplitl [H15]; · iexact H15
    isplitl [H16]; · iexists _; iexact H16
    isplitl [H17]; · iexists _; iexact H17
    isplitl [H18]; · iexact H18
    iexact HT3
  iintro ⟨H7, H8, H9, H10, H11, H14, H15, ⟨%e16, H16⟩, ⟨%e17, H17⟩, H18, HT3⟩
  rw [stage4.eq]
  iapply (stage4_none3 c i arg6 harg6 arg7 harg7 arg8 harg8 arg9 harg9 arg10 harg10 arg11 harg11 arg12 harg12 arg13 harg13)
  rw [stage5.eq]
  iapply (stage5_none3 c i arg6 harg6 arg7 harg7 arg8 harg8 arg9 harg9 arg10 harg10 arg11 harg11 arg12 harg12 arg13 harg13)
  rw [stage6.eq]
  iapply (stage6_none c i arg6 harg6 arg7 harg7 arg8 harg8 arg9 harg9 arg10 harg10 arg11 harg11 arg12 harg12 arg13 harg13 _ hc)
  unfold stage6.tail
  sl_step
  iapply HQ
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexact H18
  isplitl [HT1]; · iexact HT1
  iexact HT3

/-- What the body leaves, for any number of live sub-blocks. -/
theorem run_body (c : Dev nD) (i : grid0.Coords) (arg6 : Memref sig .tc .vmem S768x2048 .bf16) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1x512x2048 .f32) (harg9 : arg9.IsWhole) (arg10 : Memref sig .tc .vmem S1x1x512 .f32) (harg10 : arg10.IsWhole) (arg11 : Memref sig .tc .vmem S1x1x512 .f32) (harg11 : arg11.IsWhole) (arg12 : Memref sig .tc .vmem S1x1x2048 .f32) (harg12 : arg12.IsWhole) (arg13 : Memref sig .tc .vmem S768x2048 .bf16) (harg13 : arg13.IsWhole) (x0 : Vec F S768x2048 .bf16) (x1 : Vec F S1x2048x512 .f32) (x2 : Vec F S1x2048x512 .f32) (x3 : Vec F S1x512x2048 .f32) (x4 : Vec F S1x1x512 .f32) (x5 : Vec F S1x1x512 .f32) (x6 : Vec F S1x1x2048 .f32) (x7 : Vec F S768x2048 .bf16) (xb : Vec F S768x2048 .bf16) (act : Vec F S4x768x512 .bf16) (wd : Vec F S2048x2048 .bf16) (xt1 : TbBuf0 (F := F) c tbM0_1) (xt3 : TbBuf0 (F := F) c tbM0_3) (n : ℕ) (hl : n < 4) (hn : word xt1 i = BitVec.ofNat 32 n) (E : Set ℕ) (K : PUnit → sProp 𝕄) :
    iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare x7 ∗ owns (c : Thread nD τ) scM0_0 fullShare xb ∗ owns (c : Thread nD τ) scM0_1 fullShare act ∗ (∃ d, owns (c : Thread nD τ) scM0_2 fullShare d) ∗ (∃ d, owns (c : Thread nD τ) scM0_3 fullShare d) ∗ owns (c : Thread nD τ) scM0_4 fullShare wd ∗ tbPt0 c tbM0_1 xt1 ∗ tbPt0 c tbM0_3 xt3
        ∗ (iprop(owns (c : Thread nD τ) arg6 fullShare x0 ∗ owns (c : Thread nD τ) arg7 fullShare x1 ∗ owns (c : Thread nD τ) arg8 fullShare x2 ∗ owns (c : Thread nD τ) arg9 fullShare x3 ∗ owns (c : Thread nD τ) arg10 fullShare x4 ∗ owns (c : Thread nD τ) arg11 fullShare x5 ∗ owns (c : Thread nD τ) arg12 fullShare x6 ∗ owns (c : Thread nD τ) arg13 fullShare (if k0_cond7 i = 1#1 then putAll x7 (outRows n (newAct n (tileOf i) (fun sb => gateBlock (rowsOf (newRows n (tileOf i) x0 xb) sb) (k0_pay18 x1) (k0_pay19 x2) x4 x5) act) (newDown n (word xt3 i) (tileOf i) (k0_pay20 x3) wd) x6) else x7) ∗ owns (c : Thread nD τ) scM0_0 fullShare (newRows n (tileOf i) x0 xb) ∗ owns (c : Thread nD τ) scM0_1 fullShare (newAct n (tileOf i) (fun sb => gateBlock (rowsOf (newRows n (tileOf i) x0 xb) sb) (k0_pay18 x1) (k0_pay19 x2) x4 x5) act) ∗ (∃ d, owns (c : Thread nD τ) scM0_2 fullShare d) ∗ (∃ d, owns (c : Thread nD τ) scM0_3 fullShare d) ∗ owns (c : Thread nD τ) scM0_4 fullShare (newDown n (word xt3 i) (tileOf i) (k0_pay20 x3) wd) ∗ tbPt0 c tbM0_1 xt1 ∗ tbPt0 c tbM0_3 xt3) -∗ K ⟨⟩))
      ⊢ wp frame (wpE (defs₀ (F := F)) Variants.none c none) E (cc0_ffn i tbM0_0 htbM0_0 tbM0_1 htbM0_1 tbM0_2 htbM0_2 tbM0_3 htbM0_3 arg6 harg6 arg7 harg7 arg8 harg8 arg9 harg9 arg10 harg10 arg11 harg11 arg12 harg12 arg13 harg13 scM0_0 (Memref.isWhole_whole _) scM0_1 (Memref.isWhole_whole _) scM0_2 (Memref.isWhole_whole _) scM0_3 (Memref.isWhole_whole _) scM0_4 (Memref.isWhole_whole _)) K := by
  by_cases hc : k0_cond7 i = 1#1
  · rw [if_pos hc]
    match n, hl, hn with
    | 0, _, hn => exact run_0_last c i arg6 harg6 arg7 harg7 arg8 harg8 arg9 harg9 arg10 harg10 arg11 harg11 arg12 harg12 arg13 harg13 x0 x1 x2 x3 x4 x5 x6 x7 xb act wd xt1 xt3 hn hc E K
    | 1, _, hn => exact run_1_last c i arg6 harg6 arg7 harg7 arg8 harg8 arg9 harg9 arg10 harg10 arg11 harg11 arg12 harg12 arg13 harg13 x0 x1 x2 x3 x4 x5 x6 x7 xb act wd xt1 xt3 hn hc E K
    | 2, _, hn => exact run_2_last c i arg6 harg6 arg7 harg7 arg8 harg8 arg9 harg9 arg10 harg10 arg11 harg11 arg12 harg12 arg13 harg13 x0 x1 x2 x3 x4 x5 x6 x7 xb act wd xt1 xt3 hn hc E K
    | 3, _, hn => exact run_3_last c i arg6 harg6 arg7 harg7 arg8 harg8 arg9 harg9 arg10 harg10 arg11 harg11 arg12 harg12 arg13 harg13 x0 x1 x2 x3 x4 x5 x6 x7 xb act wd xt1 xt3 hn hc E K
  · rw [if_neg hc]
    match n, hl, hn with
    | 0, _, hn => exact run_0_early c i arg6 harg6 arg7 harg7 arg8 harg8 arg9 harg9 arg10 harg10 arg11 harg11 arg12 harg12 arg13 harg13 x0 x1 x2 x3 x4 x5 x6 x7 xb act wd xt1 xt3 hn hc E K
    | 1, _, hn => exact run_1_early c i arg6 harg6 arg7 harg7 arg8 harg8 arg9 harg9 arg10 harg10 arg11 harg11 arg12 harg12 arg13 harg13 x0 x1 x2 x3 x4 x5 x6 x7 xb act wd xt1 xt3 hn hc E K
    | 2, _, hn => exact run_2_early c i arg6 harg6 arg7 harg7 arg8 harg8 arg9 harg9 arg10 harg10 arg11 harg11 arg12 harg12 arg13 harg13 x0 x1 x2 x3 x4 x5 x6 x7 xb act wd xt1 xt3 hn hc E K
    | 3, _, hn => exact run_3_early c i arg6 harg6 arg7 harg7 arg8 harg8 arg9 harg9 arg10 harg10 arg11 harg11 arg12 harg12 arg13 harg13 x0 x1 x2 x3 x4 x5 x6 x7 xb act wd xt1 xt3 hn hc E K

end Cert.Kernel2Ideal.Ffn

end
-- ==== Proof.Ffn.Steps.lean ====
/- What is known of the kept rows, activations and second weights while the tiles of a super block go by. The blocks
   the body is handed are functions of the super block and the tile here. -/
module

public import proofs.«01_k».proof.Proof.Ffn.Whole

@[expose] public section

set_option maxRecDepth 16384

noncomputable section

namespace Cert.Kernel2Ideal.Ffn

open Idealize.ShloMosaic Idealize.ShloMosaic.TcCoe Idealize.ShloMosaic.ValueIdx
open Cert.Kernel2Ideal Cert.Kernel2Ideal.Gen

variable {F : FTy → Type} [FloatOps F]

/-! ## Reading what was put -/

theorem actOf_putAct_same (a : Vec F S4x768x512 .bf16) (k : Fin 4) (sb : Fin 3) (w : Vec F S1x256x512 .bf16) : actOf (putAct a k sb w) k sb = w :=
  VecWindow.window_put_same (s := S4x768x512) a ![k.val, 256 * sb.val, 0] S1x256x512.size (act_inb k sb) w

theorem actOf_putAct_tile (a : Vec F S4x768x512 .bf16) (k k' : Fin 4) (sb sb' : Fin 3) (w : Vec F S1x256x512 .bf16) (h : k' ≠ k) :
    actOf (putAct a k sb w) k' sb' = actOf a k' sb' :=
  VecWindow.window_put_of_disjoint (s := S4x768x512) a ![k.val, 256 * sb.val, 0] S1x256x512.size ![k'.val, 256 * sb'.val, 0] S1x256x512.size (act_inb k' sb') w (0 : Fin 3) (by
    have : k'.val ≠ k.val := fun e => h (Fin.ext e)
    show k'.val + 1 ≤ k.val ∨ k.val + 1 ≤ k'.val
    omega)

theorem actOf_putAct_rows (a : Vec F S4x768x512 .bf16) (k k' : Fin 4) (sb sb' : Fin 3) (w : Vec F S1x256x512 .bf16) (h : sb' ≠ sb) :
    actOf (putAct a k sb w) k' sb' = actOf a k' sb' :=
  VecWindow.window_put_of_disjoint (s := S4x768x512) a ![k.val, 256 * sb.val, 0] S1x256x512.size ![k'.val, 256 * sb'.val, 0] S1x256x512.size (act_inb k' sb') w (1 : Fin 3) (by
    have : sb'.val ≠ sb.val := fun e => h (Fin.ext e)
    show 256 * sb'.val + 256 ≤ 256 * sb.val ∨ 256 * sb.val + 256 ≤ 256 * sb'.val
    omega)

/-- The kept second weights of tile `k`. -/
def downOf (x : Vec F S2048x2048 .bf16) (k : Fin 4) : Vec F S512x2048 .bf16 :=
  VecWindow.window (s := S2048x2048) x ![512 * k.val, 0] S512x2048.size (down_inb k)

theorem downOf_putDown_same (x : Vec F S2048x2048 .bf16) (k : Fin 4) (w : Vec F S512x2048 .bf16) : downOf (putDown x k w) k = w :=
  VecWindow.window_put_same (s := S2048x2048) x ![512 * k.val, 0] S512x2048.size (down_inb k) w

theorem downOf_putDown_ne (x : Vec F S2048x2048 .bf16) (k k' : Fin 4) (w : Vec F S512x2048 .bf16) (h : k' ≠ k) : downOf (putDown x k w) k' = downOf x k' :=
  VecWindow.window_put_of_disjoint (s := S2048x2048) x ![512 * k.val, 0] S512x2048.size ![512 * k'.val, 0] S512x2048.size (down_inb k') w (0 : Fin 2) (by
    have : k'.val ≠ k.val := fun e => h (Fin.ext e)
    show 512 * k'.val + 512 ≤ 512 * k.val ∨ 512 * k.val + 512 ≤ 512 * k'.val
    omega)

/-- Of the live sub-blocks tile `f` of the activations is the new one. -/
theorem actOf_newAct_same (n : ℕ) (hn : n < 4) (f : Fin 4) (g : Fin 3 → Vec F S1x256x512 .bf16) (a : Vec F S4x768x512 .bf16) (sb : Fin 3) (h : sb.val < n) :
    actOf (newAct n f g a) f sb = g sb := by
  match n, hn, sb, h with
  | 1, _, 0, _ => exact actOf_putAct_same _ _ _ _
  | 2, _, 0, _ => exact (actOf_putAct_rows _ _ _ _ _ _ (by decide)).trans (actOf_putAct_same _ _ _ _)
  | 2, _, 1, _ => exact actOf_putAct_same _ _ _ _
  | 3, _, 0, _ => exact (actOf_putAct_rows _ _ _ _ _ _ (by decide)).trans ((actOf_putAct_rows _ _ _ _ _ _ (by decide)).trans (actOf_putAct_same _ _ _ _))
  | 3, _, 1, _ => exact (actOf_putAct_rows _ _ _ _ _ _ (by decide)).trans (actOf_putAct_same _ _ _ _)
  | 3, _, 2, _ => exact actOf_putAct_same _ _ _ _

/-- The other tiles of the activations stay. -/
theorem actOf_newAct_ne (n : ℕ) (f k : Fin 4) (g : Fin 3 → Vec F S1x256x512 .bf16) (a : Vec F S4x768x512 .bf16) (sb : Fin 3) (h : k ≠ f) :
    actOf (newAct n f g a) k sb = actOf a k sb := by
  match n with
  | 0 => rfl
  | 1 => exact actOf_putAct_tile _ _ _ _ _ _ h
  | 2 => exact (actOf_putAct_tile _ _ _ _ _ _ h).trans (actOf_putAct_tile _ _ _ _ _ _ h)
  | _ + 3 => exact (actOf_putAct_tile _ _ _ _ _ _ h).trans ((actOf_putAct_tile _ _ _ _ _ _ h).trans (actOf_putAct_tile _ _ _ _ _ _ h))

/-- The super block with the given rows of its three sub-blocks. -/
def assemble (r : Fin 3 → Vec F S256x2048 .bf16) : Vec F S768x2048 .bf16 := fun y =>
  r ⟨(y 0).val / 256, by have : (y 0).val < 768 := (y 0).isLt; omega⟩ (ValueIdx.ix2 (⟨(y 0).val % 256, by omega⟩ : Fin 256) (y 1 : Fin 2048))

/-- A super block all of whose rows are replaced is made of the new rows alone. -/
theorem putAll_eq (x : Vec F S768x2048 .bf16) (r : Fin 3 → Vec F S256x2048 .bf16) : putAll x r = assemble r := by
  funext y
  have h0 : (y 0).val < 768 := (y 0).isLt
  have h1 : (y 1).val < 2048 := (y 1).isLt
  have key : ∀ (sb : Fin 3) (z : S256x2048.Idx), (y 0).val = 256 * sb.val + (z 0).val → (y 1).val = (z 1).val → r sb z = assemble r y := fun sb z e0 e1 => by
    have hz : (z 0).val < 256 := (z 0).isLt
    unfold assemble
    have es : (⟨(y 0).val / 256, by omega⟩ : Fin 3) = sb := Fin.ext (by show (y 0).val / 256 = sb.val; omega)
    rw [es]
    refine congrArg (r sb) (funext fun d => ?_)
    match d with
    | ⟨0, _⟩ => exact Fin.ext (by show (z 0).val = (y 0).val % 256; omega)
    | ⟨1, _⟩ => exact Fin.ext e1.symm
  unfold putAll putRows VecWindow.put
  split
  · rename_i h
    have ha : 256 * (2 : Fin 3).val ≤ (y 0).val := (h 0).1
    exact key 2 _ (by show (y 0).val = 256 * (2 : Fin 3).val + ((y 0).val - 256 * (2 : Fin 3).val); omega) (by show (y 1).val = (y 1).val - 0; omega)
  split
  · rename_i h
    have ha : 256 * (1 : Fin 3).val ≤ (y 0).val := (h 0).1
    exact key 1 _ (by show (y 0).val = 256 * (1 : Fin 3).val + ((y 0).val - 256 * (1 : Fin 3).val); omega) (by show (y 1).val = (y 1).val - 0; omega)
  split
  · rename_i h
    have ha : 256 * (0 : Fin 3).val ≤ (y 0).val := (h 0).1
    exact key 0 _ (by show (y 0).val = 256 * (0 : Fin 3).val + ((y 0).val - 256 * (0 : Fin 3).val); omega) (by show (y 1).val = (y 1).val - 0; omega)
  exfalso
  rename_i n2 n1 n0
  have c2 : ¬(512 ≤ (y 0).val) := fun hc => n2 fun a => match a with
    | ⟨0, _⟩ => ⟨hc, by show (y 0).val < 512 + 256; omega⟩
    | ⟨1, _⟩ => ⟨Nat.zero_le _, by show (y 1).val < 0 + 2048; omega⟩
  have c1 : ¬(256 ≤ (y 0).val) := fun hc => n1 fun a => match a with
    | ⟨0, _⟩ => ⟨hc, by show (y 0).val < 256 + 256; omega⟩
    | ⟨1, _⟩ => ⟨Nat.zero_le _, by show (y 1).val < 0 + 2048; omega⟩
  exact n0 fun a => match a with
    | ⟨0, _⟩ => ⟨Nat.zero_le _, by show (y 0).val < 0 + 256; omega⟩
    | ⟨1, _⟩ => ⟨Nat.zero_le _, by show (y 1).val < 0 + 2048; omega⟩

/-- The second weights with the given rows of the four tiles. -/
def joinDown (w : Fin 4 → Vec F S512x2048 .bf16) : Vec F S2048x2048 .bf16 := fun y =>
  w ⟨(y 0).val / 512, by have : (y 0).val < 2048 := (y 0).isLt; omega⟩ (ValueIdx.ix2 (⟨(y 0).val % 512, by omega⟩ : Fin 512) (y 1 : Fin 2048))

theorem eq_joinDown (x : Vec F S2048x2048 .bf16) (w : Fin 4 → Vec F S512x2048 .bf16) (h : ∀ k, downOf x k = w k) : x = joinDown w := by
  funext y
  have h0 : (y 0).val < 2048 := (y 0).isLt
  unfold joinDown
  rw [← h]
  refine congrArg x (funext fun d => Fin.ext ?_)
  match d with
  | ⟨0, _⟩ => show (y 0).val = 512 * ((y 0).val / 512) + 1 * ((y 0).val % 512); omega
  | ⟨1, _⟩ => show (y 1).val = 0 + 1 * (y 1).val; omega

/-! ## The tiles of a super block -/

/-- The blocks the body is handed, by super block and tile, and the tables' entries by super block. -/
structure Blocks (F : FTy → Type) where
  live : ℕ → ℕ
  same : ℕ → BitVec 32
  rows : ℕ → Vec F S768x2048 .bf16
  gate : ℕ → Fin 4 → Vec F S1x2048x512 .f32
  up : ℕ → Fin 4 → Vec F S1x2048x512 .f32
  down : ℕ → Fin 4 → Vec F S1x512x2048 .f32
  gateBias : ℕ → Fin 4 → Vec F S1x1x512 .f32
  upBias : ℕ → Fin 4 → Vec F S1x1x512 .f32
  downBias : ℕ → Vec F S1x1x2048 .f32

variable (B : Blocks F)

/-- The activations of tile `k` of a sub-block. -/
def actAt (i : ℕ) (k : Fin 4) (sb : Fin 3) : Vec F S1x256x512 .bf16 :=
  gateBlock (rowsOf (B.rows i) sb) (k0_pay18 (B.gate i k)) (k0_pay19 (B.up i k)) (B.gateBias i k) (B.upBias i k)

/-- The second weights of tile `k`: those of the super block before where it has the same expert. -/
def downAt : ℕ → Fin 4 → Vec F S512x2048 .bf16
  | 0, k => k0_pay20 (B.down 0 k)
  | i + 1, k => if B.same (i + 1) = 0#32 then k0_pay20 (B.down (i + 1) k) else downAt i k

/-- What the call leaves in the rows of sub-block `sb` of super block `i`. -/
def rowsAt (i : ℕ) (sb : Fin 3) : Vec F S256x2048 .bf16 :=
  if sb.val < B.live i then downBlock (actAt B i 0 sb) (actAt B i 1 sb) (actAt B i 2 sb) (actAt B i 3 sb) (joinDown (downAt B i)) (B.downBias i) else zeroBlock
/-- What the call leaves in super block `i`. -/
def outAt (i : ℕ) : Vec F S768x2048 .bf16 := assemble (rowsAt B i)

/-- What the kept buffers hold after tile `f` of super block `i`, if that has live sub-blocks. -/
def Known (i : ℕ) (f : Fin 4) (xb : Vec F S768x2048 .bf16) (act : Vec F S4x768x512 .bf16) (wd : Vec F S2048x2048 .bf16) : Prop :=
  B.live i ≠ 0 → xb = B.rows i ∧ (∀ k : Fin 4, k ≤ f → ∀ sb : Fin 3, sb.val < B.live i → actOf act k sb = actAt B i k sb)
    ∧ ∀ k : Fin 4, (k ≤ f ∨ B.same i ≠ 0#32) → downOf wd k = downAt B i k

/-- The tables' entries go together: at most three sub-blocks are live, and a super block whose weights are the ones
    before has a live super block before it. -/
structure Chained : Prop where
  few : ∀ i, B.live i < 4
  before : ∀ i, B.same i ≠ 0#32 → B.live i ≠ 0 → ∃ j, i = j + 1 ∧ B.live j ≠ 0

variable {B}

theorem downAt_of_zero (hC : Chained B) (i : ℕ) (hl : B.live i ≠ 0) (hs : B.same i = 0#32) (k : Fin 4) : downAt B i k = k0_pay20 (B.down i k) := by
  cases i with
  | zero => rfl
  | succ i => show (if _ then _ else _) = _; rw [if_pos hs]

theorem downAt_of_ne (i : ℕ) (hs : B.same (i + 1) ≠ 0#32) (k : Fin 4) : downAt B (i + 1) k = downAt B i k := by
  show (if _ then _ else _) = _; rw [if_neg hs]

/-- The second weights after tile `f`. -/
theorem known_down (hC : Chained B) (i : ℕ) (f : Fin 4) (hl : B.live i ≠ 0) (wd : Vec F S2048x2048 .bf16)
    (h : ∀ k : Fin 4, (k < f ∨ B.same i ≠ 0#32) → downOf wd k = downAt B i k) :
    ∀ k : Fin 4, (k ≤ f ∨ B.same i ≠ 0#32) → downOf (newDown (B.live i) (B.same i) f (k0_pay20 (B.down i f)) wd) k = downAt B i k := by
  intro k hk
  have e : newDown (B.live i) (B.same i) f (k0_pay20 (B.down i f)) wd = if B.same i = 0#32 then putDown wd f (k0_pay20 (B.down i f)) else wd := by
    unfold newDown
    split
    · rename_i h0; exact absurd h0 hl
    · rfl
  rw [e]
  by_cases hs : B.same i = 0#32
  · rw [if_pos hs]
    by_cases hkf : k = f
    · subst hkf; rw [downOf_putDown_same, downAt_of_zero hC i hl hs]
    · rw [downOf_putDown_ne _ _ _ _ hkf]
      exact h k (hk.imp (fun h => lt_of_le_of_ne h hkf) id)
  · rw [if_neg hs]; exact h k (.inr hs)

theorem newRows_first (n : ℕ) (h : n ≠ 0) (x xb : Vec F S768x2048 .bf16) : newRows n 0 x xb = x := by
  unfold newRows; split
  · exact absurd rfl h
  · rfl
theorem newRows_later (n : ℕ) (f : Fin 4) (h : f ≠ 0) (x xb : Vec F S768x2048 .bf16) : newRows n f x xb = xb := by
  unfold newRows; split
  · rfl
  · rw [if_neg h]

/-- The first tile of a super block. -/
theorem known_first (hC : Chained B) (i : ℕ) (xb : Vec F S768x2048 .bf16) (act : Vec F S4x768x512 .bf16) (wd : Vec F S2048x2048 .bf16)
    (h : ∀ j, i = j + 1 → Known B j 3 xb act wd) :
    Known B i 0 (newRows (B.live i) 0 (B.rows i) xb)
      (newAct (B.live i) 0 (fun sb => gateBlock (rowsOf (newRows (B.live i) 0 (B.rows i) xb) sb) (k0_pay18 (B.gate i 0)) (k0_pay19 (B.up i 0)) (B.gateBias i 0) (B.upBias i 0)) act)
      (newDown (B.live i) (B.same i) 0 (k0_pay20 (B.down i 0)) wd) := by
  intro hl
  rw [newRows_first _ hl]
  refine ⟨rfl, fun k hk sb hsb => ?_, known_down hC i 0 hl wd fun k hk => ?_⟩
  · obtain rfl : k = 0 := le_antisymm hk (Fin.zero_le _)
    rw [actOf_newAct_same _ (hC.few i) _ _ _ _ hsb]; rfl
  · have hs : B.same i ≠ 0#32 := hk.resolve_left (Fin.not_lt_zero k)
    obtain ⟨j, rfl, hj⟩ := hC.before i hs hl
    rw [downAt_of_ne j hs]
    exact (h j rfl hj).2.2 k (.inl (Fin.le_last k))

/-- A later tile of a super block. -/
theorem known_next (hC : Chained B) (i : ℕ) (f f' : Fin 4) (hf : f'.val = f.val + 1) (x xb : Vec F S768x2048 .bf16) (act : Vec F S4x768x512 .bf16) (wd : Vec F S2048x2048 .bf16)
    (h : Known B i f xb act wd) :
    Known B i f' (newRows (B.live i) f' x xb)
      (newAct (B.live i) f' (fun sb => gateBlock (rowsOf (newRows (B.live i) f' x xb) sb) (k0_pay18 (B.gate i f')) (k0_pay19 (B.up i f')) (B.gateBias i f') (B.upBias i f')) act)
      (newDown (B.live i) (B.same i) f' (k0_pay20 (B.down i f')) wd) := by
  intro hl
  obtain ⟨hx, ha, hd⟩ := h hl
  have hf0 : f' ≠ 0 := fun e => by rw [e] at hf; exact absurd hf (by show (0 : ℕ) ≠ _; omega)
  rw [newRows_later _ _ hf0]
  refine ⟨hx, fun k hk sb hsb => ?_, known_down hC i f' hl wd fun k hk => hd k (hk.imp (fun h => ?_) id)⟩
  · by_cases hkf : k = f'
    · subst hkf
      rw [actOf_newAct_same _ (hC.few i) _ _ _ _ hsb, hx]; rfl
    · rw [actOf_newAct_ne _ _ _ _ _ _ hkf]
      refine ha k ?_ sb hsb
      have hk' : k.val ≤ f'.val := hk
      have : k.val ≠ f'.val := fun e => hkf (Fin.ext e)
      show k.val ≤ f.val
      omega
  · have h' : k.val < f'.val := h
    show k.val ≤ f.val
    omega

/-- What the last tile of a super block stores. -/
theorem known_out (hC : Chained B) (i : ℕ) (x7 xb : Vec F S768x2048 .bf16) (act : Vec F S4x768x512 .bf16) (wd : Vec F S2048x2048 .bf16)
    (h : Known B i 3 xb act wd) : putAll x7 (outRows (B.live i) act wd (B.downBias i)) = outAt B i := by
  rw [putAll_eq]
  unfold outAt
  refine congrArg assemble (funext fun sb => ?_)
  unfold outRows rowsAt
  by_cases hs : sb.val < B.live i
  · obtain ⟨-, ha, hd⟩ := h (by omega)
    rw [if_pos hs, if_pos hs, ha 0 (by decide) sb hs, ha 1 (by decide) sb hs, ha 2 (by decide) sb hs, ha 3 (by decide) sb hs,
      eq_joinDown wd (downAt B i) fun k => hd k (.inl (Fin.le_last k))]
  · rw [if_neg hs, if_neg hs]

end Cert.Kernel2Ideal.Ffn

end
-- ==== Proof.Ffn.Launch.lean ====
/- The run of the expert network, with what the kept buffers hold at each grid point named where it is known: from the
   first tile of a super block with live sub-blocks on, its rows, its activations so far, and its second weights. -/
module

public import proofs.«01_k».proof.Proof.Ffn.Steps
public import Idealize.ShloMosaic.Lib.Pipeline.TableIdle

@[expose] public section

set_option maxRecDepth 16384

noncomputable section

namespace Cert.Kernel2Ideal.Ffn

set_option maxHeartbeats 4000000

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel2Ideal Cert.Kernel2Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks by super block and tile -/

theorem N_eq (hO : Ok m) : (cfgM m hO).N = 468 := N_0

/-- The point of tile `k` of super block `i`. -/
def pt (hO : Ok m) (i : ℕ) (k : Fin 4) : Fin (cfgM m hO).N := ⟨(4 * i + k.val) % 468, by rw [N_eq m hO]; exact Nat.mod_lt _ (by decide)⟩

/-- The super block and the tile of a point, as numbers. -/
abbrev sbOf (hO : Ok m) (t : Fin (cfgM m hO).N) : ℕ := t.val / 4
abbrev tlOf (hO : Ok m) (t : Fin (cfgM m hO).N) : Fin 4 := ⟨t.val % 4, Nat.mod_lt _ (by decide)⟩

theorem pt_of (hO : Ok m) (t : Fin (cfgM m hO).N) : pt m hO (t.val / 4) (tlOf m hO t) = t := by
  have := t.isLt; have hN := N_eq m hO
  refine Fin.ext ?_
  show (4 * (t.val / 4) + t.val % 4) % 468 = t.val
  omega

/-- The blocks the body is handed, by super block and tile. -/
def blocks (hO : Ok m) (c : Dev nD) : Blocks F where
  live i := if i < 117 then (word (tbl m 1) (grid0.coords (pt m hO i 0))).toNat else 0
  same i := word (tbl m 3) (grid0.coords (pt m hO i 0))
  rows i := iblk m hO c 0 (pt m hO i 0)
  gate i k := iblk m hO c 1 (pt m hO i k)
  up i k := iblk m hO c 2 (pt m hO i k)
  down i k := iblk m hO c 3 (pt m hO i k)
  gateBias i k := iblk m hO c 4 (pt m hO i k)
  upBias i k := iblk m hO c 5 (pt m hO i k)
  downBias i := iblk m hO c 6 (pt m hO i 3)

/-- The tables' entries go together as the body needs them to. -/
abbrev Linked (hO : Ok m) : Prop := ∀ c : Dev nD, Chained (blocks m hO c)

theorem word_eq (x : S117.Idx → BitVec 32) (i j : grid0.Coords) (h : (i 0).val = (j 0).val) : word x i = word x j := by
  unfold word; rw [show i 0 = j 0 from Fin.ext h]

theorem coord_pt (hO : Ok m) (t : Fin (cfgM m hO).N) : (grid0.coords t 0).val = (grid0.coords (pt m hO (t.val / 4) 0) 0).val := by
  rw [coord_sb t, coord_sb (pt m hO (t.val / 4) 0)]
  have := t.isLt; have hN := N_eq m hO
  show t.val / 4 = (4 * (t.val / 4) + 0) % 468 / 4
  omega

theorem live_at (hO : Ok m) (c : Dev nD) (t : Fin (cfgM m hO).N) : word (tbl m 1) (grid0.coords t) = BitVec.ofNat 32 ((blocks m hO c).live (t.val / 4)) := by
  have := t.isLt; have hN := N_eq m hO
  show _ = BitVec.ofNat 32 (if t.val / 4 < 117 then _ else 0)
  rw [if_pos (by omega), word_eq (tbl m 1) _ _ (coord_pt m hO t)]
  exact (BitVec.ofNat_toNat _ _ |>.trans (BitVec.setWidth_eq _)).symm

theorem same_at (hO : Ok m) (c : Dev nD) (t : Fin (cfgM m hO).N) : word (tbl m 3) (grid0.coords t) = (blocks m hO c).same (t.val / 4) :=
  word_eq (tbl m 3) _ _ (coord_pt m hO t)

theorem tile_at (hO : Ok m) (t : Fin (cfgM m hO).N) : tileOf (grid0.coords t) = tlOf m hO t := Fin.ext (coord_tile t)

theorem last_test (i : grid0.Coords) : k0_cond7 i = 1#1 ↔ tileOf i = 3 := by
  have h : ∀ n : Fin 4, Scalar.cmpi CmpIPredicate.ne (Scalar.extui (Scalar.cmpi CmpIPredicate.eq (BitVec.ofNat 32 n.val) 3#32) : BitVec 32) 0#32 = 1#1 ↔ n = 3 := by decide
  exact h (i 1)

theorem last_at (hO : Ok m) (t : Fin (cfgM m hO).N) : k0_cond7 (grid0.coords t) = 1#1 ↔ t.val % 4 = 3 := by
  rw [last_test, tile_at m hO t]
  exact ⟨fun h => congrArg Fin.val h, fun h => Fin.ext h⟩

/-! ## What the region carries -/

/-- What is known of the kept buffers before point `n`: what the point before it leaves there. -/
def KnownBefore (hO : Ok m) (c : Dev nD) (n : ℕ) (xb : Vec F S768x2048 .bf16) (act : Vec F S4x768x512 .bf16) (wd : Vec F S2048x2048 .bf16) : Prop :=
  ∀ p, n = p + 1 → Known (blocks m hO c) (p / 4) ⟨p % 4, Nat.mod_lt _ (by decide)⟩ xb act wd

/-- The region's invariant: the kept buffers at contents of which that is known, and the tables. -/
def Carried (hO : Ok m) (c : Dev nD) (n : ℕ) : sProp 𝕄 :=
  iprop((∃ (xb : Vec F S768x2048 .bf16) (act : Vec F S4x768x512 .bf16) (wd : Vec F S2048x2048 .bf16), ⌜KnownBefore m hO c n xb act wd⌝
      ∗ owns (c : Thread nD τ) scM0_0 fullShare xb ∗ owns (c : Thread nD τ) scM0_1 fullShare act ∗ (∃ d, owns (c : Thread nD τ) scM0_2 fullShare d)
      ∗ (∃ d, owns (c : Thread nD τ) scM0_3 fullShare d) ∗ owns (c : Thread nD τ) scM0_4 fullShare wd ∗ (∃ r, prngReg c r))
    ∗ Pipeline.ΦT pre0 (tbl m) c)

/-- The known contents after point `t`, from those before it. -/
theorem known_step (hO : Ok m) (c : Dev nD) (hC : Chained (blocks m hO c)) (t : Fin (cfgM m hO).N) (xb : Vec F S768x2048 .bf16) (act : Vec F S4x768x512 .bf16) (wd : Vec F S2048x2048 .bf16)
    (h : KnownBefore m hO c t.val xb act wd) :
    Known (blocks m hO c) (t.val / 4) (tlOf m hO t) (newRows ((blocks m hO c).live (t.val / 4)) (tlOf m hO t) (iblk m hO c 0 t) xb)
      (newAct ((blocks m hO c).live (t.val / 4)) (tlOf m hO t) (fun sb => gateBlock (rowsOf (newRows ((blocks m hO c).live (t.val / 4)) (tlOf m hO t) (iblk m hO c 0 t) xb) sb) (k0_pay18 (iblk m hO c 1 t)) (k0_pay19 (iblk m hO c 2 t)) (iblk m hO c 4 t) (iblk m hO c 5 t)) act)
      (newDown ((blocks m hO c).live (t.val / 4)) ((blocks m hO c).same (t.val / 4)) (tlOf m hO t) (k0_pay20 (iblk m hO c 3 t)) wd) := by
  have e := pt_of m hO t
  have e1 : iblk m hO c 1 t = (blocks m hO c).gate (t.val / 4) (tlOf m hO t) := by show _ = iblk m hO c 1 (pt m hO (t.val / 4) (tlOf m hO t)); rw [e]
  have e2 : iblk m hO c 2 t = (blocks m hO c).up (t.val / 4) (tlOf m hO t) := by show _ = iblk m hO c 2 (pt m hO (t.val / 4) (tlOf m hO t)); rw [e]
  have e3 : iblk m hO c 3 t = (blocks m hO c).down (t.val / 4) (tlOf m hO t) := by show _ = iblk m hO c 3 (pt m hO (t.val / 4) (tlOf m hO t)); rw [e]
  have e4 : iblk m hO c 4 t = (blocks m hO c).gateBias (t.val / 4) (tlOf m hO t) := by show _ = iblk m hO c 4 (pt m hO (t.val / 4) (tlOf m hO t)); rw [e]
  have e5 : iblk m hO c 5 t = (blocks m hO c).upBias (t.val / 4) (tlOf m hO t) := by show _ = iblk m hO c 5 (pt m hO (t.val / 4) (tlOf m hO t)); rw [e]
  by_cases h0 : t.val % 4 = 0
  · have ef : tlOf m hO t = 0 := Fin.ext h0
    have e0 : iblk m hO c 0 t = (blocks m hO c).rows (t.val / 4) := by show _ = iblk m hO c 0 (pt m hO (t.val / 4) 0); rw [← ef, e]
    rw [ef] at e1 e2 e3 e4 e5
    rw [ef, e0, e1, e2, e3, e4, e5]
    refine known_first hC _ xb act wd fun j hj => ?_
    have := h (t.val - 1) (by omega)
    have a1 : (t.val - 1) / 4 = j := by omega
    have a2 : (⟨(t.val - 1) % 4, Nat.mod_lt _ (by decide)⟩ : Fin 4) = 3 := Fin.ext (by show (t.val - 1) % 4 = 3; omega)
    rw [a1, a2] at this
    exact this
  · rw [e1, e2, e3, e4, e5]
    have := h (t.val - 1) (by omega)
    have a1 : (t.val - 1) / 4 = t.val / 4 := by omega
    rw [a1] at this
    exact known_next hC _ _ _ (by show t.val % 4 = (t.val - 1) % 4 + 1; omega) _ xb act wd this

/-- The proof data of the call. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => outAt (blocks m hO c) (t.val / 4)
  Φ t := Carried m hO c t.val
  q := Pipeline.shareOf spec0
  owed _ := 0

theorem A_eq (hO : Ok m) (c : Dev nD) (w : Fin (cfgM m hO).W) : (dats m hO 0 c).A w = V m c (Pipeline.arrRef spec0 w) := by
  dsimp only [dats]

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = outAt (blocks m hO c) (t.val / 4) := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-- Before the last tile of a super block nothing is stored into the output block's buffer. -/
theorem idle0_7 (hO : Ok m) (t : Fin (cfgM m hO).N) (h : ¬t.val % 4 = 3) : (cfgM m hO).idle 7 ((cfgM m hO).grid.coords t) = true := by
  have hc : (k0_cond7 (grid0.coords t) == 1#1) = false := beq_eq_false_iff_ne.mpr (mt (last_at m hO t).mp h)
  show idle0 (tbl m) 7 (grid0.coords t) = true
  unfold idle0
  simp only [hc, Bool.false_and, Bool.not_false, Bool.and_self]

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t
    ∗ (dats m hO 0 c).leavesExact 6 t
    ∗ (dats m hO 0 c).leavesExact 7 t)

/-- A window that is written to at `t`, or written back there, is left at what the proof data say. -/
theorem leaves_of (hO : Ok m) (c : Dev nD) (t : Fin (cfgM m hO).N) (w : Fin (cfgM m hO).W) (h : (cfgM m hO).idle w ((cfgM m hO).grid.coords t) = false ∨ ((cfgM m hO).win w).flush t = true) :
    (dats m hO 0 c).leavesExact w t = owns (c : Thread nD τ) (((cfgM m hO).win w).stage ((cfgM m hO).slots t w)) fullShare ((dats m hO 0 c).after w t) := by
  rcases h with h | h
  · unfold Dat.leavesExact
    rw [h]
  · unfold Dat.leavesExact
    rw [h]
    cases (cfgM m hO).idle w ((cfgM m hO).grid.coords t) <;> rfl

theorem leaves0_0 (hO : Ok m) (c : Dev nD) (t : Fin (cfgM m hO).N) : (dats m hO 0 c).leavesExact 0 t = owns (c : Thread nD τ) (ms0_0 m hO t) fullShare (iblk m hO c 0 t) :=
  leaves_of m hO c t 0 (.inl rfl)
theorem leaves0_1 (hO : Ok m) (c : Dev nD) (t : Fin (cfgM m hO).N) : (dats m hO 0 c).leavesExact 1 t = owns (c : Thread nD τ) (ms0_1 m hO t) fullShare (iblk m hO c 1 t) :=
  leaves_of m hO c t 1 (.inl rfl)
theorem leaves0_2 (hO : Ok m) (c : Dev nD) (t : Fin (cfgM m hO).N) : (dats m hO 0 c).leavesExact 2 t = owns (c : Thread nD τ) (ms0_2 m hO t) fullShare (iblk m hO c 2 t) :=
  leaves_of m hO c t 2 (.inl rfl)
theorem leaves0_3 (hO : Ok m) (c : Dev nD) (t : Fin (cfgM m hO).N) : (dats m hO 0 c).leavesExact 3 t = owns (c : Thread nD τ) (ms0_3 m hO t) fullShare (iblk m hO c 3 t) :=
  leaves_of m hO c t 3 (.inl rfl)
theorem leaves0_4 (hO : Ok m) (c : Dev nD) (t : Fin (cfgM m hO).N) : (dats m hO 0 c).leavesExact 4 t = owns (c : Thread nD τ) (ms0_4 m hO t) fullShare (iblk m hO c 4 t) :=
  leaves_of m hO c t 4 (.inl rfl)
theorem leaves0_5 (hO : Ok m) (c : Dev nD) (t : Fin (cfgM m hO).N) : (dats m hO 0 c).leavesExact 5 t = owns (c : Thread nD τ) (ms0_5 m hO t) fullShare (iblk m hO c 5 t) :=
  leaves_of m hO c t 5 (.inl rfl)
theorem leaves0_6 (hO : Ok m) (c : Dev nD) (t : Fin (cfgM m hO).N) : (dats m hO 0 c).leavesExact 6 t = owns (c : Thread nD τ) (ms0_6 m hO t) fullShare (iblk m hO c 6 t) :=
  leaves_of m hO c t 6 (.inl rfl)

/-- The output block's buffer after the body: at the last tile the whole super block, before it what it held. -/
theorem out_left (hO : Ok m) (c : Dev nD) (hC : Chained (blocks m hO c)) (t : Fin (cfgM m hO).N) (d) (x7 : Vec F S768x2048 .bf16) (hx : x7 = (dats m hO 0 c).before 7 t d) (xb : Vec F S768x2048 .bf16) (act : Vec F S4x768x512 .bf16) (wd : Vec F S2048x2048 .bf16)
    (h : Known (blocks m hO c) (t.val / 4) (tlOf m hO t) xb act wd) :
    owns (c : Thread nD τ) (ms0_7 m hO t) fullShare (if k0_cond7 (grid0.coords t) = 1#1 then putAll x7 (outRows ((blocks m hO c).live (t.val / 4)) act wd (iblk m hO c 6 t)) else x7)
      ⊢ (dats m hO 0 c).leavesExact 7 t := by
  by_cases hf : t.val % 4 = 3
  · have ef : tlOf m hO t = 3 := Fin.ext hf
    have e6 : iblk m hO c 6 t = (blocks m hO c).downBias (t.val / 4) := by
      show _ = iblk m hO c 6 (pt m hO (t.val / 4) 3)
      rw [← ef, pt_of m hO t]
    rw [if_pos ((last_at m hO t).mpr hf), leaves_of m hO c t 7 (.inr ((flush0_7 (adm m hO) t).mpr hf)), after0_7]
    rw [ef] at h
    rw [e6, known_out hC _ _ xb act wd h]
    exact .of_eq rfl
  · rw [if_neg (mt (last_at m hO t).mp hf), Pipeline.Dat.leavesExact_idle (dats m hO 0 c) 7 t (idle0_7 m hO t hf) (Bool.eq_false_iff.mpr (mt (flush0_7 (adm m hO) t).mp hf))]
    iintro H
    iexists d
    rw [hx]
    iexact H

set_option maxHeartbeats 6400000 in
theorem sound_body (hO : Ok m) (c : Dev nD) (hC : Chained (blocks m hO c)) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).owesAt () t.succ = (dats m hO 0 c).owesAt () t.castSucc from rfl,
    leaves0_0, leaves0_1, leaves0_2, leaves0_3, leaves0_4, leaves0_5, leaves0_6]
  rw [show (dats m hO 0 c).Φ t.succ = Carried m hO c (t.val + 1) from rfl, show (dats m hO 0 c).Φ t.castSucc = Carried m hO c t.val from rfl]
  unfold Carried
  rw [PhiT0_eq]
  iintro ⟨⟨⟨%xb, %act, %wd, %hk, HS0, HS1, HS2, HS3, HS4, Hg⟩, HT0, HT1, HT2, HT3⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hK := known_step m hO c hC t xb act wd hk
  rw [← same_at m hO c t, ← tile_at m hO t] at hK
  have hL := out_left m hO c hC t d7 _ rfl _ _ _ (by rw [← tile_at m hO t]; exact hK)
  iapply (run_body c (grid0.coords t) _ _ _ _ _ _ _ _ _ _ _ _ _ _ _ _ (iblk m hO c 0 t) (iblk m hO c 1 t) (iblk m hO c 2 t) (iblk m hO c 3 t) (iblk m hO c 4 t) (iblk m hO c 5 t) (iblk m hO c 6 t) ((dats m hO 0 c).before 7 t d7) xb act wd (tbl m 1) (tbl m 3)
    ((blocks m hO c).live (t.val / 4)) (hC.few _) (live_at m hO c t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [HS0]; · iexact HS0
  isplitl [HS1]; · iexact HS1
  isplitl [HS2]; · iexact HS2
  isplitl [HS3]; · iexact HS3
  isplitl [HS4]; · iexact HS4
  isplitl [HT1]; · iexact HT1
  isplitl [HT3]; · iexact HT3
  iintro ⟨H0, H1, H2, H3, H4, H5, H6, H7, HS0, HS1, HS2, HS3, HS4, HT1, HT3⟩
  isplitl [HS0 HS1 HS2 HS3 HS4 Hg HT0 HT1 HT2 HT3]
  · isplitl [HS0 HS1 HS2 HS3 HS4 Hg]
    · iexists _; iexists _; iexists _
      isplitr
      swap
      · isplitl [HS0]; · iexact HS0
        isplitl [HS1]; · iexact HS1
        isplitl [HS2]; · iexact HS2
        isplitl [HS3]; · iexact HS3
        isplitl [HS4]; · iexact HS4
        iexact Hg
      ipureintro
      intro p hp
      obtain rfl : t.val = p := Nat.succ.inj hp
      rw [tile_at m hO t] at hK ⊢
      exact hK
    isplitl [HT0]; · iexact HT0
    isplitl [HT1]; · iexact HT1
    isplitl [HT2]; · iexact HT2
    iexact HT3
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iapply hL
  iexact H7

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) (hC : Chained (blocks m hO c)) : BodyObligation (dats (F := F) m hO 0 c) (defs₀ (F := F)) Variants.none () Set.univ := fun t => by
  rw [bigSep_W0, bigSep_W0, defs₀_row m hO]
  exact triple_restated (sound_body m hO c hC t) rfl .rfl fun _ => .rfl

/-! ## The run -/

theorem hin (hO : Ok m) (c : Dev nD) : iprop(Pipeline.ΦA spec0 c ∗ Pipeline.ΦT pre0 (tbl m) c) ⊢ (dats m hO 0 c).Φ 0 := by
  rw [show (dats m hO 0 c).Φ 0 = Carried m hO c 0 from rfl, PhiA0_eq]
  unfold Carried
  iintro ⟨⟨⟨⟨%x0, HS0⟩, ⟨%x1, HS1⟩, HS2, HS3, ⟨%x4, HS4⟩⟩, Hg⟩, HT⟩
  isplitl [HS0 HS1 HS2 HS3 HS4 Hg]
  · iexists x0; iexists x1; iexists x4
    isplitr
    · ipureintro; intro p hp; exact absurd hp (Nat.succ_ne_zero p).symm
    isplitl [HS0]; · iexact HS0
    isplitl [HS1]; · iexact HS1
    isplitl [HS2]; · iexact HS2
    isplitl [HS3]; · iexact HS3
    isplitl [HS4]; · iexact HS4
    iexact Hg
  iexact HT

theorem hout (hO : Ok m) (c : Dev nD) : (dats m hO 0 c).Φ (Fin.last (cfgM m hO).N) ⊢ Pipeline.ΦA spec0 c := by
  rw [show (dats m hO 0 c).Φ (Fin.last (cfgM m hO).N) = Carried m hO c (cfgM m hO).N from rfl, PhiA0_eq]
  unfold Carried
  iintro ⟨⟨%xb, %act, %wd, -, HS0, HS1, HS2, HS3, HS4, Hg⟩, -⟩
  isplitl [HS0 HS1 HS2 HS3 HS4]
  · isplitl [HS0]; · iexists _; iexact HS0
    isplitl [HS1]; · iexists _; iexact HS1
    isplitl [HS2]; · iexact HS2
    isplitl [HS3]; · iexact HS3
    iexists _; iexact HS4
  iexact Hg

set_option backward.isDefEq.respectTransparency.types false in
/-- Every execution of the program ends, with every array of the call at what the points' write-backs leave, every
    other buffer as the call found it, and every counter at zero. -/
theorem run_main_quiescent (hO : Ok m) (hC : Linked m hO) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c (hC c)).loose) (hq := fun _ _ _ => rfl)
    (howed := fun _ _ => rfl) (V := V m) (hmain := hmain m Variants.none) (hA := A_eq m hO) (hpf := V_pre m)
    (hin := hin m hO) (hout := hout m hO)

theorem run_main (hO : Ok m) (hC : Linked m hO) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO hC)

theorem unchanged (hO : Ok m) (hC : Linked m hO) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (by decide : main_arg0 ∈ Pipeline.restRefs sig spec0)).trans (V_main_arg0 m c),
      ((h c).1 0).trans (((dats m hO 0 c).arrAt_in 0 rfl _).trans ((A_eq m hO c 0).trans (V_main_arg1 m c))),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c)⟩) (run_main m ρ hO hC)

/-- The frame: the arguments end unchanged, and every counter at zero. -/
theorem frame (hO : Ok m) (hC : Linked m hO) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ hO hC) ((θ_run defs _ _).mono (fun _ h => h.2) (run_main_quiescent m ρ hO hC))

end Cert.Kernel2Ideal.Ffn

end
-- ==== Proof.Ffn.Route.lean ====
/- How the experts' rows are laid out in super blocks of 768: each expert's rows start at a super block, and what a super
   block holds follows from the experts' counts of rows. Naturals only. -/
module

public import Idealize.ShloMosaic.Lib.Routing.Count

@[expose] public section

namespace Cert.Ffn.Route

open Idealize.ShloMosaic.Routing

variable (N : ℕ → ℕ)

/-- The super blocks an expert's rows take, and those the first `k` experts' take. -/
def need (e : ℕ) : ℕ := (N e + 767) / 768
def upto (k : ℕ) : ℕ := ((List.range k).map (need N)).sum

theorem upto_zero : upto N 0 = 0 := rfl

theorem upto_succ (k : ℕ) : upto N (k + 1) = upto N k + need N k := by
  unfold upto
  rw [List.range_succ, List.map_append, List.sum_append]
  simp

theorem upto_mono {a b : ℕ} (h : a ≤ b) : upto N a ≤ upto N b := by
  induction b with
  | zero => rw [Nat.le_zero.mp h]
  | succ b ih =>
    rcases Nat.lt_or_ge b a with h' | h'
    · rw [show a = b + 1 by omega]
    · exact (ih h').trans (by rw [upto_succ]; omega)

/-- The expert of super block `b`: those past the last live one count as the last expert's. -/
def owner (b : ℕ) : ℕ := min (Nat.count (fun q => upto N (q + 1) ≤ b) 32) 31

theorem owner_lt (b : ℕ) : owner N b < 32 := by unfold owner; omega

theorem count_iff (b r : ℕ) (hr : r < 32) : upto N (r + 1) ≤ b ↔ r < Nat.count (fun q => upto N (q + 1) ≤ b) 32 :=
  lt_count_iff (Q := fun q => upto N (q + 1) ≤ b) (fun _ _ hij _ h => (upto_mono N (by omega)).trans h) hr

/-- A live super block lies among its expert's. -/
theorem owner_live (b : ℕ) (h : b < upto N 32) : upto N (owner N b) ≤ b ∧ b < upto N (owner N b + 1) := by
  have hc := count_iff N b
  have hl := Nat.count_le (p := fun q => upto N (q + 1) ≤ b) (n := 32)
  unfold owner
  generalize Nat.count (fun q => upto N (q + 1) ≤ b) 32 = k at hc hl
  have h31 : ¬ 31 < k := fun h' => absurd ((hc 31 (by omega)).mpr h') (Nat.not_le.mpr h)
  rw [Nat.min_eq_left (by omega)]
  refine ⟨?_, ?_⟩
  · rcases Nat.eq_zero_or_pos k with h0 | h0
    · rw [h0, upto_zero]; omega
    · have := (hc (k - 1) (by omega)).mpr (by omega)
      rwa [Nat.sub_add_cancel h0] at this
  · have := mt (hc k (by omega)).mp (lt_irrefl k)
    omega

/-- A super block past the live ones counts as the last expert's. -/
theorem owner_dead (b : ℕ) (h : upto N 32 ≤ b) : owner N b = 31 := by
  have := (count_iff N b 31 (by omega)).mp h
  unfold owner
  omega

/-- The row of its expert that a live super block starts at is one of the expert's. -/
theorem start_lt (b : ℕ) (h : b < upto N 32) : (b - upto N (owner N b)) * 768 < N (owner N b) := by
  have h1 := owner_live N b h
  have h2 := upto_succ N (owner N b)
  unfold need at h2
  omega

/-- The row blocks of 256 that hold a row. -/
def active (b : ℕ) : ℕ := if b < upto N 32 then (min (N (owner N b) - (b - upto N (owner N b)) * 768) 768 + 255) / 256 else 0

theorem active_le (b : ℕ) : active N b ≤ 3 := by unfold active; split <;> omega

theorem active_pos (b : ℕ) : active N b ≠ 0 ↔ b < upto N 32 := by
  unfold active
  by_cases h : b < upto N 32
  · have := start_lt N b h
    rw [if_pos h]
    exact ⟨fun _ => h, fun _ => by omega⟩
  · rw [if_neg h]
    exact ⟨fun h' => absurd rfl h', fun h' => absurd h' h⟩

/-- A row's block of 256 holds a row if it starts before the expert's rows end. -/
theorem used_iff (b r : ℕ) (hr : r < 768) : r / 256 * 256 + 768 * b < N (owner N b) + 768 * upto N (owner N b) ↔ r < 256 * active N b := by
  unfold active
  by_cases h : b < upto N 32
  · have h1 := owner_live N b h
    have h2 := start_lt N b h
    rw [if_pos h]
    omega
  · have h1 := owner_dead N b (by omega)
    have h2 : upto N 32 = upto N 31 + need N 31 := upto_succ N 31
    unfold need at h2
    rw [if_neg h, h1]
    omega

variable (hN : ∀ e, N e ≤ 65536)

include hN in
theorem need_le (e : ℕ) : need N e ≤ 86 := by have := hN e; unfold need; omega

include hN in
theorem upto_le (k : ℕ) : upto N k ≤ 86 * k := by
  induction k with
  | zero => exact Nat.le_refl _
  | succ k ih => rw [upto_succ]; have := need_le N hN k; omega

/-- Some super block is live if some expert has a row. -/
theorem live_of (h : 1 ≤ ((List.range 32).map N).sum) : 1 ≤ upto N 32 := by
  by_contra h'
  have h0 : upto N 32 = 0 := by omega
  have hz : ∀ e, e < 32 → N e = 0 := fun e he => by
    have h1 := upto_mono N (show e + 1 ≤ 32 by omega)
    have h2 := upto_succ N e
    unfold need at h2
    omega
  have : ((List.range 32).map N).sum = 0 := List.sum_eq_zero fun x hx => by
    obtain ⟨e, he, rfl⟩ := List.mem_map.mp hx
    exact hz e (List.mem_range.mp he)
  omega

include hN in
theorem sum_le (k : ℕ) : ((List.range k).map N).sum ≤ 65536 * k := by
  induction k with
  | zero => exact Nat.le_refl _
  | succ k ih =>
    rw [List.range_succ, List.map_append, List.sum_append]
    have := hN k
    simp
    omega

end Cert.Ffn.Route

end
-- ==== Proof.Ffn.RouteWords.lean ====
/- The host's words for the super blocks' tables, read as naturals: where the experts' counts are the words of `N`, each
   step of the host's computation holds the word of what Route.lean names. Stated over arrays, no program named. -/
module

public import proofs.«01_k».proof.Proof.Ffn.Route
public import Idealize.ShloMosaic.Lib.Routing.Words
public import Idealize.ShloMosaic.Lib.Routing.OpsPair
public import Idealize.ShloMosaic.Lib.Routing.OpsSearch
public import Idealize.ShloMosaic.Lib.Routing.Ops
public import Idealize.ShloMosaic.Lib.Routing.OpsSet

@[expose] public section

noncomputable section

namespace Cert.Ffn.Route

open Idealize.ShloMosaic Idealize.ShloMosaic.ValueIdx Idealize.ShloMosaic.Routing

/-- Words of 32 bits by expert, by super block, and alone. -/
abbrev ByExpert : Type := IVec (shape1 32) 32
abbrev ByBlock : Type := IVec (shape1 117) 32
abbrev Alone : Type := IVec shape0 32

section Steps
variable (hb32 : shape0.BroadcastsInDim (shape1 32) (![] : Fin 0 → Fin (shape1 32).rank)) (hb : shape0.BroadcastsInDim (shape1 117) (![] : Fin 0 → Fin (shape1 117).rank))
  (hb0 : shape0.BroadcastsInDim shape0 (![] : Fin 0 → Fin shape0.rank)) (hw : (shape1 32).ReduceWindows (![32] : Fin 1 → ℕ) ![1] ![31] ![0] (shape1 32)) (hu : 0 < shape0.numel)
  (hrow : (shape1 32).BroadcastsInDim (shape2 1 32) (![1] : Fin 1 → Fin (shape2 1 32).rank)) (hrows : (shape2 1 32).BroadcastsInDim (shape2 117 32) (![0, 1] : Fin 2 → Fin (shape2 117 32).rank))
  (hcol : (shape1 117).BroadcastsInDim (shape2 117 1) (![0] : Fin 1 → Fin (shape2 117 1).rank)) (hcols : (shape2 117 1).BroadcastsInDim (shape2 117 32) (![0, 1] : Fin 2 → Fin (shape2 117 32).rank))
  (hlt : 1 < 32) (hred : (shape2 117 32).ReducesTo [1] (shape1 117)) (hsl : (shape1 32).Slices ![31] (shape1 1)) (hc : (shape1 1).ShapeCasts shape0)
  (d : GatherDims (shape1 32) (shape2 117 1) (shape1 117))

/-- The super blocks each expert needs. -/
def needV (n : ByExpert) : ByExpert :=
  pyDiv hb32 (subi (addi n (broadcastInDim (shape1 32) ![] hb32 (constantI shape0 32 768#32))) (broadcastInDim (shape1 32) ![] hb32 (constantI shape0 32 1#32))) (id (constantI shape0 32 768#32))
/-- The running sums of a vector. -/
def sumsV (v : ByExpert) : ByExpert :=
  Host.reduceWindow IntOp.addi ![32] ![1] ![31] ![0] v (broadcastInDim shape0 ![] hb0 (constantI shape0 32 0#32)) hw hu
/-- A running sum's last. -/
def lastV (v : ByExpert) : Alone := shapeCast shape0 (extractStridedSlice (shape1 1) ![31] v hsl) hc
/-- How many of the entries are at most a block's, and at most 31. -/
def searchV (ends : ByExpert) (at_ : ByBlock) : ByBlock :=
  minsi (Host.reduce IntOp.addi (extui 32 (cmpi .sle (broadcastInDim (shape2 117 32) ![0, 1] hrows (broadcastInDim (shape2 1 32) ![1] hrow ends))
    (broadcastInDim (shape2 117 32) ![0, 1] hcols (broadcastInDim (shape2 117 1) ![0] hcol at_))) hlt) (constantI shape0 32 0#32) hred hu)
    (broadcastInDim (shape1 117) ![] hb (constantI shape0 32 31#32))
/-- The live super block a block stands for. -/
def liveV (total : Alone) : ByBlock := minsi (iotaInDim (shape1 117) 32 0) (broadcastInDim (shape1 117) ![] hb (subi total (constantI shape0 32 1#32)))
/-- An index counted from the end where negative, as a column. -/
def wrapV (e : ByBlock) : IVec (shape2 117 1) 32 :=
  broadcastInDim (shape2 117 1) ![0] hcol (select (cmpi .slt e (broadcastInDim (shape1 117) ![] hb (constantI shape0 32 0#32)))
    (addi e (broadcastInDim (shape1 117) ![] hb (constantI shape0 32 32#32))) e)
/-- The rows a block's expert has from the block on. -/
def leftV (n starts : ByExpert) (e live : ByBlock) : ByBlock :=
  subi (Host.gather d n (wrapV hb hcol e)) (muli (subi live (Host.gather d starts (wrapV hb hcol e))) (broadcastInDim (shape1 117) ![] hb (constantI shape0 32 768#32)))
/-- The row blocks of 256 that hold a row. -/
def activeV (total : Alone) (left : ByBlock) : ByBlock :=
  select (cmpi .slt (iotaInDim (shape1 117) 32 0) (broadcastInDim (shape1 117) ![] hb total))
    (pyDiv hb (subi (addi (minsi (broadcastInDim (shape1 117) ![] hb (id (constantI shape0 32 768#32))) (maxsi (broadcastInDim (shape1 117) ![] hb (id (constantI shape0 32 0#32))) left))
      (broadcastInDim (shape1 117) ![] hb (constantI shape0 32 256#32))) (broadcastInDim (shape1 117) ![] hb (constantI shape0 32 1#32))) (id (constantI shape0 32 256#32)))
    (broadcastInDim (shape1 117) ![] hb (id (constantI shape0 32 0#32)))

variable {N : ℕ → ℕ} (hN : ∀ e, N e ≤ 65536) (n : ByExpert) (hn : ∀ i : Fin 32, n (ix1 i) = BitVec.ofNat 32 (N i.val))

include hN hn in
theorem needV_at (i : Fin 32) : needV hb32 n (ix1 i) = BitVec.ofNat 32 (need N i.val) := by
  refine pyDiv_ap hb32 _ _ _ (a := N i.val + 767) (b := 768) ?_ rfl (by have := hN i.val; omega) (by omega) (by omega)
  show n (ix1 i) + 768#32 - 1#32 = _
  rw [hn, show 768#32 = BitVec.ofNat 32 768 from rfl, show 1#32 = BitVec.ofNat 32 1 from rfl, BitVec.ofNat_add_ofNat, ofNat32_sub (by omega)]
  exact congrArg (BitVec.ofNat 32) (by omega)

/-- The running sums of a multiple of the super blocks needed. -/
theorem sumsV_at (k : ℕ) (v : ByExpert) (hv : ∀ i : Fin 32, v (ix1 i) = BitVec.ofNat 32 (k * need N i.val)) (j : Fin 32) :
    sumsV hb0 hw hu v (ix1 j) = BitVec.ofNat 32 (k * upto N (j.val + 1)) := by
  refine (cumsum1 (N := 32) (Nm1 := 31) rfl v (fun i => k * need N i) hv _ rfl hw hu j).trans (congrArg (BitVec.ofNat 32) ?_)
  unfold upto
  exact List.sum_map_mul_left ..

theorem lastV_at (v : ByExpert) : lastV hsl hc v ix0 = v (ix1 (31 : Fin 32)) := by
  refine (shapeCast_apply (s := shape1 1) (t := shape0) _ hc ix0 (ix1 (0 : Fin 1)) ?_).trans (slice1 31 v hsl (0 : Fin 1) (by decide))
  rw [Shape.rowMajor_val_one]
  have := ((shape0).rowMajor ix0).isLt
  have h1 : shape0.numel = 1 := rfl
  show 0 = _
  omega

theorem searchV_at (ends : ByExpert) (at_ : ByBlock) (E : ℕ → ℕ) (a : ℕ) (b : Fin 117) (hE : ∀ q : Fin 32, ends (ix1 q) = BitVec.ofNat 32 (E q.val)) (hE' : ∀ q : Fin 32, E q.val < 2 ^ 31)
    (ha : at_ (ix1 b) = BitVec.ofNat 32 a) (ha' : a < 2 ^ 31) :
    searchV hb hu hrow hrows hcol hcols hlt hred ends at_ (ix1 b) = BitVec.ofNat 32 (min (Nat.count (fun q => E q ≤ a) 32) 31) := by
  have h := reduce_count (n := 117) (m := 32) (by omega) (cmpi .sle (broadcastInDim (shape2 117 32) ![0, 1] hrows (broadcastInDim (shape2 1 32) ![1] hrow ends))
    (broadcastInDim (shape2 117 32) ![0, 1] hcols (broadcastInDim (shape2 117 1) ![0] hcol at_))) hlt hred hu b (fun q => E q ≤ a) (fun q => by
      show IntOp.cmpi .sle (broadcastInDim (shape2 117 32) ![0, 1] hrows (broadcastInDim (shape2 1 32) ![1] hrow ends) (ix2 b q)) (broadcastInDim (shape2 117 32) ![0, 1] hcols (broadcastInDim (shape2 117 1) ![0] hcol at_) (ix2 b q)) = 1#1 ↔ _
      rw [bcCols, bcRows, hE, ha]
      exact WordCmp.cmpi_sle_ofNat_eq_one_iff (w := 32) (hE' q) ha')
  have hl := Nat.count_le (p := fun q => E q ≤ a) (n := 32)
  show IntOp.minsi (Host.reduce IntOp.addi _ _ hred hu (ix1 b)) 31#32 = _
  rw [h]
  unfold IntOp.minsi
  rw [show (31#32 : BitVec 32) = BitVec.ofNat 32 31 from rfl, slt_ofNat32 (by omega) (by omega)]
  by_cases h' : Nat.count (fun q => E q ≤ a) 32 < 31
  · rw [if_pos (decide_eq_true h'), Nat.min_eq_left (by omega)]
  · rw [if_neg (by simpa using h'), Nat.min_eq_right (by omega)]

theorem liveV_at (total : Alone) (T : ℕ) (hT : total ix0 = BitVec.ofNat 32 T) (h1 : 1 ≤ T) (h2 : T < 2 ^ 31) (b : Fin 117) :
    liveV hb total (ix1 b) = BitVec.ofNat 32 (min b.val (T - 1)) := by
  have hbl := b.isLt
  show IntOp.minsi (BitVec.ofNat 32 b.val) (broadcastInDim (shape1 117) ![] hb (subi total (constantI shape0 32 1#32)) (ix1 b)) = _
  rw [bc0]
  show IntOp.minsi (BitVec.ofNat 32 b.val) (total ix0 - 1#32) = _
  rw [hT, show 1#32 = BitVec.ofNat 32 1 from rfl, ofNat32_sub h1]
  unfold IntOp.minsi
  rw [slt_ofNat32 (by omega) (by omega)]
  by_cases h' : b.val < T - 1
  · rw [if_pos (decide_eq_true h'), Nat.min_eq_left (by omega)]
  · rw [if_neg (by simpa using h'), Nat.min_eq_right (by omega)]

theorem wrapV_at (e : ByBlock) (b : Fin 117) (k : ℕ) (hk : k < 32) (he : e (ix1 b) = BitVec.ofNat 32 k) : wrapV hb hcol e (ix2 b (0 : Fin 1)) = BitVec.ofNat 32 k := by
  unfold wrapV
  rw [bcCol]
  show Scalar.select (IntOp.cmpi .slt (e (ix1 b)) 0#32) _ (e (ix1 b)) = _
  rw [wrap_of_lt _ _ (by rw [he, BitVec.toNat_ofNat]; omega), he]

variable (hd1 : d.collapsedSliceDims = [0]) (hd2 : d.operandBatchingDims = []) (hd3 : d.startIndexMap = [0]) (hd4 : d.indexVectorDim = 1)

include hd1 hd2 hd3 hd4 in
theorem take_at (x : ByExpert) (X : ℕ → ℕ) (hx : ∀ i : Fin 32, x (ix1 i) = BitVec.ofNat 32 (X i.val)) (idx : IVec (shape2 117 1) 32) (b : Fin 117) (k : ℕ) (hk : k < 32)
    (hi : idx (ix2 b (0 : Fin 1)) = BitVec.ofNat 32 k) : Host.gather d x idx (ix1 b) = BitVec.ofNat 32 (X k) :=
  (take_ap d hd1 hd2 hd3 hd4 x idx b hk (by omega) hi).trans (hx ⟨k, hk⟩)

include hd1 hd2 hd3 hd4 hN hn in
/-- The rows left of a live super block's expert. -/
theorem leftV_at (starts : ByExpert) (hs : ∀ i : Fin 32, starts (ix1 i) = BitVec.ofNat 32 (upto N i.val)) (e live : ByBlock) (b : Fin 117) (hlive : b.val < upto N 32)
    (he : e (ix1 b) = BitVec.ofNat 32 (owner N b.val)) (hl : live (ix1 b) = BitVec.ofNat 32 b.val) :
    leftV hb hcol d n starts e live (ix1 b) = BitVec.ofNat 32 (N (owner N b.val) - (b.val - upto N (owner N b.val)) * 768) := by
  have hw := wrapV_at hb hcol e b _ (owner_lt N b.val) he
  show Host.gather d n _ (ix1 b) - (live (ix1 b) - Host.gather d starts _ (ix1 b)) * 768#32 = _
  rw [take_at d hd1 hd2 hd3 hd4 n N hn _ b _ (owner_lt N b.val) hw, take_at d hd1 hd2 hd3 hd4 starts (upto N) hs _ b _ (owner_lt N b.val) hw, hl,
    ofNat32_sub (owner_live N b.val hlive).1, show 768#32 = BitVec.ofNat 32 768 from rfl, BitVec.ofNat_mul_ofNat, ofNat32_sub (start_lt N b.val hlive).le]

include hN in
theorem activeV_at (total : Alone) (left : ByBlock) (hT : total ix0 = BitVec.ofNat 32 (upto N 32)) (b : Fin 117)
    (hl : b.val < upto N 32 → left (ix1 b) = BitVec.ofNat 32 (N (owner N b.val) - (b.val - upto N (owner N b.val)) * 768)) :
    activeV hb total left (ix1 b) = BitVec.ofNat 32 (active N b.val) := by
  have hbl := b.isLt
  have hu := upto_le N hN 32
  show Scalar.select (IntOp.cmpi .slt (BitVec.ofNat 32 b.val) (broadcastInDim (shape1 117) ![] hb total (ix1 b))) (pyDiv hb _ _ (ix1 b)) 0#32 = _
  rw [bc0, hT, WordCmp.cmpi_slt_ofNat (w := 32) (by omega) (by omega), WordCmp.select_decide]
  unfold active
  by_cases h : b.val < upto N 32
  · rw [if_pos h, if_pos h]
    have h' := hN (owner N b.val)
    refine pyDiv_ap hb _ _ _ (b := 256) ?_ rfl (by omega) (by omega) (by omega)
    show IntOp.minsi (BitVec.ofNat 32 768) (IntOp.maxsi (BitVec.ofNat 32 0) (left (ix1 b))) + 256#32 - 1#32 = _
    rw [hl h, clip_word (by omega) (by omega) (by omega), show 256#32 = BitVec.ofNat 32 256 from rfl, show 1#32 = BitVec.ofNat 32 1 from rfl, BitVec.ofNat_add_ofNat, ofNat32_sub (by omega)]
    exact congrArg (BitVec.ofNat 32) (by omega)
  · rw [if_neg h, if_neg h]

end Steps

end Cert.Ffn.Route

end
-- ==== Proof.Ffn.Host.lean ====
/- The tables the host computes from the experts' counts of rows: each as its chain of array operations, and what the
   entries are as numbers where the counts are in range. -/
module

public import proofs.«01_k».proof.Proof.Ffn.Kit
public import proofs.«01_k».proof.Proof.Ffn.RouteWords
public import proofs.«01_k».proof.Proof.Gen.Pre_routed

@[expose] public section

set_option maxRecDepth 16384

noncomputable section

namespace Cert.Kernel2Ideal.Ffn

open Idealize.ShloMosaic Idealize.ShloMosaic.TcCoe
open Idealize.SL.Sem
open Cert.Kernel2Ideal Cert.Kernel2Ideal.Gen

variable {F : FTy → Type} [FloatOps F]

variable (m : (ℓ : Loc nD τ sig) → Buf (Elt F) ℓ)

/-- The experts' counts of rows, -/
def rowsIn : S32.Idx → BitVec 32 := m ((0 : Dev nD).tc.loc main_arg0)
/-- the super blocks each needs, -/
def needs : S32.Idx → BitVec 32 := Cert.Ffn.Route.needV bcast_S_S32 (rowsIn m)
/-- where each one's super blocks end, -/
def ends : S32.Idx → BitVec 32 := Cert.Ffn.Route.sumsV bcast_S_S_ reduceWindows_S32_S32_w32s1p31_0 h_S_ (needs m)
/-- and where they begin. -/
def starts : S32.Idx → BitVec 32 := subi (ends m) (needs m)
/-- The number of live super blocks. -/
def totals : S_.Idx → BitVec 32 := Cert.Ffn.Route.lastV slices_S32_S1_31 shapeCasts_S1_S_ (ends m)
/-- The live super block each stands for, its expert, and its number of live sub-blocks. -/
def lives : S117.Idx → BitVec 32 := Cert.Ffn.Route.liveV bcast_S_S117 (totals m)
def experts : S117.Idx → BitVec 32 :=
  Cert.Ffn.Route.searchV bcast_S_S117 h_S_ bcast_S32_S1x32_1 bcast_S1x32_S117x32_0_1 bcast_S117_S117x1_0 bcast_S117x1_S117x32_0_1 natLt_1_32 reducesTo_S117x32_S117_d1 (ends m) (lives m)
def lefts : S117.Idx → BitVec 32 :=
  Cert.Ffn.Route.leftV bcast_S_S117 bcast_S117_S117x1_0 gather_S32_S117x1_S117_n_0_n_n_0_1_1 (rowsIn m) (starts m) (experts m) (lives m)
def counts : S117.Idx → BitVec 32 := Cert.Ffn.Route.activeV bcast_S_S117 (totals m) (lefts m)

set_option maxHeartbeats 4000000 in
theorem V_main_v21 : V m 0 main_v21 = experts m := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem tbl0_eq : tbl m 0 = experts m := V_main_v21 m

set_option maxHeartbeats 4000000 in
theorem V_main_v48 : V m 0 main_v48 = counts m := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem tbl1_eq : tbl m 1 = counts m := V_main_v48 m

set_option maxHeartbeats 4000000 in
theorem V_main_v12 : V m 0 main_v12 = lives m := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem tbl2_eq : tbl m 2 = lives m := V_main_v12 m

set_option maxHeartbeats 4000000 in
theorem V_main_v9 : V m 0 main_v9 = totals m := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem V_main_v7 : V m 0 main_v7 = (iotaInDim S117 32 0 : S117.Idx → BitVec 32) := by
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

/-- Operations one after another: the later ones start from what the earlier ones leave. -/
theorem after_both (l₁ l₂ : List (HloOp τ sig (Elt F))) (W : Valuation τ sig (Elt F)) : StableHlo.after (l₁ ++ l₂) W = StableHlo.after l₂ (StableHlo.after l₁ W) := by
  induction l₁ generalizing W with
  | nil => rfl
  | cons op l ih => exact ih _

/-- The buffers before the last host operations. -/
abbrev V8 : Valuation τ sig (Elt F) := StableHlo.after (List.flatten [hostOps0, hostOps0_1, hostOps0_2, hostOps0_3, hostOps0_4, hostOps0_5, hostOps0_6, hostOps0_7, hostOps0_8]) (fun b => m ((0 : Dev nD), b))

theorem V_split (b : Ref sig .tc) : V m 0 b = StableHlo.after hostOps0_9 (V8 m) b := by
  have e : (List.flatten [hostOps0, hostOps0_1, hostOps0_2, hostOps0_3, hostOps0_4, hostOps0_5, hostOps0_6, hostOps0_7, hostOps0_8, hostOps0_9] : List (HloOp τ sig (Elt F))) = List.flatten [hostOps0, hostOps0_1, hostOps0_2, hostOps0_3, hostOps0_4, hostOps0_5, hostOps0_6, hostOps0_7, hostOps0_8] ++ hostOps0_9 := rfl
  exact congrFun (show StableHlo.after (List.flatten [hostOps0, hostOps0_1, hostOps0_2, hostOps0_3, hostOps0_4, hostOps0_5, hostOps0_6, hostOps0_7, hostOps0_8, hostOps0_9]) (fun b => m ((0 : Dev nD), b)) = _ from (congrArg (fun l => StableHlo.after l (fun b => m ((0 : Dev nD), b))) e).trans (after_both _ _ _)) b

theorem last_v7 (W : Valuation τ sig (Elt F)) : StableHlo.after hostOps0_9 W main_v7 = W main_v7 := by after_results_simp
theorem last_v9 (W : Valuation τ sig (Elt F)) : StableHlo.after hostOps0_9 W main_v9 = W main_v9 := by after_results_simp
theorem last_v21 (W : Valuation τ sig (Elt F)) : StableHlo.after hostOps0_9 W main_v21 = W main_v21 := by after_results_simp

set_option maxHeartbeats 1000000 in
theorem last_v56 (W : Valuation τ sig (Elt F)) (e t : S117.Idx → BitVec 32) (n : S_.Idx → BitVec 32) (he : W main_v21 = e) (ht : W main_v7 = t) (hn : W main_v9 = n) :
    StableHlo.after hostOps0_9 W main_v56 = (extui 32 (andi (cmpi .eq e (concatenate S117 0 [⟨S1, (broadcastInDim S1 ![] bcast_S_S1 (constantI S_ 32 4294967295#32) : S1.Idx → BitVec 32)⟩, ⟨S116, extractStridedSlice S116 ![0] e slices_S117_S116_0⟩] concatenates_S1_S116_S117_d0)) (cmpi .slt t (broadcastInDim S117 ![] bcast_S_S117 n))) natLt_1_32 : S117.Idx → BitVec 32) := by
  subst he ht hn
  after_results_simp
  rfl

theorem tbl3_eq : tbl m 3 = (extui 32 (andi (cmpi .eq (experts m) (concatenate S117 0 [⟨S1, (broadcastInDim S1 ![] bcast_S_S1 (constantI S_ 32 4294967295#32) : S1.Idx → BitVec 32)⟩, ⟨S116, extractStridedSlice S116 ![0] (experts m) slices_S117_S116_0⟩] concatenates_S1_S116_S117_d0)) (cmpi .slt (iotaInDim S117 32 0) (broadcastInDim S117 ![] bcast_S_S117 (totals m)))) natLt_1_32 : S117.Idx → BitVec 32) :=
  (V_split m main_v56).trans (last_v56 _ _ _ _ ((last_v21 _).symm.trans ((V_split m main_v21).symm.trans (V_main_v21 m)))
    ((last_v7 _).symm.trans ((V_split m main_v7).symm.trans (V_main_v7 m))) ((last_v9 _).symm.trans ((V_split m main_v9).symm.trans (V_main_v9 m))))

end Cert.Kernel2Ideal.Ffn

end
-- ==== Proof.Ffn.Spec.lean ====
/- What the two programs compute, as functions of the arrays they start from, over the extended reals: a live row goes
   through its expert's two products with a gated activation between them, and any other row is zero. -/
module

public import Idealize.ShloMosaic.PureOps.Ideal
public import Idealize.ShloMosaic.PureOps.Ideal.Laws
public import Idealize.ShloMosaic.Lib.Pointwise
public import proofs.«01_k».proof.Proof.Ffn.Route

@[expose] public section

noncomputable section

namespace Cert.Ffn

open Idealize.ShloMosaic

/-- The super blocks' experts, or their counts of live sub-blocks. -/
abbrev Ints : Type := IVec ⟨1, ![117]⟩ 32
/-- The rows, 117 super blocks of 768. -/
abbrev Rows : Type := FVec Ideal ⟨2, ![89856, 2048]⟩ .bf16
/-- The first weights of the 32 experts, gates in front, and their biases. -/
abbrev W1 : Type := FVec Ideal ⟨4, ![1, 32, 2048, 4096]⟩ .f32
abbrev B1 : Type := FVec Ideal ⟨3, ![1, 32, 4096]⟩ .f32
/-- The second weights, and their biases. -/
abbrev W2 : Type := FVec Ideal ⟨4, ![1, 32, 2048, 2048]⟩ .f32
abbrev B2 : Type := FVec Ideal ⟨3, ![1, 32, 2048]⟩ .f32

/-- The gated activation of a gate and its partner: both clipped at seven (the partner at minus seven too), the partner one
    higher, times the gate, times the logistic of 1.702 times the gate. -/
def gated (g u : EReal) : EReal :=
  (min (Ideal.ofBits .f32 0x40E00000#32) (max (Ideal.ofBits .f32 0xC0E00000#32) u) + 1) * min g (Ideal.ofBits .f32 0x40E00000#32)
    * Ideal.div 1 (1 + Ideal.exp (-(Ideal.ofBits .f32 0x3FD9DB23#32 * min g (Ideal.ofBits .f32 0x40E00000#32))))

variable (x : Rows) (w1 : W1) (b1 : B1) (w2 : W2) (b2 : B2)

/-- Column `l` of row `p`'s first product under expert `e`. -/
def first (e : Fin 32) (p : Fin 89856) (l : Fin 4096) : EReal := ∑ k : Fin 2048, x (ix2 p k) * w1 (ix4 0 e k l) + b1 (ix3 0 e l)

/-- The gated activation `l` of row `p` under expert `e`. -/
def hidden (e : Fin 32) (p : Fin 89856) (l : Fin 2048) : EReal :=
  gated (first x w1 b1 e p ⟨l.val, by have := l.isLt; omega⟩) (first x w1 b1 e p ⟨2048 + l.val, by have := l.isLt; omega⟩)

/-- Column `l` of row `p`'s second product under expert `e`. -/
def second (e : Fin 32) (p : Fin 89856) (l : Fin 2048) : EReal := ∑ k : Fin 2048, hidden x w1 b1 e p k * w2 (ix4 0 e k l) + b2 (ix3 0 e l)

/-- A word's expert: those above the last are the last. -/
def expertOf (v : BitVec 32) : Fin 32 := ⟨min v.toInt.toNat 31, by omega⟩

/-- The result: the second product of a live row, zero elsewhere. -/
def result (e n : Ints) (p : Fin 89856) (l : Fin 2048) : EReal :=
  if p.val % 768 < 256 * (n (ix1 ⟨p.val / 768, by have := p.isLt; omega⟩) : BitVec 32).toNat then
    second x w1 b1 w2 b2 (expertOf (e (ix1 ⟨p.val / 768, by have := p.isLt; omega⟩))) p l
  else 0

/-- The experts' counts of rows as numbers. -/
def rowNum (n : IVec ⟨1, ![32]⟩ 32) (e : ℕ) : ℕ := if h : e < 32 then (n (ValueIdx.ix1 (⟨e, h⟩ : Fin 32))).toNat else 0

theorem rowNum_at (n : IVec ⟨1, ![32]⟩ 32) (i : Fin 32) : n (ValueIdx.ix1 i) = BitVec.ofNat 32 (rowNum n i.val) := by
  unfold rowNum
  rw [dif_pos i.isLt]
  exact ((BitVec.ofNat_toNat 32 _).trans (BitVec.setWidth_eq _)).symm

/-- The result by the experts' counts of rows alone: a row of a row block of 256 that holds a row of its super block's expert
    has the second product, any other row zero. -/
def routed (N : ℕ → ℕ) (p : Fin 89856) (l : Fin 2048) : EReal :=
  if p.val % 768 < 256 * Route.active N (p.val / 768) then
    second x w1 b1 w2 b2 ⟨Route.owner N (p.val / 768), Route.owner_lt N _⟩ p l
  else 0

theorem half_eq : Ideal.ofBits .f32 0x3F000000#32 = (((1 : ℝ) / 2 : ℝ) : EReal) := by
  simp [Ideal.ofBits, Ideal.ieee, -EReal.coe_mul]; norm_num

theorem real_half_tanh (r : ℝ) : 1 / 2 * Real.tanh (1 / 2 * r) + 1 / 2 = 1 / (1 + Real.exp (-r)) := by
  rw [Real.tanh_eq_sinh_div_cosh, Real.sinh_eq, Real.cosh_eq]
  have h1 : Real.exp (-r) = Real.exp (-(1 / 2 * r)) * Real.exp (-(1 / 2 * r)) := by rw [← Real.exp_add]; ring_nf
  have h2 : Real.exp (1 / 2 * r) * Real.exp (-(1 / 2 * r)) = 1 := by rw [← Real.exp_add]; simp
  have p1 := Real.exp_pos (1 / 2 * r)
  have p2 := Real.exp_pos (-(1 / 2 * r))
  rw [h1]
  generalize Real.exp (1 / 2 * r) = a at *
  generalize Real.exp (-(1 / 2 * r)) = b at *
  have hs : a + b ≠ 0 := by positivity
  have ht : 1 + b * b ≠ 0 := by positivity
  have e : 1 / 2 * ((a - b) / 2 / ((a + b) / 2)) + 1 / 2 = a / (a + b) := by field_simp; ring
  rw [e, div_eq_div_iff hs ht]
  linear_combination b * h2

/-- The logistic function by the hyperbolic tangent of half its argument. -/
theorem half_tanh (v : EReal) : Ideal.ofBits .f32 0x3F000000#32 * Ideal.tanh (Ideal.ofBits .f32 0x3F000000#32 * v) + Ideal.ofBits .f32 0x3F000000#32
    = Ideal.div 1 (1 + Ideal.exp (-v)) := by
  rw [half_eq]
  induction v with
  | bot =>
    rw [EReal.coe_mul_bot_of_pos (by norm_num)]
    show (((1 : ℝ) / 2 : ℝ) : EReal) * (-1) + _ = Ideal.div 1 (1 + ⊤)
    have e : (1 : EReal) + ⊤ = ⊤ := by rfl
    rw [e, Ideal.div, if_neg (by simp), EReal.inv_top, mul_zero, mul_neg, mul_one, ← EReal.coe_neg, ← EReal.coe_add]
    norm_num
  | top =>
    rw [EReal.coe_mul_top_of_pos (by norm_num)]
    show (((1 : ℝ) / 2 : ℝ) : EReal) * 1 + _ = Ideal.div 1 (1 + 0)
    rw [add_zero, Ideal.div, if_neg (by simp), inv_one, mul_one, mul_one, ← EReal.coe_add]
    norm_num
  | coe r =>
    rw [← EReal.coe_mul]
    show (((1 : ℝ) / 2 : ℝ) : EReal) * (Real.tanh (1 / 2 * r) : EReal) + _ = Ideal.div 1 (1 + (Real.exp (-r) : EReal))
    have hp := Real.exp_pos (-r)
    rw [← EReal.coe_mul, ← EReal.coe_add, real_half_tanh, ← EReal.coe_one, ← EReal.coe_add, Ideal.div,
      if_neg (by rw [← EReal.coe_zero, EReal.coe_eq_coe_iff]; positivity), ← EReal.coe_inv, ← EReal.coe_mul, one_div, one_mul]

end Cert.Ffn

end
-- ==== Proof.Ffn.Tables.lean ====
/- The tables the call prefetches, where the experts' counts of rows are in range: every block a window names lies inside
   its array, and the entries go together as the body needs them to. -/
module

public import proofs.«01_k».proof.Proof.Ffn.Launch
public import proofs.«01_k».proof.Proof.Ffn.Host
public import proofs.«01_k».proof.Proof.Ffn.Spec
public import Idealize.ShloMosaic.Lib.Pointwise

@[expose] public section

noncomputable section

namespace Cert.Kernel2Ideal.Ffn

open Idealize.ShloMosaic Idealize.ShloMosaic.TcCoe
open Idealize.SL.Sem
open Cert.Kernel2Ideal Cert.Kernel2Ideal.Gen

/-! ## Words as numbers -/

theorem bit_and (a b : Bool) : IntOp.andi (BitVec.ofBool a) (BitVec.ofBool b) = 1#1 ↔ a = true ∧ b = true := by
  revert a b; decide

theorem both_of : ∀ a b : BitVec 1, (IntOp.andi a b).setWidth 32 ≠ 0#32 → a = 1#1 ∧ b = 1#1 := by decide

theorem bit_true (a : Bool) : BitVec.ofBool a = 1#1 ↔ a = true := by revert a; decide

theorem small_toInt (n : ℕ) (hn : n < 2 ^ 30) : (BitVec.ofNat 32 n).toInt = n := by
  rw [BitVec.toInt_eq_toNat_cond, BitVec.toNat_ofNat, Nat.mod_eq_of_lt (by omega)]
  split <;> omega

theorem inside_of (e : BitVec 32) (k : ℕ) (hk : k < 2 ^ 30) (h0 : (0#32).sle e = true) (h1 : e.slt (BitVec.ofNat 32 k) = true) : e.toNat < k := by
  rw [BitVec.sle_iff_toInt_le] at h0
  rw [BitVec.slt_iff_toInt_lt] at h1
  have hz : (0#32).toInt = 0 := by decide
  have hk' := small_toInt k hk
  rw [hz] at h0; rw [hk'] at h1
  rw [BitVec.toInt_eq_toNat_cond] at h0 h1
  have := e.isLt
  split at h1 <;> omega

theorem within_of (e : BitVec 32) (k : ℕ) (hk : k < 2 ^ 30) (h0 : (0#32).sle e = true) (h1 : e.sle (BitVec.ofNat 32 k) = true) : e.toNat ≤ k := by
  rw [BitVec.sle_iff_toInt_le] at h0 h1
  have hz : (0#32).toInt = 0 := by decide
  have hk' := small_toInt k hk
  rw [hz] at h0; rw [hk'] at h1
  rw [BitVec.toInt_eq_toNat_cond] at h0 h1
  have := e.isLt
  split at h1 <;> omega

/-- The smaller of a small number and one less than a positive one, as a number. -/
theorem min_pred (n : ℕ) (hn : n < 2 ^ 30) (t : BitVec 32) (ht : 1 ≤ t.toInt) :
    (IntOp.minsi (BitVec.ofNat 32 n) (IntOp.subi t 1#32)).toNat = if (n : ℤ) < t.toInt then n else (t.toInt - 1).toNat := by
  have ht2 := BitVec.toInt_lt (x := t)
  have hs : (IntOp.subi t 1#32).toInt = t.toInt - 1 := by
    unfold IntOp.subi
    rw [BitVec.toInt_sub, show (1#32).toInt = 1 from by decide, Int.bmod_def]; omega
  have hsn : (IntOp.subi t 1#32).toNat = (t.toInt - 1).toNat := by
    rw [BitVec.toInt_eq_toNat_cond] at hs
    have := (IntOp.subi t 1#32).isLt
    split at hs <;> omega
  unfold IntOp.minsi
  by_cases h : (n : ℤ) < t.toInt - 1
  · have e : BitVec.slt (BitVec.ofNat 32 n) (IntOp.subi t 1#32) = true := by
      rw [BitVec.slt_iff_toInt_lt, hs, small_toInt n hn]; exact h
    rw [if_pos e, if_pos (by omega), BitVec.toNat_ofNat]; omega
  · have e : ¬BitVec.slt (BitVec.ofNat 32 n) (IntOp.subi t 1#32) = true := by
      rw [BitVec.slt_iff_toInt_lt, hs, small_toInt n hn]; exact h
    rw [if_neg e, hsn]
    split <;> omega

variable {F : FTy → Type} [FloatOps F]

variable (m : (ℓ : Loc nD τ sig) → Buf (Elt F) ℓ)

/-- The only index of a scalar. -/
def noIdx : S_.Idx := fun a => a.elim0

/-- A super block's expert, its number of live sub-blocks, and the number of live super blocks. -/
def expert (i : Fin 117) : BitVec 32 := experts m (ix1 i)
def count (i : Fin 117) : BitVec 32 := counts m (ix1 i)
def total : BitVec 32 := totals m noIdx

theorem totals_eq (j : S_.Idx) : totals m j = total m := congrArg (totals m) (funext fun a => a.elim0)

/-- The experts' counts of rows as numbers. -/
abbrev rowNum : ℕ → ℕ := Cert.Ffn.rowNum (rowsIn m)

theorem rowsIn_at (i : Fin 32) : rowsIn m (ValueIdx.ix1 i) = BitVec.ofNat 32 (rowNum m i.val) := Cert.Ffn.rowNum_at _ i

/-- What the precondition says of the counts. -/
structure Tables : Prop where
  le : ∀ e, rowNum m e ≤ 65536
  pos : 1 ≤ ((List.range 32).map (rowNum m)).sum

/-- The precondition's two tests are that. -/
theorem tables_of (a1 : FVec F Cert.Pre_routed.S89856x2048 .bf16) (a2 : FVec F Cert.Pre_routed.S1x32x2048x4096 .f32) (a3 : FVec F Cert.Pre_routed.S1x32x4096 .f32) (a4 : FVec F Cert.Pre_routed.S1x32x2048x2048 .f32) (a5 : FVec F Cert.Pre_routed.S1x32x2048 .f32)
    (h1 : (Cert.Pre_routed.fn (F := F) (rowsIn m) a1 a2 a3 a4 a5).1 = (fun _ => 1#1))
    (h2 : (Cert.Pre_routed.fn (F := F) (rowsIn m) a1 a2 a3 a4 a5).2 = (fun _ => 1#1)) : Tables m := by
  have k1 (i : Fin 32) : IntOp.andi (BitVec.ofBool ((0#32).sle (rowsIn m (ValueIdx.ix1 i)))) (BitVec.ofBool ((rowsIn m (ValueIdx.ix1 i)).sle 65536#32)) = 1#1 := congrFun h1 (ValueIdx.ix1 i)
  have hle : ∀ e, rowNum m e ≤ 65536 := fun e => by
    unfold rowNum Cert.Ffn.rowNum
    split
    · exact within_of _ 65536 (by decide) ((bit_and _ _).mp (k1 _)).1 ((bit_and _ _).mp (k1 _)).2
    · omega
  refine ⟨hle, ?_⟩
  have hd : Shape.ReducesTo (⟨1, ![32]⟩ : Shape) [0] Routing.shape0 := by decide
  have hs := Routing.reduce_sum (N := 32) (rowsIn m) (rowNum m) (rowsIn_at m) hd h_S_
  have k2 : BitVec.ofBool ((1#32).sle (Host.reduce IntOp.addi (rowsIn m) (constantI Routing.shape0 32 0#32) hd h_S_ ValueIdx.ix0)) = 1#1 := congrFun h2 ValueIdx.ix0
  have hb := Cert.Ffn.Route.sum_le (rowNum m) hle 32
  rw [hs, bit_true, BitVec.sle_iff_toInt_le, small_toInt 1 (by omega), small_toInt (List.map (rowNum m) (List.range 32)).sum (by omega)] at k2
  omega

/-! ## The host's words as numbers -/

section Numbers
variable {m} (hT : Tables m)

/-- How many super blocks are live. -/
abbrev liveNum (m : (ℓ : Loc nD τ sig) → Buf (Elt F) ℓ) : ℕ := Cert.Ffn.Route.upto (rowNum m) 32

include hT in
theorem liveNum_pos : 1 ≤ liveNum m := Cert.Ffn.Route.live_of _ hT.pos

include hT in
theorem liveNum_le : liveNum m ≤ 2752 := Cert.Ffn.Route.upto_le _ hT.le 32

include hT in
theorem needs_at (i : Fin 32) : needs m (ValueIdx.ix1 i) = BitVec.ofNat 32 (Cert.Ffn.Route.need (rowNum m) i.val) :=
  Cert.Ffn.Route.needV_at bcast_S_S32 hT.le (rowsIn m) (rowsIn_at m) i

include hT in
theorem ends_at (i : Fin 32) : ends m (ValueIdx.ix1 i) = BitVec.ofNat 32 (Cert.Ffn.Route.upto (rowNum m) (i.val + 1)) := by
  have h := Cert.Ffn.Route.sumsV_at (N := rowNum m) bcast_S_S_ reduceWindows_S32_S32_w32s1p31_0 h_S_ 1 (needs m) (fun i => by rw [Nat.one_mul]; exact needs_at hT i) i
  rw [Nat.one_mul] at h
  exact h

include hT in
theorem starts_at (i : Fin 32) : starts m (ValueIdx.ix1 i) = BitVec.ofNat 32 (Cert.Ffn.Route.upto (rowNum m) i.val) := by
  show ends m (ValueIdx.ix1 i) - needs m (ValueIdx.ix1 i) = _
  have h := Cert.Ffn.Route.upto_succ (rowNum m) i.val
  rw [ends_at hT, needs_at hT, Routing.ofNat32_sub (by omega)]
  exact congrArg (BitVec.ofNat 32) (by omega)

include hT in
theorem totals_at : totals m ValueIdx.ix0 = BitVec.ofNat 32 (liveNum m) :=
  (Cert.Ffn.Route.lastV_at slices_S32_S1_31 shapeCasts_S1_S_ (ends m)).trans (ends_at hT 31)

include hT in
theorem total_toInt : (total m).toInt = liveNum m := by
  have h := liveNum_le hT
  rw [← totals_eq m ValueIdx.ix0, totals_at hT, small_toInt _ (by omega)]

include hT in
theorem lives_at (i : Fin 117) : lives m (ValueIdx.ix1 i) = BitVec.ofNat 32 (min i.val (liveNum m - 1)) :=
  Cert.Ffn.Route.liveV_at bcast_S_S117 (totals m) _ (totals_at hT) (liveNum_pos hT) (by have := liveNum_le hT; omega) i

include hT in
theorem experts_at (i : Fin 117) : experts m (ValueIdx.ix1 i) = BitVec.ofNat 32 (Cert.Ffn.Route.owner (rowNum m) (min i.val (liveNum m - 1))) := by
  have hi := i.isLt
  exact Cert.Ffn.Route.searchV_at bcast_S_S117 h_S_ bcast_S32_S1x32_1 bcast_S1x32_S117x32_0_1 bcast_S117_S117x1_0 bcast_S117x1_S117x32_0_1 natLt_1_32 reducesTo_S117x32_S117_d1 (ends m) (lives m)
    (fun q => Cert.Ffn.Route.upto (rowNum m) (q + 1)) (min i.val (liveNum m - 1)) i (ends_at hT)
    (fun q => by have := Cert.Ffn.Route.upto_le _ hT.le (q.val + 1); have := q.isLt; show Cert.Ffn.Route.upto (rowNum m) (q.val + 1) < _; omega) (lives_at hT i) (by omega)

include hT in
/-- A live super block's expert. -/
theorem experts_live (i : Fin 117) (h : i.val < liveNum m) : experts m (ValueIdx.ix1 i) = BitVec.ofNat 32 (Cert.Ffn.Route.owner (rowNum m) i.val) := by
  rw [experts_at hT, Nat.min_eq_left (by omega)]

include hT in
theorem counts_at (i : Fin 117) : counts m (ValueIdx.ix1 i) = BitVec.ofNat 32 (Cert.Ffn.Route.active (rowNum m) i.val) :=
  Cert.Ffn.Route.activeV_at bcast_S_S117 hT.le (totals m) (lefts m) (totals_at hT) i fun h =>
    Cert.Ffn.Route.leftV_at bcast_S_S117 bcast_S117_S117x1_0 gather_S32_S117x1_S117_n_0_n_n_0_1_1 hT.le (rowsIn m) (rowsIn_at m) rfl rfl rfl rfl (starts m) (starts_at hT) (experts m) (lives m) i h
      (experts_live hT i h) ((lives_at hT i).trans (congrArg (BitVec.ofNat 32) (Nat.min_eq_left (by have : i.val < liveNum m := h; omega))))

include hT in
theorem count_num (i : Fin 117) : (count m i).toNat = Cert.Ffn.Route.active (rowNum m) i.val := by
  have h := Cert.Ffn.Route.active_le (rowNum m) i.val
  show (counts m (ix1 i)).toNat = _
  rw [ix1_eq_valueIdx, counts_at hT, BitVec.toNat_ofNat, Nat.mod_eq_of_lt (by omega)]

theorem Tables.expert_lt (hT : Tables m) (i : Fin 117) : (expert m i).toNat < 32 := by
  have h := Cert.Ffn.Route.owner_lt (rowNum m) (min i.val (liveNum m - 1))
  show (experts m (ix1 i)).toNat < 32
  rw [ix1_eq_valueIdx, experts_at hT, BitVec.toNat_ofNat, Nat.mod_eq_of_lt (by omega)]
  exact h

theorem Tables.count_le (hT : Tables m) (i : Fin 117) : (count m i).toNat ≤ 3 := (count_num hT i).trans_le (Cert.Ffn.Route.active_le _ _)

theorem Tables.count_pos (hT : Tables m) (i : Fin 117) : (count m i).toNat ≠ 0 ↔ (i.val : ℤ) < (total m).toInt := by
  rw [count_num hT, total_toInt hT, Cert.Ffn.Route.active_pos, Int.ofNat_lt]

theorem Tables.total_pos (hT : Tables m) : 1 ≤ (total m).toInt := by
  have h := liveNum_pos hT
  rw [total_toInt hT]
  omega

end Numbers

/-! ## The tables the call prefetches -/

/-- The row block a super block reads: its own, or the last live one's. -/
theorem tbl2_apply (i : Fin 117) : tbl m 2 (ix1 i : S117.Idx) = IntOp.minsi (BitVec.ofNat 32 i.val) (IntOp.subi (total m) 1#32) := by
  rw [tbl2_eq]
  show IntOp.minsi (BitVec.ofNat 32 i.val) (IntOp.subi (totals m _) 1#32) = _
  rw [totals_eq]

/-- Whether a super block's weights are those of the super block before it. -/
theorem tbl3_apply (i : Fin 117) : ∃ x : S117.Idx → BitVec 32, (∀ h : i.val = 0, x (ix1 i) = 4294967295#32) ∧ (∀ j : Fin 117, i.val = j.val + 1 → x (ix1 i) = expert m j)
    ∧ tbl m 3 (ix1 i : S117.Idx) = (IntOp.andi (IntOp.cmpi .eq (expert m i) (x (ix1 i))) (IntOp.cmpi .slt (BitVec.ofNat 32 i.val) (total m))).setWidth 32 := by
  refine ⟨concatenate S117 0 [⟨S1, (broadcastInDim S1 ![] bcast_S_S1 (constantI S_ 32 4294967295#32) : S1.Idx → BitVec 32)⟩, ⟨S116, extractStridedSlice S116 ![0] (experts m) slices_S117_S116_0⟩] concatenates_S1_S116_S117_d0, fun h => ?_, fun j h => ?_, ?_⟩
  · pointwise
    exact dif_pos (by omega)
  · pointwise
    refine (dif_neg (by omega)).trans ?_
    exact congrArg (fun k : Fin 117 => experts m (ix1 k)) (Fin.ext (by show i.val - 1 = j.val; omega))
  · rw [tbl3_eq]
    show (IntOp.andi (IntOp.cmpi .eq (experts m (ix1 i)) _) (IntOp.cmpi .slt (BitVec.ofNat 32 i.val) (totals m _))).setWidth 32 = _
    rw [totals_eq]
    rfl

variable {m} (hT : Tables m)

include hT in
/-- A super block reads a row block inside the array, -/
theorem row_le (i : Fin 117) : (tbl m 2 (ix1 i : S117.Idx) : BitVec 32).toNat ≤ 116 := by
  rw [tbl2_apply, min_pred _ (by omega) _ hT.total_pos]
  have := i.isLt
  split <;> omega

include hT in
/-- and its own if it has live rows. -/
theorem row_eq (i : Fin 117) (hi : (count m i).toNat ≠ 0) : (tbl m 2 (ix1 i : S117.Idx) : BitVec 32).toNat = i.val := by
  rw [tbl2_apply, min_pred _ (by omega) _ hT.total_pos, if_pos ((hT.count_pos i).mp hi)]

include hT in
/-- A super block with the weights of the one before has the same expert and live rows, and so has that one. -/
theorem same_of (i : Fin 117) (hs : (tbl m 3 (ix1 i : S117.Idx) : BitVec 32) ≠ 0#32) :
    ∃ j : Fin 117, i.val = j.val + 1 ∧ expert m i = expert m j ∧ (count m j).toNat ≠ 0 := by
  obtain ⟨x, h0, h1, e⟩ := tbl3_apply m i
  rw [e] at hs
  have hb : IntOp.cmpi .eq (expert m i) (x (ix1 i)) = 1#1 ∧ IntOp.cmpi .slt (BitVec.ofNat 32 i.val) (total m) = 1#1 := both_of _ _ hs
  have he : expert m i = x (ix1 i) := by
    have := hb.1
    unfold IntOp.cmpi at this
    rw [bit_true] at this
    exact beq_iff_eq.mp this
  have ht : (i.val : ℤ) < (total m).toInt := by
    have := hb.2
    unfold IntOp.cmpi at this
    rw [bit_true, BitVec.slt_iff_toInt_lt, small_toInt _ (by omega)] at this
    exact this
  by_cases hz : i.val = 0
  · have := hT.expert_lt i
    rw [he, h0 hz] at this
    exact absurd this (by decide)
  · refine ⟨⟨i.val - 1, by omega⟩, by show i.val = i.val - 1 + 1; omega, he.trans (h1 _ (by show i.val = i.val - 1 + 1; omega)), (hT.count_pos _).mpr ?_⟩
    show ((i.val - 1 : ℕ) : ℤ) < _
    omega

/-! ## The blocks are inside the arrays -/

variable (m)

theorem sb_off (i : grid0.Coords) : ((Scalar.indexCast (BitVec.ofNat 32 (i 0).val) : Index)).toNat = (i 0).val :=
  congrFun (off1_eq i) 0

theorem at_eq (x : S117.Idx → BitVec 32) (i : grid0.Coords) (inb : ∀ a, (![(Scalar.indexCast (BitVec.ofNat 32 (i 0).val) : Index).toNat] : Fin 1 → ℕ) a + S1.size a ≤ S117.size a) (h) :
    x ((Rect.unit (s := S117) ![(Scalar.indexCast (BitVec.ofNat 32 (i 0).val) : Index).toNat] S1.size inb).emb (Shape.Idx.first h)) = word x i := by
  refine congrArg x (funext fun d => Fin.ext ?_)
  obtain rfl : d = 0 := Subsingleton.elim _ _
  show (Scalar.indexCast (BitVec.ofNat 32 (i 0).val) : Index).toNat + 0 * 1 = (i 0).val
  rw [sb_off]; omega

theorem at0_eq (i : grid0.Coords) (inb : ∀ a, (![(Scalar.indexCast (BitVec.ofNat 32 (i 0).val) : Index).toNat] : Fin 1 → ℕ) a + S1.size a ≤ S117.size a) :
    (tbl m).at 0 (Rect.unit (s := S117) ![(Scalar.indexCast (BitVec.ofNat 32 (i 0).val) : Index).toNat] S1.size inb) numel1_S1 = word (tbl m 0) i := at_eq (tbl m 0) i inb _

theorem at1_eq (i : grid0.Coords) (inb : ∀ a, (![(Scalar.indexCast (BitVec.ofNat 32 (i 0).val) : Index).toNat] : Fin 1 → ℕ) a + S1.size a ≤ S117.size a) :
    (tbl m).at 1 (Rect.unit (s := S117) ![(Scalar.indexCast (BitVec.ofNat 32 (i 0).val) : Index).toNat] S1.size inb) numel1_S1 = word (tbl m 1) i := at_eq (tbl m 1) i inb _

theorem at2_eq (i : grid0.Coords) (inb : ∀ a, (![(Scalar.indexCast (BitVec.ofNat 32 (i 0).val) : Index).toNat] : Fin 1 → ℕ) a + S1.size a ≤ S117.size a) :
    (tbl m).at 2 (Rect.unit (s := S117) ![(Scalar.indexCast (BitVec.ofNat 32 (i 0).val) : Index).toNat] S1.size inb) numel1_S1 = word (tbl m 2) i := at_eq (tbl m 2) i inb _

theorem at3_eq (i : grid0.Coords) (inb : ∀ a, (![(Scalar.indexCast (BitVec.ofNat 32 (i 0).val) : Index).toNat] : Fin 1 → ℕ) a + S1.size a ≤ S117.size a) :
    (tbl m).at 3 (Rect.unit (s := S117) ![(Scalar.indexCast (BitVec.ofNat 32 (i 0).val) : Index).toNat] S1.size inb) numel1_S1 = word (tbl m 3) i := at_eq (tbl m 3) i inb _

/-- The tile a window of the first weights reads: the point's own, or the last one where no row is live. -/
def tileWord (i : grid0.Coords) : BitVec 32 :=
  Scalar.select (Scalar.cmpi .sgt (word (tbl m 1) i) 0#32) (BitVec.ofNat 32 (i 1).val) 3#32

/-- The tile the window of the second weights reads. -/
def downWord (i : grid0.Coords) : BitVec 32 :=
  Scalar.select (Scalar.andi (Scalar.cmpi .sgt (word (tbl m 1) i) 0#32) (Scalar.cmpi .eq (word (tbl m 3) i) 0#32)) (BitVec.ofNat 32 (i 1).val) 3#32

theorem ix0_eq (i : grid0.Coords) : cc0_transform_0 k0_off1_inb numel1_S1 (tbl m) i = ![(word (tbl m 2) i).toNat, 0] :=
  congrArg (fun v : BitVec 32 => (![v.toNat, 0] : Fin 2 → ℕ)) (at2_eq m i (k0_off1_inb i))

theorem ix1_eq (i : grid0.Coords) : cc0_transform_1 k0_off1_inb numel1_S1 (tbl m) i = ![(word (tbl m 0) i).toNat, 0, (tileWord m i).toNat] :=
  congrArg₂ (fun v w : BitVec 32 => (![v.toNat, 0, (Scalar.select (Scalar.cmpi .sgt w 0#32) (BitVec.ofNat 32 (i 1).val) 3#32).toNat] : Fin 3 → ℕ)) (at0_eq m i (k0_off1_inb i)) (at1_eq m i (k0_off1_inb i))

theorem ix2_eq (i : grid0.Coords) : cc0_transform_2 k0_off1_inb numel1_S1 (tbl m) i = ![(word (tbl m 0) i).toNat, 0, (Scalar.addi (tileWord m i) 4#32).toNat] :=
  congrArg₂ (fun v w : BitVec 32 => (![v.toNat, 0, (Scalar.addi (Scalar.select (Scalar.cmpi .sgt w 0#32) (BitVec.ofNat 32 (i 1).val) 3#32) 4#32).toNat] : Fin 3 → ℕ)) (at0_eq m i (k0_off1_inb i)) (at1_eq m i (k0_off1_inb i))

theorem ix3_eq (i : grid0.Coords) : cc0_transform_3 k0_off1_inb numel1_S1 (tbl m) i = ![(word (tbl m 0) i).toNat, (downWord m i).toNat, 0] :=
  (congrArg₂ (fun v w : BitVec 32 => (![v.toNat, (Scalar.select (Scalar.andi (Scalar.cmpi .sgt w 0#32) (Scalar.cmpi .eq ((tbl m).at 3 (Rect.unit (s := S117) ![(Scalar.indexCast (BitVec.ofNat 32 (i 0).val) : Index).toNat] S1.size (k0_off1_inb i)) numel1_S1) 0#32)) (BitVec.ofNat 32 (i 1).val) 3#32).toNat, 0] : Fin 3 → ℕ)) (at0_eq m i (k0_off1_inb i)) (at1_eq m i (k0_off1_inb i))).trans
    (congrArg (fun u : BitVec 32 => (![(word (tbl m 0) i).toNat, (Scalar.select (Scalar.andi (Scalar.cmpi .sgt (word (tbl m 1) i) 0#32) (Scalar.cmpi .eq u 0#32)) (BitVec.ofNat 32 (i 1).val) 3#32).toNat, 0] : Fin 3 → ℕ)) (at3_eq m i (k0_off1_inb i)))

theorem ix4_eq (i : grid0.Coords) : cc0_transform_4 k0_off1_inb numel1_S1 (tbl m) i = ![(word (tbl m 0) i).toNat, 0, (tileWord m i).toNat] :=
  congrArg₂ (fun v w : BitVec 32 => (![v.toNat, 0, (Scalar.select (Scalar.cmpi .sgt w 0#32) (BitVec.ofNat 32 (i 1).val) 3#32).toNat] : Fin 3 → ℕ)) (at0_eq m i (k0_off1_inb i)) (at1_eq m i (k0_off1_inb i))

theorem ix5_eq (i : grid0.Coords) : cc0_transform_5 k0_off1_inb numel1_S1 (tbl m) i = ![(word (tbl m 0) i).toNat, 0, (Scalar.addi (tileWord m i) 4#32).toNat] :=
  congrArg₂ (fun v w : BitVec 32 => (![v.toNat, 0, (Scalar.addi (Scalar.select (Scalar.cmpi .sgt w 0#32) (BitVec.ofNat 32 (i 1).val) 3#32) 4#32).toNat] : Fin 3 → ℕ)) (at0_eq m i (k0_off1_inb i)) (at1_eq m i (k0_off1_inb i))

theorem ix6_eq (i : grid0.Coords) : cc0_transform_6 k0_off1_inb numel1_S1 (tbl m) i = ![(word (tbl m 0) i).toNat, 0, 0] :=
  congrArg (fun v : BitVec 32 => (![v.toNat, 0, 0] : Fin 3 → ℕ)) (at0_eq m i (k0_off1_inb i))

theorem tile_or (c : BitVec 1) (k : Fin 4) : (Scalar.select c (BitVec.ofNat 32 k.val) 3#32 : BitVec 32).toNat ≤ 3 ∧ (Scalar.addi (Scalar.select c (BitVec.ofNat 32 k.val) 3#32) 4#32 : BitVec 32).toNat = (Scalar.select c (BitVec.ofNat 32 k.val) 3#32 : BitVec 32).toNat + 4 := by
  revert c k; decide

theorem tile_le (i : grid0.Coords) : (tileWord m i).toNat ≤ 3 := (tile_or _ (i 1)).1
theorem tile_add (i : grid0.Coords) : (Scalar.addi (tileWord m i) 4#32).toNat = (tileWord m i).toNat + 4 := (tile_or _ (i 1)).2
theorem down_le (i : grid0.Coords) : (downWord m i).toNat ≤ 3 := (tile_or _ (i 1)).1

/-- The same pair as blocks: in bounds where it is, whatever its name. -/
theorem rows_whole (k : ℕ) (hk : k ≤ 116) : ∃ h : (∀ a, ((![k, 0] : Fin 2 → ℕ) a + 1) * S768x2048.size a ≤ S89856x2048.size a), EltTy.bits .bf16 = 32 ∨ (Rect.block (s := S89856x2048) S768x2048.size (![k, 0] : Fin 2 → ℕ) h).WholeWords (EltTy.packing .bf16) := by
  have e : cc0_transform_7 (fun a => match a with | ⟨0, _⟩ => (⟨k, by show k < 117; omega⟩ : Fin 117) | ⟨1, _⟩ => (⟨0, by decide⟩ : Fin 4)) = ![k, 0] := by
    show (![(BitVec.ofNat 32 k).toNat, 0] : Fin 2 → ℕ) = _
    rw [BitVec.toNat_ofNat, Nat.mod_eq_of_lt (by omega)]
  have h := hinb0_7 (fun a => match a with | ⟨0, _⟩ => (⟨k, by show k < 117; omega⟩ : Fin 117) | ⟨1, _⟩ => (⟨0, by decide⟩ : Fin 4))
  have hw := hwx0_7 (fun a => match a with | ⟨0, _⟩ => (⟨k, by show k < 117; omega⟩ : Fin 117) | ⟨1, _⟩ => (⟨0, by decide⟩ : Fin 4))
  rw [e] at h
  refine ⟨h, ?_⟩
  simp only [e] at hw
  exact hw

variable {m} (hT : Tables m)

include hT in
theorem expert_word (i : grid0.Coords) : (word (tbl m 0) i).toNat ≤ 31 := by
  rw [tbl0_eq]; exact Nat.le_of_lt_succ (hT.expert_lt (i 0))

include hT in
/-- Every block a window names is inside its array. -/
theorem ok_of : Ok m := by
  refine ⟨fun i => ?_, fun i => ?_, fun i => ?_, fun i => ?_, fun i => ?_, fun i => ?_, fun i => ?_⟩
  · rw [ix0_eq]; exact rows_whole _ (row_le hT (i 0))
  all_goals have he := expert_word hT i
  all_goals have ht := tile_le m i
  all_goals have hd := down_le m i
  · rw [ix1_eq]
    refine ⟨fun a => ?_, .inl rfl⟩
    match a with
    | ⟨0, _⟩ => show ((word (tbl m 0) i).toNat + 1) * 1 ≤ 32; omega
    | ⟨1, _⟩ => show (0 + 1) * 2048 ≤ 2048; omega
    | ⟨2, _⟩ => show ((tileWord m i).toNat + 1) * 512 ≤ 4096; omega
  · rw [ix2_eq, tile_add]
    refine ⟨fun a => ?_, .inl rfl⟩
    match a with
    | ⟨0, _⟩ => show ((word (tbl m 0) i).toNat + 1) * 1 ≤ 32; omega
    | ⟨1, _⟩ => show (0 + 1) * 2048 ≤ 2048; omega
    | ⟨2, _⟩ => show ((tileWord m i).toNat + 4 + 1) * 512 ≤ 4096; omega
  · rw [ix3_eq]
    refine ⟨fun a => ?_, .inl rfl⟩
    match a with
    | ⟨0, _⟩ => show ((word (tbl m 0) i).toNat + 1) * 1 ≤ 32; omega
    | ⟨1, _⟩ => show ((downWord m i).toNat + 1) * 512 ≤ 2048; omega
    | ⟨2, _⟩ => show (0 + 1) * 2048 ≤ 2048; omega
  · rw [ix4_eq]
    refine ⟨fun a => ?_, .inl rfl⟩
    match a with
    | ⟨0, _⟩ => show ((word (tbl m 0) i).toNat + 1) * 1 ≤ 32; omega
    | ⟨1, _⟩ => show (0 + 1) * 1 ≤ 1; omega
    | ⟨2, _⟩ => show ((tileWord m i).toNat + 1) * 512 ≤ 4096; omega
  · rw [ix5_eq, tile_add]
    refine ⟨fun a => ?_, .inl rfl⟩
    match a with
    | ⟨0, _⟩ => show ((word (tbl m 0) i).toNat + 1) * 1 ≤ 32; omega
    | ⟨1, _⟩ => show (0 + 1) * 1 ≤ 1; omega
    | ⟨2, _⟩ => show ((tileWord m i).toNat + 4 + 1) * 512 ≤ 4096; omega
  · rw [ix6_eq]
    refine ⟨fun a => ?_, .inl rfl⟩
    match a with
    | ⟨0, _⟩ => show ((word (tbl m 0) i).toNat + 1) * 1 ≤ 32; omega
    | ⟨1, _⟩ => show (0 + 1) * 1 ≤ 1; omega
    | ⟨2, _⟩ => show (0 + 1) * 2048 ≤ 2048; omega

/-! ## The entries by super block -/

theorem coord_pt_sb (hO : Ok m) (i : Fin 117) (k : Fin 4) : (grid0.coords (pt m hO i.val k) 0) = i := by
  refine Fin.ext ((coord_sb (pt m hO i.val k)).trans ?_)
  show (4 * i.val + k.val) % 468 / 4 = i.val
  omega

theorem coord_pt_tile (hO : Ok m) (i : Fin 117) (k : Fin 4) : (grid0.coords (pt m hO i.val k) 1) = k := by
  refine Fin.ext ((coord_tile (pt m hO i.val k)).trans ?_)
  show (4 * i.val + k.val) % 468 % 4 = k.val
  omega

theorem word_pt (x : S117.Idx → BitVec 32) (hO : Ok m) (i : Fin 117) (k : Fin 4) : word x (grid0.coords (pt m hO i.val k)) = x (ix1 i) := by
  show x (ValueIdx.ix1 (n := 117) (grid0.coords (pt m hO i.val k) 0)) = _
  rw [coord_pt_sb, ← ix1_eq_valueIdx]

theorem live_eq (hO : Ok m) (c : Dev nD) (i : Fin 117) : (blocks m hO c).live i.val = (count m i).toNat := by
  refine (if_pos i.isLt).trans (congrArg BitVec.toNat ((word_pt (tbl m 1) hO i 0).trans ?_))
  rw [tbl1_eq]
  rfl

theorem same_eq (hO : Ok m) (c : Dev nD) (i : Fin 117) : (blocks m hO c).same i.val = (tbl m 3 (ix1 i : S117.Idx) : BitVec 32) :=
  word_pt (tbl m 3) hO i 0

include hT in
/-- The entries go together. -/
theorem linked_of (hO : Ok m) : Linked m hO := fun c => by
  have hl : ∀ i, (blocks m hO c).live i ≠ 0 → i < 117 := fun i h => by
    by_contra hn
    exact h (if_neg hn)
  refine ⟨fun i => ?_, fun i hs h => ?_⟩
  · by_cases h : i < 117
    · exact (live_eq hO c ⟨i, h⟩).trans_lt (Nat.lt_succ_of_le (hT.count_le ⟨i, h⟩))
    · rw [show (blocks m hO c).live i = 0 from if_neg h]; decide
  · have hi := hl i h
    rw [same_eq hO c ⟨i, hi⟩] at hs
    obtain ⟨j, e, -, hj⟩ := same_of hT ⟨i, hi⟩ hs
    exact ⟨j.val, e, by rw [live_eq]; exact hj⟩

end Cert.Kernel2Ideal.Ffn

end
-- ==== Proof.Ffn.Words.lean ====
/- The frame of the experts' program over the machine's words, from the idealized program's run over any floats. -/
module

public import proofs.«01_k».proof.Defs
public import proofs.«01_k».proof.Proof.Gen.Kernel2
public import proofs.«01_k».proof.Proof.Gen.Kernel2.Launch
public import proofs.«01_k».proof.Proof.Gen.Pre_routed
public import proofs.«01_k».proof.Proof.Ffn.Launch
public import proofs.«01_k».proof.Proof.Ffn.Tables

@[expose] public section

set_option maxRecDepth 16384

namespace Cert.Proof

set_option maxHeartbeats 8000000

open Idealize.ShloMosaic Idealize.SL.Sem

/-- The two programs' bodies are one text: read over the machine's words they are equal. -/
theorem bodies2_eq : @Cert.Kernel2.defs₀ Bits _ _ = @Cert.Kernel2Ideal.defs₀ Bits _ _ := by
  unfold Cert.Kernel2.defs₀ Cert.Kernel2Ideal.defs₀
  refine congrArg (Defs.onTc (Λ := Cert.Kernel2Ideal.Λ₀)) (funext fun l => funext fun a => ?_)
  match l, a with
  | 0, (t, s) => rfl
  | ⟨n + 1, h⟩, _ => exact absurd h (Nat.not_lt.2 (Nat.le_add_left _ _))

/-- So are the two programs' definitions. -/
theorem defs2_eq : @Cert.Kernel2.defs Bits _ _ = @Cert.Kernel2Ideal.defs Bits _ _ := by
  unfold Cert.Kernel2.defs Cert.Kernel2Ideal.defs
  exact congrArg (Pipeline.defs (@Cert.Kernel2Ideal.pcfgs Bits _ _)) bodies2_eq

/-- So are the host's operations, stretch by stretch. -/
theorem host_eq : Cert.Kernel2.Gen.hostOps0 (F := Bits) = Cert.Kernel2Ideal.Gen.hostOps0 (F := Bits) := rfl
theorem host_1_eq : Cert.Kernel2.Gen.hostOps0_1 (F := Bits) = Cert.Kernel2Ideal.Gen.hostOps0_1 (F := Bits) := rfl
theorem host_2_eq : Cert.Kernel2.Gen.hostOps0_2 (F := Bits) = Cert.Kernel2Ideal.Gen.hostOps0_2 (F := Bits) := rfl
theorem host_3_eq : Cert.Kernel2.Gen.hostOps0_3 (F := Bits) = Cert.Kernel2Ideal.Gen.hostOps0_3 (F := Bits) := rfl
theorem host_4_eq : Cert.Kernel2.Gen.hostOps0_4 (F := Bits) = Cert.Kernel2Ideal.Gen.hostOps0_4 (F := Bits) := rfl
theorem host_5_eq : Cert.Kernel2.Gen.hostOps0_5 (F := Bits) = Cert.Kernel2Ideal.Gen.hostOps0_5 (F := Bits) := rfl
theorem host_6_eq : Cert.Kernel2.Gen.hostOps0_6 (F := Bits) = Cert.Kernel2Ideal.Gen.hostOps0_6 (F := Bits) := rfl
theorem host_7_eq : Cert.Kernel2.Gen.hostOps0_7 (F := Bits) = Cert.Kernel2Ideal.Gen.hostOps0_7 (F := Bits) := rfl
theorem host_8_eq : Cert.Kernel2.Gen.hostOps0_8 (F := Bits) = Cert.Kernel2Ideal.Gen.hostOps0_8 (F := Bits) := rfl
theorem host_9_eq : Cert.Kernel2.Gen.hostOps0_9 (F := Bits) = Cert.Kernel2Ideal.Gen.hostOps0_9 (F := Bits) := rfl

/-- The program's items from the stretches of the host's operations. -/
def items (l0 l1 l2 l3 l4 l5 l6 l7 l8 l9 : List (HloOp Cert.Kernel2Ideal.τ Cert.Kernel2Ideal.sig (Elt Bits))) : Prog (TpuEff Cert.Kernel2Ideal.nD Cert.Kernel2Ideal.τ Cert.Kernel2Ideal.sig (Elt Bits) (Pipeline.Sig Cert.Kernel2Ideal.Λ₀ (Fin 1) fun p => (Cert.Kernel2Ideal.pcfgs (F := Bits) p).Adm) .tc) PUnit :=
  Pipeline.chain [StableHlo.seq l0, StableHlo.seq l1, StableHlo.seq l2, StableHlo.seq l3, StableHlo.seq l4, StableHlo.seq l5, StableHlo.seq l6, StableHlo.seq l7, StableHlo.seq l8, StableHlo.seq l9,
    Prog.lift (.customCall (Pipeline.entry 0) ())]

/-- So are the two programs. -/
theorem main2_eq : @Cert.Kernel2.main Bits _ _ = @Cert.Kernel2Ideal.main Bits _ _ := by
  funext c
  refine (Cert.Kernel2.Gen.main_chain (F := Bits) c).trans (Eq.trans ?_ (Cert.Kernel2Ideal.Gen.main_chain (F := Bits) c).symm)
  show items (Cert.Kernel2.Gen.hostOps0 (F := Bits)) (Cert.Kernel2.Gen.hostOps0_1 (F := Bits)) (Cert.Kernel2.Gen.hostOps0_2 (F := Bits)) (Cert.Kernel2.Gen.hostOps0_3 (F := Bits)) (Cert.Kernel2.Gen.hostOps0_4 (F := Bits)) (Cert.Kernel2.Gen.hostOps0_5 (F := Bits)) (Cert.Kernel2.Gen.hostOps0_6 (F := Bits)) (Cert.Kernel2.Gen.hostOps0_7 (F := Bits)) (Cert.Kernel2.Gen.hostOps0_8 (F := Bits)) (Cert.Kernel2.Gen.hostOps0_9 (F := Bits)) = items (Cert.Kernel2Ideal.Gen.hostOps0 (F := Bits)) (Cert.Kernel2Ideal.Gen.hostOps0_1 (F := Bits)) (Cert.Kernel2Ideal.Gen.hostOps0_2 (F := Bits)) (Cert.Kernel2Ideal.Gen.hostOps0_3 (F := Bits)) (Cert.Kernel2Ideal.Gen.hostOps0_4 (F := Bits)) (Cert.Kernel2Ideal.Gen.hostOps0_5 (F := Bits)) (Cert.Kernel2Ideal.Gen.hostOps0_6 (F := Bits)) (Cert.Kernel2Ideal.Gen.hostOps0_7 (F := Bits)) (Cert.Kernel2Ideal.Gen.hostOps0_8 (F := Bits)) (Cert.Kernel2Ideal.Gen.hostOps0_9 (F := Bits))
  rw [host_eq, host_1_eq, host_2_eq, host_3_eq, host_4_eq, host_5_eq, host_6_eq, host_7_eq, host_8_eq, host_9_eq]

/-- The tables of the program over the machine's words go together where the precondition holds, -/
theorem tables_words (m : (ℓ : Loc Cert.Kernel2.nD Cert.Kernel2.τ Cert.Kernel2.sig) → Buf (Elt Bits) ℓ) (h : Cert.Pre_Kernel2 (hPre_routed := Cert.Pre_routed.Gen.facts) m) :
    Cert.Kernel2Ideal.Ffn.Tables (F := Bits) m :=
  Cert.Kernel2Ideal.Ffn.tables_of (F := Bits) m _ _ _ _ _ (h 0).1 (h 0).2

/-- and so are the idealized program's. -/
theorem tables_ideal (m : (ℓ : Loc Cert.Kernel2Ideal.nD Cert.Kernel2Ideal.τ Cert.Kernel2Ideal.sig) → Buf (Elt Ideal) ℓ) (h : Cert.Pre_Kernel2Ideal (hPre_routed := Cert.Pre_routed.Gen.facts) m) :
    Cert.Kernel2Ideal.Ffn.Tables (F := Ideal) m :=
  Cert.Kernel2Ideal.Ffn.tables_of (F := Ideal) m _ _ _ _ _ (h 0).1 (h 0).2

/-- The frame of the program as printed is the frame of the idealized one, read over the machine's words. -/
theorem frame2_words : Cert.quiescent_Kernel2 (hKernel2 := Cert.Kernel2.Gen.facts) (hPre_routed := Cert.Pre_routed.Gen.facts) := by
  intro m g h
  rw [defs2_eq, main2_eq]
  have hT := tables_words m h
  exact Cert.Kernel2Ideal.Ffn.frame (F := Bits) m g (Cert.Kernel2Ideal.Ffn.ok_of hT) (Cert.Kernel2Ideal.Ffn.linked_of hT _)

/-- The frame of the idealized program. -/
theorem frame2_ideal : Cert.quiescent_Kernel2Ideal (hKernel2Ideal := Cert.Kernel2Ideal.Gen.facts) (hPre_routed := Cert.Pre_routed.Gen.facts) := by
  intro m g h
  have hT := tables_ideal m h
  exact Cert.Kernel2Ideal.Ffn.frame (F := Ideal) m g (Cert.Kernel2Ideal.Ffn.ok_of hT) (Cert.Kernel2Ideal.Ffn.linked_of hT _)

end Cert.Proof

end
-- ==== Proof.Ffn.Blocks.lean ====
/- The blocks the experts' body reads at a grid point of a super block with live rows, as entries of the arrays in memory
   at the start: the super block's own rows, and its expert's weights and biases. -/
module

public import proofs.«01_k».proof.Proof.Ffn.Tables
public import proofs.«01_k».proof.Proof.Ffn.Spec
public import Idealize.ShloMosaic.Lib.Pipeline.Value
public import Idealize.ShloMosaic.Lib.Pipeline.ValueKit

@[expose] public section

set_option maxRecDepth 16384

noncomputable section

namespace Cert.Kernel2Ideal.Ffn

open Idealize.ShloMosaic Idealize.ShloMosaic.TcCoe
open Idealize.SL.Sem
open Cert.Kernel2Ideal Cert.Kernel2Ideal.Gen

variable (m : (ℓ : Loc nD τ sig) → Buf (Elt Ideal) ℓ) (hO : Ok m) (c : Dev nD)

/-- The rows, the weights and the biases in memory at the start. -/
abbrev xs : FVec Ideal S89856x2048 .bf16 := m ((c : Thread nD τ).loc main_arg1)
abbrev w1s : FVec Ideal S1x32x2048x4096 .f32 := m ((c : Thread nD τ).loc main_arg2)
abbrev b1s : FVec Ideal S1x32x4096 .f32 := m ((c : Thread nD τ).loc main_arg3)
abbrev w2s : FVec Ideal S1x32x2048x2048 .f32 := m ((c : Thread nD τ).loc main_arg4)
abbrev b2s : FVec Ideal S1x32x2048 .f32 := m ((c : Thread nD τ).loc main_arg5)

/-- The call's operands. -/
abbrev opX : FVec Ideal S89856x2048 .bf16 := V m c main_arg1
abbrev opW1 : FVec Ideal S32x2048x4096 .f32 := V m c main_v57
abbrev opW2 : FVec Ideal S32x2048x2048 .f32 := V m c main_v58
abbrev opB1 : FVec Ideal S32x1x4096 .f32 := V m c main_v60
abbrev opB2 : FVec Ideal S32x1x2048 .f32 := V m c main_v62

theorem opX_eq : opX m c = xs m c := by
  exact V_main_arg1 m c

set_option maxHeartbeats 4000000 in
theorem opW1_eq : opW1 m c = shapeCast S32x2048x4096 (w1s m c) shapeCasts_S1x32x2048x4096_S32x2048x4096 := by
  show V m c main_v57 = _
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem opW2_eq : opW2 m c = shapeCast S32x2048x2048 (w2s m c) shapeCasts_S1x32x2048x2048_S32x2048x2048 := by
  show V m c main_v58 = _
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem opB1_eq : opB1 m c = shapeCast S32x1x4096 (shapeCast S32x4096 (b1s m c) shapeCasts_S1x32x4096_S32x4096) shapeCasts_S32x4096_S32x1x4096 := by
  show V m c main_v60 = _
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

set_option maxHeartbeats 4000000 in
theorem opB2_eq : opB2 m c = shapeCast S32x1x2048 (shapeCast S32x2048 (b2s m c) shapeCasts_S1x32x2048_S32x2048) shapeCasts_S32x2048_S32x1x2048 := by
  show V m c main_v62 = _
  simp only [V, hostOps0, hostOps0_1, hostOps0_2, hostOps0_3, hostOps0_4, hostOps0_5, hostOps0_6, hostOps0_7, hostOps0_8, hostOps0_9, List.flatten_cons, List.flatten_nil, List.append_nil, List.cons_append, List.nil_append,
    StableHlo.TRef.binary, StableHlo.TRef.nullary, StableHlo.TRef.ternary, StableHlo.TRef.unary, StableHlo.TRef.toBuf, StableHlo.TRef.ofBuf, cast_eq]
  after_results_simp <;> rfl

theorem opW1_apply (e : Fin 32) (k : Fin 2048) (l : Fin 4096) : opW1 m c (ix3 e k l) = w1s m c (ix4 0 e k l) := by
  rw [opW1_eq]
  pointwise

theorem opW2_apply (e : Fin 32) (k l : Fin 2048) : opW2 m c (ix3 e k l) = w2s m c (ix4 0 e k l) := by
  rw [opW2_eq]
  pointwise

theorem opB1_apply (e : Fin 32) (l : Fin 4096) : opB1 m c (ix3 e 0 l) = b1s m c (ix3 0 e l) := by
  rw [opB1_eq]
  pointwise

theorem opB2_apply (e : Fin 32) (l : Fin 2048) : opB2 m c (ix3 e 0 l) = b2s m c (ix3 0 e l) := by
  rw [opB2_eq]
  pointwise

/-! ## The block indices of a super block with live rows -/

/-- A super block's expert. -/
abbrev exp (i : Fin 117) : Fin 32 := Cert.Ffn.expertOf (expert m i)

theorem expertOf_val (v : BitVec 32) (h : v.toNat < 32) : (Cert.Ffn.expertOf v).val = v.toNat := by
  show min v.toInt.toNat 31 = _
  rw [BitVec.toInt_eq_toNat_of_lt (by omega)]
  show min v.toNat 31 = _
  omega

theorem small_cases (v : BitVec 32) (h : v.toNat ≤ 3) (h0 : v.toNat ≠ 0) : v = 1#32 ∨ v = 2#32 ∨ v = 3#32 := by
  have : v.toNat = 1 ∨ v.toNat = 2 ∨ v.toNat = 3 := by omega
  rcases this with e | e | e
  · exact .inl (BitVec.eq_of_toNat_eq e)
  · exact .inr (.inl (BitVec.eq_of_toNat_eq e))
  · exact .inr (.inr (BitVec.eq_of_toNat_eq e))

theorem tile_live (v : BitVec 32) (h : v.toNat ≤ 3) (h0 : v.toNat ≠ 0) (k : Fin 4) :
    (Scalar.select (Scalar.cmpi .sgt v 0#32) (BitVec.ofNat 32 k.val) 3#32 : BitVec 32).toNat = k.val := by
  rcases small_cases v h h0 with rfl | rfl | rfl <;> (revert k; decide)

theorem down_live (v : BitVec 32) (h : v.toNat ≤ 3) (h0 : v.toNat ≠ 0) (k : Fin 4) :
    (Scalar.select (Scalar.andi (Scalar.cmpi .sgt v 0#32) (Scalar.cmpi .eq (0#32 : BitVec 32) 0#32)) (BitVec.ofNat 32 k.val) 3#32 : BitVec 32).toNat = k.val := by
  rcases small_cases v h h0 with rfl | rfl | rfl <;> (revert k; decide)

variable {m} (hT : Tables m)

include hT in
theorem exp_word (i : Fin 117) (k : Fin 4) : (word (tbl m 0) (grid0.coords (pt m hO i.val k))).toNat = (exp m i).val :=
  (congrArg BitVec.toNat ((word_pt (tbl m 0) hO i k).trans (congrFun (tbl0_eq m) (ix1 i)))).trans (expertOf_val _ (hT.expert_lt i)).symm

theorem count_word (i : Fin 117) (k : Fin 4) : word (tbl m 1) (grid0.coords (pt m hO i.val k)) = count m i :=
  (word_pt (tbl m 1) hO i k).trans (congrFun (tbl1_eq m) (ix1 i))

theorem coord_val (i : Fin 117) (k : Fin 4) : ((grid0.coords (pt m hO i.val k)) 1).val = k.val := congrArg Fin.val (coord_pt_tile hO i k)

include hT in
theorem row_word (i : Fin 117) (hi : (count m i).toNat ≠ 0) (k : Fin 4) : (word (tbl m 2) (grid0.coords (pt m hO i.val k))).toNat = i.val :=
  (congrArg BitVec.toNat (word_pt (tbl m 2) hO i k)).trans (row_eq hT i hi)

include hT in
theorem tile_word_pt (i : Fin 117) (hi : (count m i).toNat ≠ 0) (k : Fin 4) : (tileWord m (grid0.coords (pt m hO i.val k))).toNat = k.val :=
  (congrArg₂ (fun (v : BitVec 32) (n : ℕ) => (Scalar.select (Scalar.cmpi .sgt v 0#32) (BitVec.ofNat 32 n) 3#32 : BitVec 32).toNat) (count_word hO i k) (coord_val hO i k)).trans
    (tile_live _ (hT.count_le i) hi k)

include hT in
theorem up_word_pt (i : Fin 117) (hi : (count m i).toNat ≠ 0) (k : Fin 4) : (Scalar.addi (tileWord m (grid0.coords (pt m hO i.val k))) 4#32).toNat = k.val + 4 :=
  (tile_add m _).trans (congrArg (· + 4) (tile_word_pt hO hT i hi k))

include hT in
theorem down_word_pt (i : Fin 117) (hi : (count m i).toNat ≠ 0) (hs : (tbl m 3 (ix1 i : S117.Idx) : BitVec 32) = 0#32) (k : Fin 4) :
    (downWord m (grid0.coords (pt m hO i.val k))).toNat = k.val :=
  (congrArg₂ (fun (v : BitVec 32) (n : ℕ) => (Scalar.select (Scalar.andi (Scalar.cmpi .sgt v 0#32) (Scalar.cmpi .eq (word (tbl m 3) (grid0.coords (pt m hO i.val k))) 0#32)) (BitVec.ofNat 32 n) 3#32 : BitVec 32).toNat) (count_word hO i k) (coord_val hO i k)).trans
    ((congrArg (fun u : BitVec 32 => (Scalar.select (Scalar.andi (Scalar.cmpi .sgt (count m i) 0#32) (Scalar.cmpi .eq u 0#32)) (BitVec.ofNat 32 k.val) 3#32 : BitVec 32).toNat) ((word_pt (tbl m 3) hO i k).trans hs)).trans
      (down_live _ (hT.count_le i) hi k))

/-! ## Where an element of a block lies -/

theorem at_zero (s x : ℕ) : 0 * s + x = x := by omega
theorem at_one (w v : ℕ) (h : w = v) : w * 1 + 0 = v := by omega
theorem at_row (w v x : ℕ) (h : w = v) : w * 768 + x = v * 768 + x := by omega
theorem at_gate (w v x : ℕ) (h : w = v) : w * 512 + x = 512 * v + x := by omega
theorem at_up (w v x : ℕ) (h : w = v + 4) : w * 512 + x = 2048 + (512 * v + x) := by omega

/-! ## The blocks -/

variable (m) in
/-- The blocks the body is handed at a point. -/
def bX (t : Fin (cfgM m hO).N) : FVec Ideal S768x2048 .bf16 := iblk m hO c 0 t
variable (m) in
def bG (t : Fin (cfgM m hO).N) : FVec Ideal S1x2048x512 .f32 := iblk m hO c 1 t
variable (m) in
def bU (t : Fin (cfgM m hO).N) : FVec Ideal S1x2048x512 .f32 := iblk m hO c 2 t
variable (m) in
def bD (t : Fin (cfgM m hO).N) : FVec Ideal S1x512x2048 .f32 := iblk m hO c 3 t
variable (m) in
def bGb (t : Fin (cfgM m hO).N) : FVec Ideal S1x1x512 .f32 := iblk m hO c 4 t
variable (m) in
def bUb (t : Fin (cfgM m hO).N) : FVec Ideal S1x1x512 .f32 := iblk m hO c 5 t
variable (m) in
def bDb (t : Fin (cfgM m hO).N) : FVec Ideal S1x1x2048 .f32 := iblk m hO c 6 t

/-- Row `a` of super block `i`. -/
def rowAt (i : Fin 117) (a : Fin 768) : Fin 89856 := ⟨i.val * 768 + a.val, by have := i.isLt; have := a.isLt; omega⟩

/-- Column `l` of tile `k` of the gates, and of their partners, among the first weights' columns. -/
def gateCol (k : Fin 4) (l : Fin 512) : Fin 4096 := ⟨512 * k.val + l.val, by have := k.isLt; have := l.isLt; omega⟩
def upCol (k : Fin 4) (l : Fin 512) : Fin 4096 := ⟨2048 + (512 * k.val + l.val), by have := k.isLt; have := l.isLt; omega⟩
/-- Row `l` of tile `k` of the second weights. -/
def tileRow (k : Fin 4) (l : Fin 512) : Fin 2048 := ⟨512 * k.val + l.val, by have := k.isLt; have := l.isLt; omega⟩

set_option maxHeartbeats 4000000 in
variable (m) in
theorem index0_eq (t : Fin (cfgM m hO).N) : (((cfgM m hO).win 0).index t : Fin 2 → ℕ) = ![(word (tbl m 2) (grid0.coords t)).toNat, 0] := ix0_eq m (grid0.coords t)

set_option maxHeartbeats 4000000 in
variable (m) in
theorem index1_eq (t : Fin (cfgM m hO).N) : (((cfgM m hO).win 1).index t : Fin 3 → ℕ) = ![(word (tbl m 0) (grid0.coords t)).toNat, 0, (tileWord m (grid0.coords t)).toNat] := ix1_eq m (grid0.coords t)

set_option maxHeartbeats 4000000 in
variable (m) in
theorem index2_eq (t : Fin (cfgM m hO).N) : (((cfgM m hO).win 2).index t : Fin 3 → ℕ) = ![(word (tbl m 0) (grid0.coords t)).toNat, 0, (Scalar.addi (tileWord m (grid0.coords t)) 4#32).toNat] := ix2_eq m (grid0.coords t)

set_option maxHeartbeats 4000000 in
variable (m) in
theorem index3_eq (t : Fin (cfgM m hO).N) : (((cfgM m hO).win 3).index t : Fin 3 → ℕ) = ![(word (tbl m 0) (grid0.coords t)).toNat, (downWord m (grid0.coords t)).toNat, 0] := ix3_eq m (grid0.coords t)

set_option maxHeartbeats 4000000 in
variable (m) in
theorem index4_eq (t : Fin (cfgM m hO).N) : (((cfgM m hO).win 4).index t : Fin 3 → ℕ) = ![(word (tbl m 0) (grid0.coords t)).toNat, 0, (tileWord m (grid0.coords t)).toNat] := ix4_eq m (grid0.coords t)

set_option maxHeartbeats 4000000 in
variable (m) in
theorem index5_eq (t : Fin (cfgM m hO).N) : (((cfgM m hO).win 5).index t : Fin 3 → ℕ) = ![(word (tbl m 0) (grid0.coords t)).toNat, 0, (Scalar.addi (tileWord m (grid0.coords t)) 4#32).toNat] := ix5_eq m (grid0.coords t)

set_option maxHeartbeats 4000000 in
variable (m) in
theorem index6_eq (t : Fin (cfgM m hO).N) : (((cfgM m hO).win 6).index t : Fin 3 → ℕ) = ![(word (tbl m 0) (grid0.coords t)).toNat, 0, 0] := ix6_eq m (grid0.coords t)

set_option maxHeartbeats 400000 in
include hT in
/-- The rows: the super block's own. -/
theorem bX_apply (i : Fin 117) (hi : (count m i).toNat ≠ 0) (a : Fin 768) (l : Fin 2048) : bX m hO c (pt m hO i.val 0) (ix2 a l) = opX m c (ix2 (rowAt i a) l) := by
  show opX m c _ = _
  refine congrArg (opX m c) (funext fun b => Fin.ext ?_)
  match b with
  | ⟨0, _⟩ =>
    refine (Pipeline.Window.rect_emb_val ((cfgM m hO).win 0) (pt m hO i.val 0) _ _ rfl).trans ?_
    refine (congrArg (fun q : Fin 2 → ℕ => q 0 * 768 + a.val) (index0_eq m hO (pt m hO i.val 0))).trans ?_
    exact at_row _ _ _ (row_word hO hT i hi 0)
  | ⟨1, _⟩ =>
    refine (Pipeline.Window.rect_emb_val ((cfgM m hO).win 0) (pt m hO i.val 0) _ _ rfl).trans ?_
    refine (congrArg (fun q : Fin 2 → ℕ => q 1 * 2048 + l.val) (index0_eq m hO (pt m hO i.val 0))).trans ?_
    exact at_zero _ _

set_option maxHeartbeats 400000 in
include hT in
/-- The gates' weights: the expert's. -/
theorem bG_apply (i : Fin 117) (hi : (count m i).toNat ≠ 0) (k : Fin 4) (r : Fin 2048) (l : Fin 512) : bG m hO c (pt m hO i.val k) (ix3 0 r l) = opW1 m c (ix3 (exp m i) r (gateCol k l)) := by
  show opW1 m c _ = _
  refine congrArg (opW1 m c) (funext fun b => Fin.ext ?_)
  match b with
  | ⟨0, _⟩ =>
    refine (Pipeline.Window.rect_emb_val ((cfgM m hO).win 1) (pt m hO i.val k) _ _ rfl).trans ?_
    refine (congrArg (fun q : Fin 3 → ℕ => q 0 * 1 + 0) (index1_eq m hO (pt m hO i.val k))).trans ?_
    exact at_one _ _ (exp_word hO hT i k)
  | ⟨1, _⟩ =>
    refine (Pipeline.Window.rect_emb_val ((cfgM m hO).win 1) (pt m hO i.val k) _ _ rfl).trans ?_
    refine (congrArg (fun q : Fin 3 → ℕ => q 1 * 2048 + r.val) (index1_eq m hO (pt m hO i.val k))).trans ?_
    exact at_zero _ _
  | ⟨2, _⟩ =>
    refine (Pipeline.Window.rect_emb_val ((cfgM m hO).win 1) (pt m hO i.val k) _ _ rfl).trans ?_
    refine (congrArg (fun q : Fin 3 → ℕ => q 2 * 512 + l.val) (index1_eq m hO (pt m hO i.val k))).trans ?_
    exact at_gate _ _ _ (tile_word_pt hO hT i hi k)

set_option maxHeartbeats 400000 in
include hT in
/-- Their partners' weights. -/
theorem bU_apply (i : Fin 117) (hi : (count m i).toNat ≠ 0) (k : Fin 4) (r : Fin 2048) (l : Fin 512) : bU m hO c (pt m hO i.val k) (ix3 0 r l) = opW1 m c (ix3 (exp m i) r (upCol k l)) := by
  show opW1 m c _ = _
  refine congrArg (opW1 m c) (funext fun b => Fin.ext ?_)
  match b with
  | ⟨0, _⟩ =>
    refine (Pipeline.Window.rect_emb_val ((cfgM m hO).win 2) (pt m hO i.val k) _ _ rfl).trans ?_
    refine (congrArg (fun q : Fin 3 → ℕ => q 0 * 1 + 0) (index2_eq m hO (pt m hO i.val k))).trans ?_
    exact at_one _ _ (exp_word hO hT i k)
  | ⟨1, _⟩ =>
    refine (Pipeline.Window.rect_emb_val ((cfgM m hO).win 2) (pt m hO i.val k) _ _ rfl).trans ?_
    refine (congrArg (fun q : Fin 3 → ℕ => q 1 * 2048 + r.val) (index2_eq m hO (pt m hO i.val k))).trans ?_
    exact at_zero _ _
  | ⟨2, _⟩ =>
    refine (Pipeline.Window.rect_emb_val ((cfgM m hO).win 2) (pt m hO i.val k) _ _ rfl).trans ?_
    refine (congrArg (fun q : Fin 3 → ℕ => q 2 * 512 + l.val) (index2_eq m hO (pt m hO i.val k))).trans ?_
    exact at_up _ _ _ (up_word_pt hO hT i hi k)

set_option maxHeartbeats 400000 in
include hT in
/-- The second weights of a tile, where they are fetched anew. -/
theorem bD_apply (i : Fin 117) (hi : (count m i).toNat ≠ 0) (hs : (tbl m 3 (ix1 i : S117.Idx) : BitVec 32) = 0#32) (k : Fin 4) (r : Fin 512) (l : Fin 2048) : bD m hO c (pt m hO i.val k) (ix3 0 r l) = opW2 m c (ix3 (exp m i) (tileRow k r) l) := by
  show opW2 m c _ = _
  refine congrArg (opW2 m c) (funext fun b => Fin.ext ?_)
  match b with
  | ⟨0, _⟩ =>
    refine (Pipeline.Window.rect_emb_val ((cfgM m hO).win 3) (pt m hO i.val k) _ _ rfl).trans ?_
    refine (congrArg (fun q : Fin 3 → ℕ => q 0 * 1 + 0) (index3_eq m hO (pt m hO i.val k))).trans ?_
    exact at_one _ _ (exp_word hO hT i k)
  | ⟨1, _⟩ =>
    refine (Pipeline.Window.rect_emb_val ((cfgM m hO).win 3) (pt m hO i.val k) _ _ rfl).trans ?_
    refine (congrArg (fun q : Fin 3 → ℕ => q 1 * 512 + r.val) (index3_eq m hO (pt m hO i.val k))).trans ?_
    exact at_gate _ _ _ (down_word_pt hO hT i hi hs k)
  | ⟨2, _⟩ =>
    refine (Pipeline.Window.rect_emb_val ((cfgM m hO).win 3) (pt m hO i.val k) _ _ rfl).trans ?_
    refine (congrArg (fun q : Fin 3 → ℕ => q 2 * 2048 + l.val) (index3_eq m hO (pt m hO i.val k))).trans ?_
    exact at_zero _ _

set_option maxHeartbeats 400000 in
include hT in
/-- The gates' biases. -/
theorem bGb_apply (i : Fin 117) (hi : (count m i).toNat ≠ 0) (k : Fin 4) (l : Fin 512) : bGb m hO c (pt m hO i.val k) (ix3 0 0 l) = opB1 m c (ix3 (exp m i) 0 (gateCol k l)) := by
  show opB1 m c _ = _
  refine congrArg (opB1 m c) (funext fun b => Fin.ext ?_)
  match b with
  | ⟨0, _⟩ =>
    refine (Pipeline.Window.rect_emb_val ((cfgM m hO).win 4) (pt m hO i.val k) _ _ rfl).trans ?_
    refine (congrArg (fun q : Fin 3 → ℕ => q 0 * 1 + 0) (index4_eq m hO (pt m hO i.val k))).trans ?_
    exact at_one _ _ (exp_word hO hT i k)
  | ⟨1, _⟩ =>
    refine (Pipeline.Window.rect_emb_val ((cfgM m hO).win 4) (pt m hO i.val k) _ _ rfl).trans ?_
    refine (congrArg (fun q : Fin 3 → ℕ => q 1 * 1 + 0) (index4_eq m hO (pt m hO i.val k))).trans ?_
    exact at_zero _ _
  | ⟨2, _⟩ =>
    refine (Pipeline.Window.rect_emb_val ((cfgM m hO).win 4) (pt m hO i.val k) _ _ rfl).trans ?_
    refine (congrArg (fun q : Fin 3 → ℕ => q 2 * 512 + l.val) (index4_eq m hO (pt m hO i.val k))).trans ?_
    exact at_gate _ _ _ (tile_word_pt hO hT i hi k)

set_option maxHeartbeats 400000 in
include hT in
/-- Their partners' biases. -/
theorem bUb_apply (i : Fin 117) (hi : (count m i).toNat ≠ 0) (k : Fin 4) (l : Fin 512) : bUb m hO c (pt m hO i.val k) (ix3 0 0 l) = opB1 m c (ix3 (exp m i) 0 (upCol k l)) := by
  show opB1 m c _ = _
  refine congrArg (opB1 m c) (funext fun b => Fin.ext ?_)
  match b with
  | ⟨0, _⟩ =>
    refine (Pipeline.Window.rect_emb_val ((cfgM m hO).win 5) (pt m hO i.val k) _ _ rfl).trans ?_
    refine (congrArg (fun q : Fin 3 → ℕ => q 0 * 1 + 0) (index5_eq m hO (pt m hO i.val k))).trans ?_
    exact at_one _ _ (exp_word hO hT i k)
  | ⟨1, _⟩ =>
    refine (Pipeline.Window.rect_emb_val ((cfgM m hO).win 5) (pt m hO i.val k) _ _ rfl).trans ?_
    refine (congrArg (fun q : Fin 3 → ℕ => q 1 * 1 + 0) (index5_eq m hO (pt m hO i.val k))).trans ?_
    exact at_zero _ _
  | ⟨2, _⟩ =>
    refine (Pipeline.Window.rect_emb_val ((cfgM m hO).win 5) (pt m hO i.val k) _ _ rfl).trans ?_
    refine (congrArg (fun q : Fin 3 → ℕ => q 2 * 512 + l.val) (index5_eq m hO (pt m hO i.val k))).trans ?_
    exact at_up _ _ _ (up_word_pt hO hT i hi k)

set_option maxHeartbeats 400000 in
include hT in
/-- The second biases. -/
theorem bDb_apply (i : Fin 117) (l : Fin 2048) : bDb m hO c (pt m hO i.val 3) (ix3 0 0 l) = opB2 m c (ix3 (exp m i) 0 l) := by
  show opB2 m c _ = _
  refine congrArg (opB2 m c) (funext fun b => Fin.ext ?_)
  match b with
  | ⟨0, _⟩ =>
    refine (Pipeline.Window.rect_emb_val ((cfgM m hO).win 6) (pt m hO i.val 3) _ _ rfl).trans ?_
    refine (congrArg (fun q : Fin 3 → ℕ => q 0 * 1 + 0) (index6_eq m hO (pt m hO i.val 3))).trans ?_
    exact at_one _ _ (exp_word hO hT i 3)
  | ⟨1, _⟩ =>
    refine (Pipeline.Window.rect_emb_val ((cfgM m hO).win 6) (pt m hO i.val 3) _ _ rfl).trans ?_
    refine (congrArg (fun q : Fin 3 → ℕ => q 1 * 1 + 0) (index6_eq m hO (pt m hO i.val 3))).trans ?_
    exact at_zero _ _
  | ⟨2, _⟩ =>
    refine (Pipeline.Window.rect_emb_val ((cfgM m hO).win 6) (pt m hO i.val 3) _ _ rfl).trans ?_
    refine (congrArg (fun q : Fin 3 → ℕ => q 2 * 2048 + l.val) (index6_eq m hO (pt m hO i.val 3))).trans ?_
    exact at_zero _ _

end Cert.Kernel2Ideal.Ffn

end
-- ==== Proof.Ffn.Value.lean ====
/- What the experts' call leaves in its result: in a live row its expert's second product of its gated activations, zero in
   any other row. -/
module

public import proofs.«01_k».proof.Proof.Ffn.Launch
public import proofs.«01_k».proof.Proof.Ffn.Blocks

@[expose] public section

set_option maxRecDepth 16384

noncomputable section

namespace Cert.Kernel2Ideal.Ffn

set_option maxHeartbeats 8000000

open Idealize.ShloMosaic Idealize.ShloMosaic.TcCoe
open Idealize.SL.Sem
open Cert.Kernel2Ideal Cert.Kernel2Ideal.Gen

/-! ## The pieces at an index -/

/-- A gated activation of a sub-block. -/
theorem gateBlock_apply (x : FVec Ideal S256x2048 .bf16) (wg wu : FVec Ideal S2048x512 .bf16) (bg bu : FVec Ideal S1x1x512 .f32) (r : Fin 256) (l : Fin 512) :
    gateBlock (F := Ideal) x wg wu bg bu (ix3 0 r l)
      = Cert.Ffn.gated (∑ k : Fin 2048, x (ix2 r k) * wg (ix2 k l) + bg (ix3 0 0 l)) (∑ k : Fin 2048, x (ix2 r k) * wu (ix2 k l) + bu (ix3 0 0 l)) := by
  unfold gateBlock
  pointwise [k0_pay24, k0_pay21, k0_pay22, k0_pay23]
  unfold Cert.Ffn.gated
  exact congrArg (_ * ·) (Cert.Ffn.half_tanh _)

/-- The four tiles' activations of a sub-block side by side. -/
def joinAct (a : Fin 4 → FVec Ideal S1x256x512 .bf16) (r : Fin 256) (q : Fin 2048) : EReal :=
  a ⟨q.val / 512, by have := q.isLt; omega⟩ (ix3 0 r ⟨q.val % 512, Nat.mod_lt _ (by decide)⟩)

theorem joinAct_eq (a0 a1 a2 a3 : FVec Ideal S1x256x512 .bf16) (r : Fin 256) (q : Fin 2048) (h3 : q.val - 512 - 512 - 512 < 512) :
    (if h : q.val < 512 then a0 (ix3 0 r ⟨q.val, h⟩)
      else if h : q.val - 512 < 512 then a1 (ix3 0 r ⟨q.val - 512, h⟩)
      else if h : q.val - 512 - 512 < 512 then a2 (ix3 0 r ⟨q.val - 512 - 512, h⟩)
      else a3 (ix3 0 r ⟨q.val - 512 - 512 - 512, h3⟩)) = joinAct ![a0, a1, a2, a3] r q := by
  have hq := q.isLt
  have key (k : Fin 4) (b : FVec Ideal S1x256x512 .bf16) (n : ℕ) (hn : n < 512) (hk : q.val = 512 * k.val + n) (hb : (![a0, a1, a2, a3] : Fin 4 → FVec Ideal S1x256x512 .bf16) k = b) :
      b (ix3 0 r ⟨n, hn⟩) = joinAct ![a0, a1, a2, a3] r q := by
    subst hb
    unfold joinAct
    have e1 : (⟨q.val / 512, by omega⟩ : Fin 4) = k := Fin.ext (by show q.val / 512 = k.val; omega)
    have e2 : (⟨q.val % 512, Nat.mod_lt _ (by decide)⟩ : Fin 512) = ⟨n, hn⟩ := Fin.ext (by show q.val % 512 = n; omega)
    rw [e1, e2]
  split_ifs with h0 h1 h2
  · exact key 0 a0 _ _ (by show q.val = 512 * 0 + q.val; omega) rfl
  · exact key 1 a1 _ _ (by show q.val = 512 * 1 + (q.val - 512); omega) rfl
  · exact key 2 a2 _ _ (by show q.val = 512 * 2 + (q.val - 512 - 512); omega) rfl
  · exact key 3 a3 _ _ (by show q.val = 512 * 3 + (q.val - 512 - 512 - 512); omega) rfl

/-- An entry of the output rows of a sub-block. -/
theorem downBlock_apply (a0 a1 a2 a3 : FVec Ideal S1x256x512 .bf16) (w : FVec Ideal S2048x2048 .bf16) (b : FVec Ideal S1x1x2048 .f32) (r : Fin 256) (l : Fin 2048) :
    downBlock (F := Ideal) a0 a1 a2 a3 w b (ix2 r l) = ∑ q : Fin 2048, joinAct ![a0, a1, a2, a3] r q * w (ix2 q l) + b (ix3 0 0 l) := by
  unfold downBlock
  pointwise [k0_pay12]
  refine congrArg (· + _) (Finset.sum_congr rfl fun q _ => congrArg (· * _) ?_)
  exact joinAct_eq a0 a1 a2 a3 r q (by have := q.isLt; omega)

theorem zeroBlock_apply (r : Fin 256) (l : Fin 2048) : (zeroBlock (F := Ideal) : FVec Ideal S256x2048 .bf16) (ix2 r l) = 0 := by
  unfold zeroBlock
  pointwise [k0_pay13]

theorem pay18_apply (w : FVec Ideal S1x2048x512 .f32) (r : Fin 2048) (l : Fin 512) : k0_pay18 (F := Ideal) w (ix2 r l) = w (ix3 0 r l) := by
  pointwise [k0_pay18]

theorem pay19_apply (w : FVec Ideal S1x2048x512 .f32) (r : Fin 2048) (l : Fin 512) : k0_pay19 (F := Ideal) w (ix2 r l) = w (ix3 0 r l) := by
  pointwise [k0_pay19]

theorem pay20_apply (w : FVec Ideal S1x512x2048 .f32) (r : Fin 512) (l : Fin 2048) : k0_pay20 (F := Ideal) w (ix2 r l) = w (ix3 0 r l) := by
  pointwise [k0_pay20]

/-- Row `r` of sub-block `sb` of a super block. -/
def subRow (sb : Fin 3) (r : Fin 256) : Fin 768 := ⟨256 * sb.val + r.val, by have := sb.isLt; have := r.isLt; omega⟩

theorem rowsOf_apply (x : FVec Ideal S768x2048 .bf16) (sb : Fin 3) (r : Fin 256) (l : Fin 2048) : rowsOf (F := Ideal) x sb (ix2 r l) = x (ix2 (subRow sb r) l) := by
  refine congrArg x (funext fun d => Fin.ext ?_)
  match d with
  | ⟨0, _⟩ => show 256 * sb.val + 1 * r.val = 256 * sb.val + r.val; omega
  | ⟨1, _⟩ => show 0 + 1 * l.val = l.val; omega

/-! ## A super block with live rows -/

variable {m : (ℓ : Loc nD τ sig) → Buf (Elt Ideal) ℓ} (hO : Ok m) (c : Dev nD) (hT : Tables m)

include hT in
/-- Its gated activations. -/
theorem actAt_apply (i : Fin 117) (hi : (count m i).toNat ≠ 0) (k : Fin 4) (sb : Fin 3) (r : Fin 256) (l : Fin 512) :
    actAt (blocks m hO c) i.val k sb (ix3 0 r l) = Cert.Ffn.hidden (xs m c) (w1s m c) (b1s m c) (exp m i) (rowAt i (subRow sb r)) (tileRow k l) := by
  have hx (q : Fin 2048) : rowsOf (F := Ideal) (bX m hO c (pt m hO i.val 0)) sb (ix2 r q) = xs m c (ix2 (rowAt i (subRow sb r)) q) :=
    (rowsOf_apply _ sb r q).trans ((bX_apply hO c hT i hi _ q).trans (congrFun (opX_eq m c) _))
  have hg (q : Fin 2048) : k0_pay18 (F := Ideal) (bG m hO c (pt m hO i.val k)) (ix2 q l) = w1s m c (ix4 0 (exp m i) q (gateCol k l)) :=
    (pay18_apply _ q l).trans ((bG_apply hO c hT i hi k q l).trans (opW1_apply m c _ _ _))
  have hu (q : Fin 2048) : k0_pay19 (F := Ideal) (bU m hO c (pt m hO i.val k)) (ix2 q l) = w1s m c (ix4 0 (exp m i) q (upCol k l)) :=
    (pay19_apply _ q l).trans ((bU_apply hO c hT i hi k q l).trans (opW1_apply m c _ _ _))
  have hgb : bGb m hO c (pt m hO i.val k) (ix3 0 0 l) = b1s m c (ix3 0 (exp m i) (gateCol k l)) := (bGb_apply hO c hT i hi k l).trans (opB1_apply m c _ _)
  have hub : bUb m hO c (pt m hO i.val k) (ix3 0 0 l) = b1s m c (ix3 0 (exp m i) (upCol k l)) := (bUb_apply hO c hT i hi k l).trans (opB1_apply m c _ _)
  refine (gateBlock_apply (rowsOf (F := Ideal) (bX m hO c (pt m hO i.val 0)) sb) (k0_pay18 (F := Ideal) (bG m hO c (pt m hO i.val k))) (k0_pay19 (F := Ideal) (bU m hO c (pt m hO i.val k)))
    (bGb m hO c (pt m hO i.val k)) (bUb m hO c (pt m hO i.val k)) r l).trans ?_
  rw [hgb, hub]
  simp only [hx, hg, hu]
  rfl

include hT in
/-- Its second weights: fetched, or kept from the super block before, which has the same expert. -/
theorem downAt_apply (i : ℕ) (hn : i < 117) (hi : (count m ⟨i, hn⟩).toNat ≠ 0) (k : Fin 4) (r : Fin 512) (l : Fin 2048) :
    downAt (blocks m hO c) i k (ix2 r l) = w2s m c (ix4 0 (exp m ⟨i, hn⟩) (tileRow k r) l) := by
  have fetched (i : Fin 117) (hi : (count m i).toNat ≠ 0) (hs : (tbl m 3 (ix1 i : S117.Idx) : BitVec 32) = 0#32) :
      k0_pay20 (F := Ideal) (bD m hO c (pt m hO i.val k)) (ix2 r l) = w2s m c (ix4 0 (exp m i) (tileRow k r) l) :=
    (pay20_apply _ r l).trans ((bD_apply hO c hT i hi hs k r l).trans (opW2_apply m c _ _ _))
  induction i with
  | zero =>
    refine fetched ⟨0, hn⟩ hi ?_
    by_contra hs
    obtain ⟨j, hj, _⟩ := same_of hT ⟨0, hn⟩ hs
    exact absurd hj (by show 0 ≠ j.val + 1; omega)
  | succ i ih =>
    by_cases hs : (tbl m 3 (ix1 (⟨i + 1, hn⟩ : Fin 117) : S117.Idx) : BitVec 32) = 0#32
    · have e : downAt (blocks m hO c) (i + 1) k = k0_pay20 (F := Ideal) (bD m hO c (pt m hO (i + 1) k)) := if_pos ((same_eq hO c ⟨i + 1, hn⟩).trans hs)
      rw [e]
      exact fetched ⟨i + 1, hn⟩ hi hs
    · obtain ⟨j, hj, he, hc⟩ := same_of hT ⟨i + 1, hn⟩ hs
      have ej : j = ⟨i, by omega⟩ := Fin.ext (by have : i + 1 = j.val + 1 := hj; show j.val = i; omega)
      rw [ej] at he hc
      have e : downAt (blocks m hO c) (i + 1) k = downAt (blocks m hO c) i k := if_neg fun h => hs ((same_eq hO c ⟨i + 1, hn⟩).symm.trans h)
      rw [e, ih (by omega) hc]
      show w2s m c (ix4 0 (Cert.Ffn.expertOf (expert m ⟨i, _⟩)) _ _) = w2s m c (ix4 0 (Cert.Ffn.expertOf (expert m ⟨i + 1, _⟩)) _ _)
      rw [he]

/-- The call's result. -/
def resultV (m : (ℓ : Loc nD τ sig) → Buf (Elt Ideal) ℓ) (c : Dev nD) : FVec Ideal S89856x2048 .bf16 := fun i =>
  Cert.Ffn.result (xs m c) (w1s m c) (b1s m c) (w2s m c) (b2s m c) (experts m) (counts m) (i 0) (i 1)

include hT in
/-- The rows of a live sub-block. -/
theorem live_apply (i : Fin 117) (hi : (count m i).toNat ≠ 0) (sb : Fin 3) (r : Fin 256) (l : Fin 2048) :
    downBlock (F := Ideal) (actAt (blocks m hO c) i.val 0 sb) (actAt (blocks m hO c) i.val 1 sb) (actAt (blocks m hO c) i.val 2 sb) (actAt (blocks m hO c) i.val 3 sb)
      (joinDown (downAt (blocks m hO c) i.val)) (bDb m hO c (pt m hO i.val 3)) (ix2 r l)
      = Cert.Ffn.second (xs m c) (w1s m c) (b1s m c) (w2s m c) (b2s m c) (exp m i) (rowAt i (subRow sb r)) l := by
  refine (downBlock_apply _ _ _ _ _ _ r l).trans ?_
  unfold Cert.Ffn.second
  refine congrArg₂ (· + ·) (Finset.sum_congr rfl fun q _ => congrArg₂ (· * ·) ?_ ?_) ((bDb_apply hO c hT i l).trans (opB2_apply m c _ _))
  · have hv : (![actAt (blocks m hO c) i.val 0 sb, actAt (blocks m hO c) i.val 1 sb, actAt (blocks m hO c) i.val 2 sb, actAt (blocks m hO c) i.val 3 sb] : Fin 4 → FVec Ideal S1x256x512 .bf16)
        = fun k => actAt (blocks m hO c) i.val k sb := by
      funext k
      match k with
      | 0 => rfl
      | 1 => rfl
      | 2 => rfl
      | 3 => rfl
    rw [hv]
    refine (actAt_apply hO c hT i hi _ sb r _).trans (congrArg (Cert.Ffn.hidden _ _ _ _ _) (Fin.ext ?_))
    show 512 * (q.val / 512) + q.val % 512 = q.val
    omega
  · have hq := q.isLt
    have e : joinDown (downAt (blocks m hO c) i.val) (ix2 q l) = downAt (blocks m hO c) i.val ⟨q.val / 512, by omega⟩ (ix2 (⟨q.val % 512, Nat.mod_lt _ (by decide)⟩ : Fin 512) l) := by
      rw [ix2_eq_valueIdx, ix2_eq_valueIdx]; rfl
    refine e.trans ((downAt_apply hO c hT i.val i.isLt hi _ _ l).trans ?_)
    have et : tileRow ⟨q.val / 512, by omega⟩ ⟨q.val % 512, Nat.mod_lt _ (by decide)⟩ = q := Fin.ext (by show 512 * (q.val / 512) + q.val % 512 = q.val; omega)
    rw [et]

include hT in
/-- What the call leaves in a super block. -/
theorem outAt_apply (i : Fin 117) (a : Fin 768) (l : Fin 2048) : outAt (blocks m hO c) i.val (ix2 a l) = resultV m c (ix2 (rowAt i a) l) := by
  have ha := a.isLt
  have hil := i.isLt
  have e : outAt (blocks m hO c) i.val (ix2 a l) = rowsAt (blocks m hO c) i.val ⟨a.val / 256, by omega⟩ (ix2 (⟨a.val % 256, Nat.mod_lt _ (by decide)⟩ : Fin 256) l) := by
    rw [ix2_eq_valueIdx, ix2_eq_valueIdx]; rfl
  refine e.trans ?_
  have ei : (⟨(rowAt i a).val / 768, by have := (rowAt i a).isLt; omega⟩ : Fin 117) = i := Fin.ext (by show (i.val * 768 + a.val) / 768 = i.val; omega)
  have em : (rowAt i a).val % 768 = a.val := by show (i.val * 768 + a.val) % 768 = a.val; omega
  show _ = Cert.Ffn.result _ _ _ _ _ _ _ (rowAt i a) l
  unfold Cert.Ffn.result
  rw [ei, em]
  show _ = if a.val < 256 * (count m i).toNat then _ else _
  have er : subRow ⟨a.val / 256, by omega⟩ ⟨a.val % 256, Nat.mod_lt _ (by decide)⟩ = a := Fin.ext (by show 256 * (a.val / 256) + a.val % 256 = a.val; omega)
  by_cases h : a.val < 256 * (count m i).toNat
  · have hr : rowsAt (blocks m hO c) i.val ⟨a.val / 256, by omega⟩ = downBlock (F := Ideal) (actAt (blocks m hO c) i.val 0 ⟨a.val / 256, by omega⟩) (actAt (blocks m hO c) i.val 1 ⟨a.val / 256, by omega⟩) (actAt (blocks m hO c) i.val 2 ⟨a.val / 256, by omega⟩) (actAt (blocks m hO c) i.val 3 ⟨a.val / 256, by omega⟩)
        (joinDown (downAt (blocks m hO c) i.val)) (bDb m hO c (pt m hO i.val 3)) := if_pos (by rw [live_eq hO c i]; show a.val / 256 < _; omega)
    rw [if_pos h, hr, live_apply hO c hT i (by omega), er]
    rfl
  · have hr : rowsAt (blocks m hO c) i.val ⟨a.val / 256, by omega⟩ = (zeroBlock (F := Ideal) : FVec Ideal S256x2048 .bf16) := if_neg (by rw [live_eq hO c i]; show ¬ a.val / 256 < _; omega)
    rw [if_neg h, hr]
    exact zeroBlock_apply _ l

include hT in
/-- It is what the experts' counts of rows name. -/
theorem resultV_eq : resultV m c = fun i => Cert.Ffn.routed (xs m c) (w1s m c) (b1s m c) (w2s m c) (b2s m c) (rowNum m) (i 0) (i 1) := by
  funext i
  obtain ⟨p, l, rfl⟩ : ∃ (p : Fin 89856) (l : Fin 2048), i = ix2 p l := ⟨i 0, i 1, eq_ix2 i⟩
  have hp := p.isLt
  show Cert.Ffn.result _ _ _ _ _ _ _ p l = Cert.Ffn.routed _ _ _ _ _ _ p l
  unfold Cert.Ffn.result Cert.Ffn.routed
  have hc : (counts m (ix1 (⟨p.val / 768, by omega⟩ : Fin 117))).toNat = Cert.Ffn.Route.active (rowNum m) (p.val / 768) := count_num hT ⟨p.val / 768, by omega⟩
  rw [hc]
  by_cases h : p.val % 768 < 256 * Cert.Ffn.Route.active (rowNum m) (p.val / 768)
  · rw [if_pos h, if_pos h]
    have hl : p.val / 768 < liveNum m := (Cert.Ffn.Route.active_pos _ _).mp (by omega)
    have ho := Cert.Ffn.Route.owner_lt (rowNum m) (p.val / 768)
    have he : Cert.Ffn.expertOf (experts m (ix1 (⟨p.val / 768, by omega⟩ : Fin 117))) = ⟨Cert.Ffn.Route.owner (rowNum m) (p.val / 768), ho⟩ := by
      refine Fin.ext ?_
      show min (experts m (ix1 (⟨p.val / 768, by omega⟩ : Fin 117))).toInt.toNat 31 = _
      rw [ix1_eq_valueIdx, experts_live hT ⟨p.val / 768, by omega⟩ hl, small_toInt _ (by show Cert.Ffn.Route.owner (rowNum m) (p.val / 768) < _; omega), Int.toNat_natCast]
      exact Nat.min_eq_left (Nat.le_of_lt_succ ho)
    rw [he]
  · rw [if_neg h, if_neg h]

/-! ## The array -/

theorem transform7_eq (i : grid0.Coords) (n : ℕ) (hn : n < 117) (h : (i 0).val = n) : cc0_transform_7 i = ![n, 0] := by
  unfold cc0_transform_7
  rw [h]
  show (![(BitVec.ofNat 32 n).toNat, 0] : Fin 2 → ℕ) = _
  rw [BitVec.toNat_ofNat, Nat.mod_eq_of_lt (by omega)]

variable (m) in
theorem index7_eq (i : Fin 117) (t : Fin (cfgM m hO).N) (ht : t.val / 4 = i.val) : (((cfgM m hO).win 7).index t : Fin 2 → ℕ) = ![i.val, 0] :=
  transform7_eq (grid0.coords t) i.val i.isLt ((coord_sb t).trans ht)

variable (m) in
/-- Where an element of a point's block of the result lies in it. -/
theorem emb_out (i : Fin 117) (a : Fin 768) (l : Fin 2048) (t : Fin (cfgM m hO).N) (ht : t.val / 4 = i.val) :
    (((cfgM m hO).win 7).blk t).view.emb (ix2 a l) = (ix2 (rowAt i a) l : S89856x2048.Idx) := by
  refine funext fun d => Fin.ext ?_
  have e := index7_eq m hO i t ht
  match d with
  | ⟨0, _⟩ =>
    refine (Pipeline.Window.rect_emb_val ((cfgM m hO).win 7) t _ _ rfl).trans ?_
    refine (congrArg (fun q : Fin 2 → ℕ => q 0 * 768 + a.val) e).trans ?_
    exact at_row _ _ _ rfl
  | ⟨1, _⟩ =>
    refine (Pipeline.Window.rect_emb_val ((cfgM m hO).win 7) t _ _ rfl).trans ?_
    refine (congrArg (fun q : Fin 2 → ℕ => q 1 * 2048 + l.val) e).trans ?_
    exact at_zero _ _

variable (m) in
theorem mem_out (i : Fin 117) (a : Fin 768) (l : Fin 2048) (t : Fin (cfgM m hO).N) (ht : t.val / 4 = i.val) (p : Fin 89856) (hp : rowAt i a = p) :
    (ix2 p l : S89856x2048.Idx) ∈ (((cfgM m hO).win 7).blk t).view.set := by
  subst hp
  exact emb_out m hO i a l t ht ▸ View.emb_mem_set _ _

include hT in
/-- The last point of a super block writes its block of the result, and the blocks fill it. -/
theorem arr_out : (dats m hO 0 c).arrAt 7 (cfgM m hO).N = resultV m c := by
  refine Pipeline.Dat.arrAt_eq_of_emb _ 7 _ (fun t _ (y : S768x2048.Idx) => ?_) fun (i : S89856x2048.Idx) => ?_
  · rw [after0_7]
    obtain ⟨a, l, rfl⟩ : ∃ (a : Fin 768) (l : Fin 2048), y = (ix2 a l : S768x2048.Idx) := ⟨y 0, y 1, eq_ix2 y⟩
    have ht : t.val < 468 := (N_eq m hO) ▸ t.isLt
    refine (outAt_apply hO c hT ⟨t.val / 4, by omega⟩ a l).trans ?_
    exact congrArg (resultV m c) (emb_out m hO ⟨t.val / 4, by omega⟩ a l t rfl).symm
  · obtain ⟨p, l, rfl⟩ : ∃ (p : Fin 89856) (l : Fin 2048), i = ix2 p l := ⟨i 0, i 1, eq_ix2 i⟩
    have hp := p.isLt
    refine ⟨⟨4 * (p.val / 768) + 3, by rw [N_eq]; omega⟩, (flush0_7 _ _).mpr (by show (4 * (p.val / 768) + 3) % 4 = 3; omega),
      mem_out m hO ⟨p.val / 768, by omega⟩ ⟨p.val % 768, Nat.mod_lt _ (by decide)⟩ l _ (by show (4 * (p.val / 768) + 3) / 4 = p.val / 768; omega) p (Fin.ext ?_)⟩
    show p.val / 768 * 768 + p.val % 768 = p.val
    omega

variable (m) in
/-- The run: the result, and the arguments as they were. -/
theorem run_value (hT : Tables m) (ρ : Dev nD → PrngReg) :
    θ_run defs (onTc (τ := τ) (main (F := Ideal))) ⟨m, fun _ => 0, ρ⟩ (fun r => ∀ c : Dev nD,
      r.2.mem ((c.tc : Thread nD τ).loc main_v63) = resultV m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h.1 c).1 7).trans (arr_out (ok_of hT) c hT), h.2 c⟩)
    (θ_run_and (run_main m ρ (ok_of hT) (linked_of hT _)) (unchanged m ρ (ok_of hT) (linked_of hT _)))

end Cert.Kernel2Ideal.Ffn

end
-- ==== Proof.Ffn.Reference.lean ====
/- What the experts' reference computes, read at a row and a column. -/
module

public import proofs.«01_k».proof.Proof.Gen.Reference2Ideal.Run
public import proofs.«01_k».proof.Proof.Ffn.Spec
public import proofs.«01_k».proof.Proof.Ffn.RouteWords
public import Idealize.ShloMosaic.Lib.Pointwise
public import Idealize.ShloMosaic.Lib.Quiescent

@[expose] public section

set_option maxRecDepth 16384

noncomputable section

namespace Cert.Reference2Ideal.Ffn

open Idealize.ShloMosaic Idealize.ShloMosaic.TcCoe Idealize.SL.Sem
open Cert.Reference2Ideal Cert.Reference2Ideal.Gen

section Gathers
variable {α : Type}

/-- The numbers of a gather of whole rows of a matrix. -/
abbrev rowDims (N C R : ℕ) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- A row of the gather: the operand's row that the index names, a large index naming the last. -/
theorem gather_rows {N C R : ℕ} (hN : 0 < N) (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ 32) (i : Fin R) (l : Fin C) :
    Host.gather (rowDims N C R wf) x idx (ix2 i l) = x (ix2 ⟨min (idx (ix2 i 0)).toInt.toNat (N - 1), by omega⟩ l) := by
  have named : (rowDims N C R wf).start (ix2 i l) idx 0 = min (idx (ix2 i 0)).toInt.toNat (N - 1) :=
    (dif_pos (List.mem_singleton.mpr rfl)).trans (congrArg (fun q => min (idx q).toInt.toNat (N - 1))
      (funext fun b => Fin.ext (match b with | ⟨0, _⟩ => rfl | ⟨1, _⟩ => rfl)))
  refine congrArg x (funext fun a => Fin.ext ?_)
  match a with
  | ⟨0, _⟩ => exact congrArg (· + 0 + 0) named
  | ⟨1, _⟩ => exact Nat.zero_add l.val

/-- The numbers of a gather of whole matrices of a stack. -/
abbrev matDims (N A B R : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A matrix of the gather: the operand's that the index names, a large index naming the last. -/
theorem gather_mats {N A B R : ℕ} (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (i : Fin R) (k : Fin A) (l : Fin B) :
    Host.gather (matDims N A B R wf) x idx (ix3 i k l) = x (ix3 ⟨min (idx (ix2 i 0)).toInt.toNat (N - 1), by omega⟩ k l) := by
  have named : (matDims N A B R wf).start (ix3 i k l) idx 0 = min (idx (ix2 i 0)).toInt.toNat (N - 1) :=
    (dif_pos (List.mem_singleton.mpr rfl)).trans (congrArg (fun q => min (idx q).toInt.toNat (N - 1))
      (funext fun b => Fin.ext (match b with | ⟨0, _⟩ => rfl | ⟨1, _⟩ => rfl)))
  refine congrArg x (funext fun a => Fin.ext ?_)
  match a with
  | ⟨0, _⟩ => exact congrArg (· + 0 + 0) named
  | ⟨1, _⟩ => exact Nat.zero_add k.val
  | ⟨2, _⟩ => exact Nat.zero_add l.val

end Gathers

/-- The experts' first product with its bias. -/
def firstV (e : IVec S117 32) (x : FVec Ideal S89856x2048 .bf16) (w : FVec Ideal S1x32x2048x4096 .f32) (b : FVec Ideal S1x32x4096 .f32) : FVec Ideal S117x768x4096 .f32 :=
  (addf (Host.dotGeneral dot_S117x768x2048_S117x2048x4096_S117x768x4096_2_1_1_2_0_0 none (shapeCast _ (extf .f32 x bitsLt_bf16_f32) shapeCasts_S89856x2048_S117x768x2048) (Host.gather gather_S32x2048x4096_S117x1_S117x2048x4096_12_0_n_n_0_1_120484096 (shapeCast _ w shapeCasts_S1x32x2048x4096_S32x2048x4096) (broadcastInDim S117x1 ![0] bcast_S117_S117x1_0 e))) (broadcastInDim S117x768x4096 ![0, 1, 2] bcast_S117x1x4096_S117x768x4096_0_1_2 (broadcastInDim S117x1x4096 ![0, 2] bcast_S117x4096_S117x1x4096_0_2 (Host.gather gather_S32x4096_S117x1_S117x4096_1_0_n_n_0_1_14096 (shapeCast _ b shapeCasts_S1x32x4096_S32x4096) (broadcastInDim S117x1 ![0] bcast_S117_S117x1_0 e)))))

/-- The gated activations. -/
def gatedV (h : FVec Ideal S117x768x4096 .f32) : FVec Ideal S117x768x2048 .f32 :=
  mulf (mulf (addf (minimumf (broadcastInDim S117x768x2048 ![] bcast_S_S117x768x2048 (id (constant S_ .f32 0x40E00000#32))) (maximumf (broadcastInDim S117x768x2048 ![] bcast_S_S117x768x2048 (id (constant S_ .f32 0xC0E00000#32))) (extractStridedSlice S117x768x2048 ![0, 0, 2048] h slices_S117x768x4096_S117x768x2048_0_0_2048))) (broadcastInDim S117x768x2048 ![] bcast_S_S117x768x2048 (constant S_ .f32 0x3F800000#32))) (minimumf (extractStridedSlice S117x768x2048 ![0, 0, 0] h slices_S117x768x4096_S117x768x2048_0_0_0) (broadcastInDim S117x768x2048 ![] bcast_S_S117x768x2048 (constant S_ .f32 0x40E00000#32)))) (Host.divf (broadcastInDim S117x768x2048 ![] bcast_S_S117x768x2048 (constant S_ .f32 0x3F800000#32)) (addf (broadcastInDim S117x768x2048 ![] bcast_S_S117x768x2048 (constant S_ .f32 0x3F800000#32)) (Host.exp (Host.negf (mulf (broadcastInDim S117x768x2048 ![] bcast_S_S117x768x2048 (constant S_ .f32 0x3FD9DB23#32)) (minimumf (extractStridedSlice S117x768x2048 ![0, 0, 0] h slices_S117x768x4096_S117x768x2048_0_0_0) (broadcastInDim S117x768x2048 ![] bcast_S_S117x768x2048 (constant S_ .f32 0x40E00000#32))))))))

/-- The second product with its bias. -/
def secondV (e : IVec S117 32) (a : FVec Ideal S117x768x2048 .f32) (w : FVec Ideal S1x32x2048x2048 .f32) (b : FVec Ideal S1x32x2048 .f32) : FVec Ideal S117x768x2048 .f32 :=
  addf (Host.dotGeneral dot_S117x768x2048_S117x2048x2048_S117x768x2048_2_1_1_2_0_0 none a (Host.gather gather_S32x2048x2048_S117x1_S117x2048x2048_12_0_n_n_0_1_120482048 (shapeCast _ w shapeCasts_S1x32x2048x2048_S32x2048x2048) (broadcastInDim S117x1 ![0] bcast_S117_S117x1_0 e))) (broadcastInDim S117x768x2048 ![0, 1, 2] bcast_S117x1x2048_S117x768x2048_0_1_2 (broadcastInDim S117x1x2048 ![0, 2] bcast_S117x2048_S117x1x2048_0_2 (Host.gather gather_S32x2048_S117x1_S117x2048_1_0_n_n_0_1_12048 (shapeCast _ b shapeCasts_S1x32x2048_S32x2048) (broadcastInDim S117x1 ![0] bcast_S117_S117x1_0 e))))

/-- The rows each expert's blocks span, where they end and begin, each block's first row, and its expert. -/
def paddedV (n : IVec S32 32) : IVec S32 32 := muli (Cert.Ffn.Route.needV bcast_S_S32 n) (broadcastInDim S32 ![] bcast_S_S32 (constantI S_ 32 768#32))
def padEndV (n : IVec S32 32) : IVec S32 32 := Cert.Ffn.Route.sumsV bcast_S_S_ reduceWindows_S32_S32_w32s1p31_0 h_S_ (paddedV n)
def padStartV (n : IVec S32 32) : IVec S32 32 := subi (padEndV n) (paddedV n)
def firstRowV : IVec S117 32 := muli (iotaInDim S117 32 0) (broadcastInDim S117 ![] bcast_S_S117 (constantI S_ 32 768#32))
def blockV (n : IVec S32 32) : IVec S117 32 :=
  Cert.Ffn.Route.searchV bcast_S_S117 h_S_ bcast_S32_S1x32_1 bcast_S1x32_S117x32_0_1 bcast_S117_S117x1_0 bcast_S117x1_S117x32_0_1 natLt_1_32 reducesTo_S117x32_S117_d1 (padEndV n) firstRowV

/-- The rows a block's expert has from the block on. -/
def remV (n : IVec S32 32) : IVec S117 32 :=
  subi (addi (Host.gather gather_S32_S117x1_S117_n_0_n_n_0_1_1 n (broadcastInDim S117x1 ![0] bcast_S117_S117x1_0 (blockV n))) (Host.gather gather_S32_S117x1_S117_n_0_n_n_0_1_1 (padStartV n) (broadcastInDim S117x1 ![0] bcast_S117_S117x1_0 (blockV n)))) firstRowV

/-- Whether a row is in a row block of 256 that holds a row. -/
def usedV (n : IVec S32 32) : IVec S117x768 1 :=
  cmpi .slt (broadcastInDim S117x768 ![0, 1] bcast_S1x768_S117x768_0_1 (muli (Routing.pyDiv bcast_S_S1x768 (broadcastInDim S1x768 ![1] bcast_S768_S1x768_1 (iotaInDim S768 32 0)) (id (constantI S_ 32 256#32))) (broadcastInDim S1x768 ![] bcast_S_S1x768 (constantI S_ 32 256#32))))
    (broadcastInDim S117x768 ![0, 1] bcast_S117x1_S117x768_0_1 (broadcastInDim S117x1 ![0] bcast_S117_S117x1_0 (remV n)))

/-- The rows that are used, and zeros for the others. -/
def maskedV (u : IVec S117x768 1) (o : FVec Ideal S117x768x2048 .f32) : FVec Ideal S89856x2048 .bf16 :=
  truncf .bf16 (shapeCast _ (select (broadcastInDim S117x768x2048 ![0, 1, 2] bcast_S117x768x1_S117x768x2048_0_1_2 (broadcastInDim S117x768x1 ![0, 1] bcast_S117x768_S117x768x1_0_1 u)) o (broadcastInDim S117x768x2048 ![] bcast_S_S117x768x2048 (id (constant S_ .f32 0x00000000#32)))) shapeCasts_S117x768x2048_S89856x2048) bitsLt_bf16_f32

variable (m : (ℓ : Loc nD τ sig) → Buf (Elt Ideal) ℓ) (c : Dev nD)

set_option maxHeartbeats 4000000 in
/-- The result, by its parts. -/
theorem res_eq : Value.res_main_v72 m c = maskedV (usedV (m ((c : Thread nD τ).loc main_arg0))) (secondV (blockV (m ((c : Thread nD τ).loc main_arg0))) (gatedV (firstV (blockV (m ((c : Thread nD τ).loc main_arg0))) (m ((c : Thread nD τ).loc main_arg1)) (m ((c : Thread nD τ).loc main_arg2)) (m ((c : Thread nD τ).loc main_arg3)))) (m ((c : Thread nD τ).loc main_arg4)) (m ((c : Thread nD τ).loc main_arg5))) := by
  unfold maskedV usedV remV secondV gatedV firstV blockV padStartV padEndV paddedV firstRowV Cert.Ffn.Route.searchV Cert.Ffn.Route.sumsV Cert.Ffn.Route.needV Routing.pyDiv Value.res_main_v72
  rfl

/-! ## The host's words as numbers -/

theorem word_toInt (n : ℕ) (hn : n < 2 ^ 30) : (BitVec.ofNat 32 n).toInt = n := by
  rw [BitVec.toInt_eq_toNat_cond, BitVec.toNat_ofNat, Nat.mod_eq_of_lt (by omega)]
  split <;> omega

section Words
variable (n : IVec S32 32) (hle : ∀ e, Cert.Ffn.rowNum n e ≤ 65536)

include hle in
theorem paddedV_at (i : Fin 32) : paddedV n (ValueIdx.ix1 i) = BitVec.ofNat 32 (768 * Cert.Ffn.Route.need (Cert.Ffn.rowNum n) i.val) := by
  show Cert.Ffn.Route.needV bcast_S_S32 n (ValueIdx.ix1 i) * 768#32 = _
  rw [Cert.Ffn.Route.needV_at bcast_S_S32 hle n (Cert.Ffn.rowNum_at n) i, show 768#32 = BitVec.ofNat 32 768 from rfl, BitVec.ofNat_mul_ofNat, Nat.mul_comm]

include hle in
theorem padEndV_at (i : Fin 32) : padEndV n (ValueIdx.ix1 i) = BitVec.ofNat 32 (768 * Cert.Ffn.Route.upto (Cert.Ffn.rowNum n) (i.val + 1)) :=
  Cert.Ffn.Route.sumsV_at bcast_S_S_ reduceWindows_S32_S32_w32s1p31_0 h_S_ 768 (paddedV n) (paddedV_at n hle) i

include hle in
theorem padStartV_at (i : Fin 32) : padStartV n (ValueIdx.ix1 i) = BitVec.ofNat 32 (768 * Cert.Ffn.Route.upto (Cert.Ffn.rowNum n) i.val) := by
  show padEndV n (ValueIdx.ix1 i) - paddedV n (ValueIdx.ix1 i) = _
  have h := Cert.Ffn.Route.upto_succ (Cert.Ffn.rowNum n) i.val
  rw [padEndV_at n hle, paddedV_at n hle, Routing.ofNat32_sub (by omega)]
  exact congrArg (BitVec.ofNat 32) (by omega)

theorem firstRowV_at (b : Fin 117) : firstRowV (ValueIdx.ix1 b) = BitVec.ofNat 32 (768 * b.val) := by
  show BitVec.ofNat 32 b.val * 768#32 = _
  rw [show 768#32 = BitVec.ofNat 32 768 from rfl, BitVec.ofNat_mul_ofNat, Nat.mul_comm]

include hle in
/-- A block's expert. -/
theorem blockV_at (b : Fin 117) : blockV n (ValueIdx.ix1 b) = BitVec.ofNat 32 (Cert.Ffn.Route.owner (Cert.Ffn.rowNum n) b.val) := by
  have hb := b.isLt
  refine (Cert.Ffn.Route.searchV_at bcast_S_S117 h_S_ bcast_S32_S1x32_1 bcast_S1x32_S117x32_0_1 bcast_S117_S117x1_0 bcast_S117x1_S117x32_0_1 natLt_1_32 reducesTo_S117x32_S117_d1 (padEndV n) firstRowV
    (fun q => 768 * Cert.Ffn.Route.upto (Cert.Ffn.rowNum n) (q + 1)) (768 * b.val) b (padEndV_at n hle)
    (fun q => by have := Cert.Ffn.Route.upto_le _ hle (q.val + 1); have := q.isLt; show 768 * Cert.Ffn.Route.upto (Cert.Ffn.rowNum n) (q.val + 1) < _; omega) (firstRowV_at b) (by omega)).trans ?_
  unfold Cert.Ffn.Route.owner
  simp only [Nat.mul_le_mul_left_iff (show 0 < 768 by decide)]

include hle in
theorem remV_at (b : Fin 117) : remV n (ValueIdx.ix1 b) = BitVec.ofNat 32 (Cert.Ffn.rowNum n (Cert.Ffn.Route.owner (Cert.Ffn.rowNum n) b.val) + 768 * Cert.Ffn.Route.upto (Cert.Ffn.rowNum n) (Cert.Ffn.Route.owner (Cert.Ffn.rowNum n) b.val)) - BitVec.ofNat 32 (768 * b.val) := by
  have hk := Cert.Ffn.Route.owner_lt (Cert.Ffn.rowNum n) b.val
  have hi : broadcastInDim S117x1 ![0] bcast_S117_S117x1_0 (blockV n) (ValueIdx.ix2 b (0 : Fin 1)) = BitVec.ofNat 32 (Cert.Ffn.Route.owner (Cert.Ffn.rowNum n) b.val) :=
    (Routing.bcCol bcast_S117_S117x1_0 (blockV n) b).trans (blockV_at n hle b)
  show Host.gather gather_S32_S117x1_S117_n_0_n_n_0_1_1 n _ (ValueIdx.ix1 b) + Host.gather gather_S32_S117x1_S117_n_0_n_n_0_1_1 (padStartV n) _ (ValueIdx.ix1 b) - firstRowV (ValueIdx.ix1 b) = _
  rw [Cert.Ffn.Route.take_at gather_S32_S117x1_S117_n_0_n_n_0_1_1 rfl rfl rfl rfl n (Cert.Ffn.rowNum n) (Cert.Ffn.rowNum_at n) _ b _ hk hi,
    Cert.Ffn.Route.take_at gather_S32_S117x1_S117_n_0_n_n_0_1_1 rfl rfl rfl rfl (padStartV n) (fun q => 768 * Cert.Ffn.Route.upto (Cert.Ffn.rowNum n) q) (padStartV_at n hle) _ b _ hk hi,
    firstRowV_at, BitVec.ofNat_add_ofNat]

/-- A small number against a difference of two, as a test of numbers. -/
theorem diff_test (x a k : ℕ) (hx : x < 2 ^ 30) (ha : a < 2 ^ 30) (hk : k < 2 ^ 30) :
    IntOp.cmpi .slt (BitVec.ofNat 32 x) (BitVec.ofNat 32 a - BitVec.ofNat 32 k) = BitVec.ofBool (decide (x + k < a)) := by
  refine congrArg BitVec.ofBool ?_
  show (BitVec.ofNat 32 x).slt (BitVec.ofNat 32 a - BitVec.ofNat 32 k) = _
  rw [BitVec.slt_eq_decide, BitVec.toInt_sub, word_toInt _ hx, word_toInt _ ha, word_toInt _ hk, Int.bmod_def]
  refine decide_eq_decide.mpr ?_
  omega

omit n in
theorem used_test (d : IVec S1x768 32) (v : IVec S117 32) (b : Fin 117) (r : Fin 768) :
    cmpi .slt (broadcastInDim S117x768 ![0, 1] bcast_S1x768_S117x768_0_1 (muli d (broadcastInDim S1x768 ![] bcast_S_S1x768 (constantI S_ 32 256#32)))) (broadcastInDim S117x768 ![0, 1] bcast_S117x1_S117x768_0_1 (broadcastInDim S117x1 ![0] bcast_S117_S117x1_0 v)) (ix2 b r)
      = IntOp.cmpi .slt (d (ix2 (0 : Fin 1) r) * 256#32) (v (ix1 b)) := by
  pointwise
  rfl

include hle in
/-- A row is in a used row block exactly where its place in its block is below the live sub-blocks' end. -/
theorem usedV_at (b : Fin 117) (r : Fin 768) : usedV n (ix2 b r) = BitVec.ofBool (decide (r.val < 256 * Cert.Ffn.Route.active (Cert.Ffn.rowNum n) b.val)) := by
  have hb := b.isLt
  have hr := r.isLt
  have hk := Cert.Ffn.Route.owner_lt (Cert.Ffn.rowNum n) b.val
  have hu := Cert.Ffn.Route.upto_le _ hle (Cert.Ffn.Route.owner (Cert.Ffn.rowNum n) b.val)
  have hn := hle (Cert.Ffn.Route.owner (Cert.Ffn.rowNum n) b.val)
  have hd : Routing.pyDiv bcast_S_S1x768 (broadcastInDim S1x768 ![1] bcast_S768_S1x768_1 (iotaInDim S768 32 0)) (id (constantI S_ 32 256#32)) (ix2 (0 : Fin 1) r) = BitVec.ofNat 32 (r.val / 256) := by
    refine Routing.pyDiv_ap bcast_S_S1x768 _ _ _ (a := r.val) (b := 256) ?_ rfl (by omega) (by omega) (by omega)
    pointwise
  refine (used_test _ _ b r).trans ?_
  rw [hd, ix1_eq_valueIdx, remV_at n hle b]
  show IntOp.cmpi .slt (BitVec.ofNat 32 (r.val / 256) * BitVec.ofNat 32 256) _ = _
  rw [BitVec.ofNat_mul_ofNat, diff_test _ _ _ (by omega) (by omega) (by omega)]
  exact congrArg BitVec.ofBool (decide_eq_decide.mpr (Cert.Ffn.Route.used_iff (Cert.Ffn.rowNum n) b.val r.val hr))

end Words

/-- The row a super block's row is. -/
def rowOf (i : Fin 117) (r : Fin 768) : Fin 89856 := ⟨i.val * 768 + r.val, by have := i.isLt; have := r.isLt; omega⟩

theorem firstV_apply (e : IVec S117 32) (x : FVec Ideal S89856x2048 .bf16) (w : FVec Ideal S1x32x2048x4096 .f32) (b : FVec Ideal S1x32x4096 .f32) (i : Fin 117) (r : Fin 768) (l : Fin 4096) :
    firstV e x w b (ix3 i r l) = Cert.Ffn.first x w b (Cert.Ffn.expertOf (e (ix1 i))) (rowOf i r) l := by
  unfold firstV
  pointwise
  have hg (k : Fin 2048) (l : Fin 4096) : Host.gather gather_S32x2048x4096_S117x1_S117x2048x4096_12_0_n_n_0_1_120484096 (shapeCast S32x2048x4096 w shapeCasts_S1x32x2048x4096_S32x2048x4096) (broadcastInDim S117x1 ![0] bcast_S117_S117x1_0 e) (ix3 i k l)
      = w (ix4 0 (Cert.Ffn.expertOf (e (ix1 i))) k l) := by
    refine (gather_mats (N := 32) (A := 2048) (B := 4096) (R := 117) (by decide) _ _ _ i k l).trans ?_
    pointwise
    rfl
  have hb (l : Fin 4096) : Host.gather gather_S32x4096_S117x1_S117x4096_1_0_n_n_0_1_14096 (shapeCast S32x4096 b shapeCasts_S1x32x4096_S32x4096) (broadcastInDim S117x1 ![0] bcast_S117_S117x1_0 e) (ix2 i l)
      = b (ix3 0 (Cert.Ffn.expertOf (e (ix1 i))) l) := by
    refine (gather_rows (N := 32) (C := 4096) (R := 117) (by decide) _ _ _ i l).trans ?_
    pointwise
    rfl
  simp only [hg, hb]
  rfl

theorem gatedV_apply (h : FVec Ideal S117x768x4096 .f32) (i : Fin 117) (r : Fin 768) (l : Fin 2048) :
    gatedV h (ix3 i r l) = Cert.Ffn.gated (h (ix3 i r ⟨l.val, by have := l.isLt; omega⟩)) (h (ix3 i r ⟨2048 + l.val, by have := l.isLt; omega⟩)) := by
  unfold gatedV
  pointwise
  rfl

theorem secondV_apply (e : IVec S117 32) (a : FVec Ideal S117x768x2048 .f32) (w : FVec Ideal S1x32x2048x2048 .f32) (b : FVec Ideal S1x32x2048 .f32) (i : Fin 117) (r : Fin 768) (l : Fin 2048) :
    secondV e a w b (ix3 i r l) = ∑ k : Fin 2048, a (ix3 i r k) * w (ix4 0 (Cert.Ffn.expertOf (e (ix1 i))) k l) + b (ix3 0 (Cert.Ffn.expertOf (e (ix1 i))) l) := by
  unfold secondV
  pointwise
  have hg (k : Fin 2048) (l : Fin 2048) : Host.gather gather_S32x2048x2048_S117x1_S117x2048x2048_12_0_n_n_0_1_120482048 (shapeCast S32x2048x2048 w shapeCasts_S1x32x2048x2048_S32x2048x2048) (broadcastInDim S117x1 ![0] bcast_S117_S117x1_0 e) (ix3 i k l)
      = w (ix4 0 (Cert.Ffn.expertOf (e (ix1 i))) k l) := by
    refine (gather_mats (N := 32) (A := 2048) (B := 2048) (R := 117) (by decide) _ _ _ i k l).trans ?_
    pointwise
    rfl
  have hb (l : Fin 2048) : Host.gather gather_S32x2048_S117x1_S117x2048_1_0_n_n_0_1_12048 (shapeCast S32x2048 b shapeCasts_S1x32x2048_S32x2048) (broadcastInDim S117x1 ![0] bcast_S117_S117x1_0 e) (ix2 i l)
      = b (ix3 0 (Cert.Ffn.expertOf (e (ix1 i))) l) := by
    refine (gather_rows (N := 32) (C := 2048) (R := 117) (by decide) _ _ _ i l).trans ?_
    pointwise
    rfl
  simp only [hg, hb]

/-- A choice by a test's word is a choice by the test. -/
theorem pick_test (p : Prop) [Decidable p] (a b : EReal) : (Scalar.select (BitVec.ofBool (decide p)) a b : EReal) = if p then a else b := by
  by_cases h : p
  · rw [if_pos h, decide_eq_true h]; rfl
  · rw [if_neg h, decide_eq_false h]; rfl

theorem maskedV_apply (u : IVec S117x768 1) (o : FVec Ideal S117x768x2048 .f32) (p : Fin 89856) (l : Fin 2048) (q : Prop) [Decidable q]
    (hu : u (ix2 ⟨p.val / 768, by have := p.isLt; omega⟩ ⟨p.val % 768, Nat.mod_lt _ (by decide)⟩) = BitVec.ofBool (decide q)) :
    maskedV u o (ix2 p l) = if q then o (ix3 ⟨p.val / 768, by have := p.isLt; omega⟩ ⟨p.val % 768, Nat.mod_lt _ (by decide)⟩ l) else 0 := by
  unfold maskedV
  pointwise
  rw [hu]
  have hz : (id (constant (F := Ideal) S_ .f32 0x00000000#32)) ix0 = (0 : EReal) := Ideal.ofBits_zero_f32
  rw [hz]
  exact pick_test _ _ _

/-- The result at a row and a column. -/
theorem value_apply (hle : ∀ e, Cert.Ffn.rowNum (m ((c : Thread nD τ).loc main_arg0)) e ≤ 65536) :
    Value.res_main_v72 m c = (fun i => Cert.Ffn.routed (m ((c : Thread nD τ).loc main_arg1)) (m ((c : Thread nD τ).loc main_arg2)) (m ((c : Thread nD τ).loc main_arg3)) (m ((c : Thread nD τ).loc main_arg4)) (m ((c : Thread nD τ).loc main_arg5))
        (Cert.Ffn.rowNum (m ((c : Thread nD τ).loc main_arg0))) (i 0) (i 1) : FVec Ideal S89856x2048 .bf16) := by
  rw [res_eq]
  funext i
  obtain ⟨p, l, rfl⟩ : ∃ (p : Fin 89856) (l : Fin 2048), i = ix2 p l := ⟨i 0, i 1, eq_ix2 i⟩
  have hp := p.isLt
  refine (maskedV_apply _ _ p l _ (usedV_at _ hle _ _)).trans ?_
  show _ = Cert.Ffn.routed _ _ _ _ _ _ p l
  unfold Cert.Ffn.routed
  refine if_congr Iff.rfl ?_ rfl
  have he : Cert.Ffn.expertOf (blockV (m ((c : Thread nD τ).loc main_arg0)) (ix1 (⟨p.val / 768, by omega⟩ : Fin 117))) = ⟨Cert.Ffn.Route.owner (Cert.Ffn.rowNum (m ((c : Thread nD τ).loc main_arg0))) (p.val / 768), Cert.Ffn.Route.owner_lt _ _⟩ := by
    have ho := Cert.Ffn.Route.owner_lt (Cert.Ffn.rowNum (m ((c : Thread nD τ).loc main_arg0))) (p.val / 768)
    refine Fin.ext ?_
    show min (blockV (m ((c : Thread nD τ).loc main_arg0)) (ix1 (⟨p.val / 768, by omega⟩ : Fin 117)) : BitVec 32).toInt.toNat 31 = _
    rw [ix1_eq_valueIdx, blockV_at _ hle, word_toInt _ (by show Cert.Ffn.Route.owner _ (p.val / 768) < _; omega), Int.toNat_natCast]
    show min (Cert.Ffn.Route.owner _ (p.val / 768)) 31 = Cert.Ffn.Route.owner _ (p.val / 768)
    omega
  refine (secondV_apply _ _ _ _ _ _ l).trans ?_
  have hq : rowOf ⟨p.val / 768, by omega⟩ ⟨p.val % 768, Nat.mod_lt _ (by decide)⟩ = p := Fin.ext (by show p.val / 768 * 768 + p.val % 768 = p.val; omega)
  rw [he]
  unfold Cert.Ffn.second Cert.Ffn.hidden
  refine congrArg₂ (· + ·) (Finset.sum_congr rfl fun k _ => congrArg (· * _) ?_) rfl
  rw [gatedV_apply, firstV_apply, firstV_apply, hq, he]

/-- The run: the result, and the arguments as they were. -/
theorem run_value (ρ : Dev nD → PrngReg) (hle : ∀ (c : Dev nD) (e : ℕ), Cert.Ffn.rowNum (m ((c : Thread nD τ).loc main_arg0)) e ≤ 65536) :
    θ_run defs (onTc (τ := τ) (main (F := Ideal))) ⟨m, fun _ => 0, ρ⟩ fun r => ∀ c : Dev nD,
      r.2.mem ((c.tc : Thread nD τ).loc main_v72) = (fun i => Cert.Ffn.routed (m ((c : Thread nD τ).loc main_arg1)) (m ((c : Thread nD τ).loc main_arg2)) (m ((c : Thread nD τ).loc main_arg3)) (m ((c : Thread nD τ).loc main_arg4)) (m ((c : Thread nD τ).loc main_arg5))
        (Cert.Ffn.rowNum (m ((c : Thread nD τ).loc main_arg0))) (i 0) (i 1) : FVec Ideal S89856x2048 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (value_apply m c (hle c)), (h c).2⟩) (Value.run m ρ)

/-- The reference's frame: it declares no counter. -/
theorem frame (ρ : Dev nD → PrngReg) : θ_run defs (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 :=
  (θ_run defs _ _).mono (fun r h => ⟨fun c => (h c).2, sem_eq_zero_of_no_sems (by decide) r.2⟩) (Value.run m ρ)

end Cert.Reference2Ideal.Ffn

end
-- ==== Proof.lean ====
/- The claims. Of the input projection and of the experts' call: the three frames, that the idealization rewrites nothing, and that
   the call and its reference end with equal results over the extended reals. Of the two scans: the frames, and that the
   idealization rewrites nothing. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_weights
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Reference2Ideal
public import proofs.«01_k».proof.Proof.Gen.Reference2Ideal.Run
public import proofs.«01_k».proof.Proof.Gen.Pre_routed
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.InProj.Words
public import proofs.«01_k».proof.Proof.InProj.Value
public import proofs.«01_k».proof.Proof.InProj.Reference
public import proofs.«01_k».proof.Proof.Ffn.Words
public import proofs.«01_k».proof.Proof.Ffn.Value
public import proofs.«01_k».proof.Proof.Ffn.Reference
public import Idealize.ShloMosaic.Lib.Pointwise

@[expose] public section

set_option maxRecDepth 16384

noncomputable section

namespace Cert.Proof

open Idealize.ShloMosaic Idealize.ShloMosaic.TcCoe Idealize.SL.Sem

/-- The word of a test is one only where the test holds. -/
theorem of_test {p : Prop} [Decidable p] (h : BitVec.ofBool (decide p) = 1#1) : p := by
  by_contra hp
  simp [hp] at h

variable (m : (ℓ : Loc Cert.KernelIdeal.nD Cert.KernelIdeal.τ Cert.KernelIdeal.sig) → Buf (Elt Ideal) ℓ)

/-- The norm's scales are real. -/
theorem scales_real (h : Cert.Pre_KernelIdeal_finite_weights m) (c : Dev Cert.KernelIdeal.nD) (k : Fin 2048) :
    KernelIdeal.InProj.nws m c (ix2 0 k) - KernelIdeal.InProj.nws m c (ix2 0 k) = 0 := by
  have e := congrFun (h c).1 (ix1 k)
  unfold Cert.Pre_finite_weights.fn at e
  pointwise at e
  exact of_test e

/-- The narrow result's weights are real. -/
theorem weights_real (h : Cert.Pre_KernelIdeal_finite_weights m) (c : Dev Cert.KernelIdeal.nD) (l : Fin 128) (k : Fin 2048) :
    InProj.narrowW (KernelIdeal.InProj.ws m c) l k - InProj.narrowW (KernelIdeal.InProj.ws m c) l k = 0 := by
  refine InProj.narrowW_sub_self _ (fun k l => ?_) (fun k l => ?_) l k
  · have e := congrFun (h c).2.1 (ix2 k l)
    unfold Cert.Pre_finite_weights.fn at e
    pointwise at e
    exact of_test e
  · have e := congrFun (h c).2.2 (ix2 k l)
    unfold Cert.Pre_finite_weights.fn at e
    pointwise at e
    exact of_test e

/-- The call and its reference end with equal results. -/
theorem algebraic : Cert.algebraic_KernelIdeal_ReferenceIdeal_pre_finite_weights (hKernelIdeal := Cert.KernelIdeal.Gen.facts)
    (hReferenceIdeal := Cert.ReferenceIdeal.Gen.facts) (hPre_finite_weights := Cert.Pre_finite_weights.Gen.facts) := by
  intro m g m' g' hpre hagree
  refine ⟨fun c => KernelIdeal.InProj.wide m c, fun c => KernelIdeal.InProj.small m c,
    KernelIdeal.InProj.run_value m g (scales_real m hpre) (weights_real m hpre),
    (θ_run _ _ _).mono (fun r h c => ?_) (ReferenceIdeal.InProj.run_value m' g')⟩
  obtain ⟨hu, hs, ha⟩ := h c
  have h0 : ReferenceIdeal.InProj.xs m' c = KernelIdeal.InProj.xs m c := (hagree c).1
  have h1 : ReferenceIdeal.InProj.nws m' c = KernelIdeal.InProj.nws m c := (hagree c).2.1
  have h2 : ReferenceIdeal.InProj.ws m' c = KernelIdeal.InProj.ws m c := (hagree c).2.2
  rw [h0, h1, h2] at hu hs
  exact ⟨hu, hs, ha⟩

set_option maxHeartbeats 4000000 in
/-- The experts' call and its reference end with equal results. -/
theorem algebraic2 : Cert.algebraic_Kernel2Ideal_Reference2Ideal (hKernel2Ideal := Cert.Kernel2Ideal.Gen.facts)
    (hReference2Ideal := Cert.Reference2Ideal.Gen.facts) (hPre_routed := Cert.Pre_routed.Gen.facts) := by
  intro m g m' g' hpre hagree
  have hT := tables_ideal m hpre
  refine ⟨fun c => Kernel2Ideal.Ffn.resultV m c, Kernel2Ideal.Ffn.run_value m hT g,
    (θ_run _ _ _).mono (fun r h c => ?_) (Reference2Ideal.Ffn.run_value m' g' fun c e => ?_)⟩
  · obtain ⟨hr, ha⟩ := h c
    obtain ⟨h0, h1, h2, h3, h4, h5⟩ := hagree c
    obtain rfl : c = 0 := Subsingleton.elim c 0
    refine ⟨hr.trans ?_, ha⟩
    rw [h0, h1, h2, h3, h4, h5]
    exact (Kernel2Ideal.Ffn.resultV_eq 0 hT).symm
  · obtain rfl : c = 0 := Subsingleton.elim c 0
    rw [(hagree 0).1]
    exact hT.le e

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Kernel4.Gen.facts, Cert.Kernel4Ideal.Gen.facts,
    Cert.Pre_finite_weights.Gen.facts, Cert.Pre_routed.Gen.facts, frame_words,
    fun m g _ => Cert.KernelIdeal.InProj.frame (F := Ideal) m g (Cert.KernelIdeal.InProj.ok m),
    fun m g _ => Cert.KernelIdeal.InProj.frame (F := Ideal) m g (Cert.KernelIdeal.InProj.ok m),
    fun m g _ => Cert.ReferenceIdeal.InProj.frame m g, fun m g _ => Cert.ReferenceIdeal.InProj.frame m g,
    frame2_words, frame2_ideal, fun m g _ => Cert.Reference2Ideal.Ffn.frame m g, fun m g _ => Cert.Reference2Ideal.Ffn.frame m g,
    fun m g _ => Cert.Kernel3.Gen.frame m g, fun m g _ => Cert.Kernel3Ideal.Gen.frame m g,
    fun m g _ => Cert.Kernel4.Gen.frame m g, fun m g _ => Cert.Kernel4Ideal.Gen.frame m g,
    trivial, algebraic, trivial, algebraic2, trivial, trivial⟩

end Cert.Proof

end
